-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v37) = v0 c
          ∧ r.2.mem ((c.tc : Thread Cert.Reference11Ideal.nD Cert.Reference11Ideal.τ).loc Cert.Reference11Ideal.main_v38) = v1 c
          ∧ r.2.mem ((c.tc : Thread Cert.Reference11Ideal.nD Cert.Reference11Ideal.τ).loc Cert.Reference11Ideal.main_v39) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg1) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg1) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg1) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg1) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg1) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg1) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg1) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg1) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S32x1024x128 : Shape := ⟨3, ![32, 1024, 128]⟩
abbrev S2048x1024 : Shape := ⟨2, ![2048, 1024]⟩
abbrev S8x2048x64 : Shape := ⟨3, ![8, 2048, 64]⟩
abbrev S256x1024 : Shape := ⟨2, ![256, 1024]⟩
abbrev S1x1024x128 : Shape := ⟨3, ![1, 1024, 128]⟩
abbrev S64x1024 : Shape := ⟨2, ![64, 1024]⟩
abbrev S8x64x64 : Shape := ⟨3, ![8, 64, 64]⟩
abbrev S8x1024 : Shape := ⟨2, ![8, 1024]⟩
abbrev S1024x128 : Shape := ⟨2, ![1024, 128]⟩
abbrev S1x128x128 : Shape := ⟨3, ![1, 128, 128]⟩
abbrev S128x128 : Shape := ⟨2, ![128, 128]⟩
abbrev S64x128 : Shape := ⟨2, ![64, 128]⟩
abbrev S1x64x64 : Shape := ⟨3, ![1, 64, 64]⟩
abbrev S64x64 : Shape := ⟨2, ![64, 64]⟩
abbrev S8x128 : Shape := ⟨2, ![8, 128]⟩
abbrev S1x128 : Shape := ⟨2, ![1, 128]⟩
abbrev S128 : Shape := ⟨1, ![128]⟩
abbrev S7x128 : Shape := ⟨2, ![7, 128]⟩

abbrev nBuf : Space → Nat
  | .hbm => 14
  | .vmem => 29
  | .smem => 0
  | _ => 0

abbrev bufTy : (tb : Table) → Fin (tcTables nBuf tb) → BufTy
  | .hbm, ⟨0, _⟩ => ⟨S32x1024x128, .f32⟩
  | .hbm, ⟨1, _⟩ => ⟨S2048x1024, .f32⟩
  | .hbm, ⟨2, _⟩ => ⟨S2048x1024, .f32⟩
  | .hbm, ⟨3, _⟩ => ⟨S8x2048x64, .f32⟩
  | .hbm, ⟨4, _⟩ => ⟨S2048x1024, .f32⟩
  | .hbm, ⟨5, _⟩ => ⟨S2048x1024, .f32⟩
  | .hbm, ⟨6, _⟩ => ⟨S256x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S8x2048x64, .f32⟩
  | .hbm, ⟨11, _⟩ => ⟨S2048x1024, .f32⟩
  | .hbm, ⟨12, _⟩ => ⟨S2048x1024, .f32⟩
  | .hbm, ⟨13, _⟩ => ⟨S256x1024, .f32⟩
  | .local _ .vmem, ⟨0, _⟩ => ⟨S1x1024x128, .f32⟩
  | .local _ .vmem, ⟨1, _⟩ => ⟨S1x1024x128, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S8x64x64, .f32⟩
  | .local _ .vmem, ⟨7, _⟩ => ⟨S8x64x64, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S8x1024, .f32⟩
  | .local _ .vmem, ⟨13, _⟩ => ⟨S8x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S8x64x64, .f32⟩
  | .local _ .vmem, ⟨21, _⟩ => ⟨S8x64x64, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S8x1024, .f32⟩
  | .local _ .vmem, ⟨27, _⟩ => ⟨S8x1024, .f32⟩
  | .local _ .vmem, ⟨28, _⟩ => ⟨S1024x128, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S32x1024x128 : Shape := ⟨3, ![32, 1024, 128]⟩
abbrev S2048x1024 : Shape := ⟨2, ![2048, 1024]⟩
abbrev S8x2048x64 : Shape := ⟨3, ![8, 2048, 64]⟩
abbrev S256x1024 : Shape := ⟨2, ![256, 1024]⟩
abbrev S32x64x8x128 : Shape := ⟨4, ![32, 64, 8, 128]⟩
abbrev S32x8x64x128 : Shape := ⟨4, ![32, 8, 64, 128]⟩
abbrev S8x32x64x64 : Shape := ⟨4, ![8, 32, 64, 64]⟩
abbrev S32x8x64x64 : Shape := ⟨4, ![32, 8, 64, 64]⟩
abbrev S32x8x8x128 : Shape := ⟨4, ![32, 8, 8, 128]⟩
abbrev S32x1x8x128 : Shape := ⟨4, ![32, 1, 8, 128]⟩
abbrev S32x8x128 : Shape := ⟨3, ![32, 8, 128]⟩
abbrev S_ : Shape := ⟨0, ![]⟩
abbrev S8x128x128 : Shape := ⟨3, ![8, 128, 128]⟩
abbrev S32x8x128x128 : Shape := ⟨4, ![32, 8, 128, 128]⟩
abbrev S1x8x128x128 : Shape := ⟨4, ![1, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x128 : Shape := ⟨3, ![1, 8, 128]⟩
abbrev S8x128 : Shape := ⟨2, ![8, 128]⟩
abbrev S8x1x128 : Shape := ⟨3, ![8, 1, 128]⟩
abbrev S8x128x64 : Shape := ⟨3, ![8, 128, 64]⟩

abbrev nBuf : Space → Nat
  | .hbm => 180
  | .vmem => 0
  | .smem => 0
  | _ => 0

abbrev hbmTy0_0 (i : Nat) : BufTy := match i % 128 with
  | 0 => ⟨S32x1024x128, .f32⟩
  | 1 => ⟨S2048x1024, .f32⟩
  | 2 => ⟨S2048x1024, .f32⟩
  | 3 => ⟨S8x2048x64, .f32⟩
  | 4 => ⟨S2048x1024, .f32⟩
  | 5 => ⟨S2048x1024, .f32⟩
  | 6 => ⟨S256x1024, .f32⟩
  | 7 => ⟨S2048x1024, .f32⟩
  | 8 => ⟨S32x64x8x128, .f32⟩
  | 9 => ⟨S32x8x64x128, .f32⟩
  | 10 => ⟨S32x64x8x128, .f32⟩
  | 11 => ⟨S32x8x64x128, .f32⟩
  | 12 => ⟨S8x32x64x64, .f32⟩
  | 13 => ⟨S32x8x64x64, .f32⟩
  | 14 => ⟨S32x64x8x128, .f32⟩
  | 15 => ⟨S32x8x64x128, .f32⟩
  | 16 => ⟨S32x64x8x128, .f32⟩
  | 17 => ⟨S32x8x64x128, .f32⟩
  | 18 => ⟨S32x8x8x128, .f32⟩
  | 19 => ⟨S32x1x8x128, .f32⟩
  | 20 => ⟨S32x8x128, .f32⟩
  | 21 => ⟨S32x64x8x128, .f32⟩
  | 22 => ⟨S32x8x64x128, .f32⟩
  | 23 => ⟨S_, .f32⟩
  | 24 => ⟨S8x128x128, .f32⟩
  | 25 => ⟨S32x8x128x128, .f32⟩
  | 26 => ⟨S_, .f32⟩
  | 27 => ⟨S32x8x64x128, .f32⟩
  | 28 => ⟨S_, .f32⟩
  | 29 => ⟨S32x8x64x128, .f32⟩
  | 30 => ⟨S_, .f32⟩
  | 31 => ⟨S32x8x64x64, .f32⟩
  | 32 => ⟨S_, .f32⟩
  | 33 => ⟨S32x8x64x128, .f32⟩
  | 34 => ⟨S_, .f32⟩
  | 35 => ⟨S32x8x64x128, .f32⟩
  | 36 => ⟨S_, .f32⟩
  | 37 => ⟨S32x8x128, .f32⟩
  | 38 => ⟨S_, .i32⟩
  | 39 => ⟨S32x8x128x128, .f32⟩
  | 40 => ⟨S32x8x64x128, .f32⟩
  | 41 => ⟨S32x8x64x128, .f32⟩
  | 42 => ⟨S32x8x64x128, .f32⟩
  | 43 => ⟨S32x8x64x64, .f32⟩
  | 44 => ⟨S32x8x64x128, .f32⟩
  | 45 => ⟨S32x8x64x128, .f32⟩
  | 46 => ⟨S32x8x128, .f32⟩
  | 47 => ⟨S_, .i32⟩
  | 48 => ⟨S8x128x128, .f32⟩
  | 49 => ⟨S32x8x64x128, .f32⟩
  | 50 => ⟨S32x8x64x128, .f32⟩
  | 51 => ⟨S32x8x64x64, .f32⟩
  | 52 => ⟨S32x8x64x128, .f32⟩
  | 53 => ⟨S32x8x64x128, .f32⟩
  | 54 => ⟨S32x8x128, .f32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S1x8x128x128, .f32⟩
  | 65 => ⟨S8x128x128, .f32⟩
  | 66 => ⟨S_, .i32⟩
  | 67 => ⟨S_, .i32⟩
  | 68 => ⟨S_, .i32⟩
  | 69 => ⟨S1x8x64x128, .f32⟩
  | 70 => ⟨S8x64x128, .f32⟩
  | 71 => ⟨S_, .i32⟩
  | 72 => ⟨S_, .i32⟩
  | 73 => ⟨S_, .i32⟩
  | 74 => ⟨S1x8x64x128, .f32⟩
  | 75 => ⟨S8x64x128, .f32⟩
  | 76 => ⟨S_, .i32⟩
  | 77 => ⟨S_, .i32⟩
  | 78 => ⟨S_, .i32⟩
  | 79 => ⟨S1x8x64x128, .f32⟩
  | 80 => ⟨S8x64x128, .f32⟩
  | 81 => ⟨S_, .i32⟩
  | 82 => ⟨S_, .i32⟩
  | 83 => ⟨S_, .i32⟩
  | 84 => ⟨S1x8x64x64, .f32⟩
  | 85 => ⟨S8x64x64, .f32⟩
  | 86 => ⟨S_, .i32⟩
  | 87 => ⟨S_, .i32⟩
  | 88 => ⟨S_, .i32⟩
  | 89 => ⟨S1x8x64x128, .f32⟩
  | 90 => ⟨S8x64x128, .f32⟩
  | 91 => ⟨S_, .i32⟩
  | 92 => ⟨S_, .i32⟩
  | 93 => ⟨S_, .i32⟩
  | 94 => ⟨S1x8x64x128, .f32⟩
  | 95 => ⟨S8x64x128, .f32⟩
  | 96 => ⟨S_, .i32⟩
  | 97 => ⟨S_, .i32⟩
  | 98 => ⟨S1x8x128, .f32⟩
  | 99 => ⟨S8x128, .f32⟩
  | 100 => ⟨S8x64x128, .f32⟩
  | 101 => ⟨S8x64x128, .f32⟩
  | 102 => ⟨S8x64x128, .f32⟩
  | 103 => ⟨S8x64x128, .f32⟩
  | 104 => ⟨S8x64x128, .f32⟩
  | 105 => ⟨S8x1x128, .f32⟩
  | 106 => ⟨S8x128x128, .f32⟩
  | 107 => ⟨S8x128x128, .f32⟩
  | 108 => ⟨S8x128x128, .f32⟩
  | 109 => ⟨S8x128x128, .f32⟩
  | 110 => ⟨S8x128x64, .f32⟩
  | 111 => ⟨S8x64x128, .f32⟩
  | 112 => ⟨S8x128x64, .f32⟩
  | 113 => ⟨S8x64x128, .f32⟩
  | 114 => ⟨S8x128x128, .f32⟩
  | 115 => ⟨S_, .f32⟩
  | 116 => ⟨S8x128, .f32⟩
  | 117 => ⟨S8x1x128, .f32⟩
  | 118 => ⟨S8x128x128, .f32⟩
  | 119 => ⟨S8x128x128, .f32⟩
  | 120 => ⟨S_, .f32⟩
  | 121 => ⟨S8x128, .f32⟩
  | 122 => ⟨S8x128x64, .f32⟩
  | 123 => ⟨S8x64x128, .f32⟩
  | 124 => ⟨S8x64x128, .f32⟩
  | 125 => ⟨S8x64x64, .f32⟩
  | 126 => ⟨S8x128x128, .f32⟩
  | 127 => ⟨S8x128x128, .f32⟩
  | _ => ⟨S32x1024x128, .f32⟩

abbrev hbmTy0_1 (i : Nat) : BufTy := match i % 128 with
  | 0 => ⟨S8x128x128, .f32⟩
  | 1 => ⟨S8x64x128, .f32⟩
  | 2 => ⟨S8x64x128, .f32⟩
  | 3 => ⟨S8x128x128, .f32⟩
  | 4 => ⟨S8x128x128, .f32⟩
  | 5 => ⟨S8x128x128, .f32⟩
  | 6 => ⟨S8x64x128, .f32⟩
  | 7 => ⟨S1x8x64x128, .f32⟩
  | 8 => ⟨S_, .i32⟩
  | 9 => ⟨S_, .i32⟩
  | 10 => ⟨S_, .i32⟩
  | 11 => ⟨S32x8x64x128, .f32⟩
  | 12 => ⟨S1x8x64x128, .f32⟩
  | 13 => ⟨S_, .i32⟩
  | 14 => ⟨S_, .i32⟩
  | 15 => ⟨S_, .i32⟩
  | 16 => ⟨S32x8x64x128, .f32⟩
  | 17 => ⟨S1x8x64x64, .f32⟩
  | 18 => ⟨S_, .i32⟩
  | 19 => ⟨S_, .i32⟩
  | 20 => ⟨S_, .i32⟩
  | 21 => ⟨S32x8x64x64, .f32⟩
  | 22 => ⟨S1x8x64x128, .f32⟩
  | 23 => ⟨S_, .i32⟩
  | 24 => ⟨S_, .i32⟩
  | 25 => ⟨S_, .i32⟩
  | 26 => ⟨S32x8x64x128, .f32⟩
  | 27 => ⟨S1x8x64x128, .f32⟩
  | 28 => ⟨S_, .i32⟩
  | 29 => ⟨S_, .i32⟩
  | 30 => ⟨S_, .i32⟩
  | 31 => ⟨S32x8x64x128, .f32⟩
  | 32 => ⟨S1x8x128, .f32⟩
  | 33 => ⟨S_, .i32⟩
  | 34 => ⟨S_, .i32⟩
  | 35 => ⟨S32x8x128, .f32⟩
  | 36 => ⟨S_, .i32⟩
  | 37 => ⟨S_, .i32⟩
  | 38 => ⟨S32x1x8x128, .f32⟩
  | 39 => ⟨S_, .f32⟩
  | 40 => ⟨S32x8x8x128, .f32⟩
  | 41 => ⟨S256x1024, .f32⟩
  | 42 => ⟨S32x64x8x128, .f32⟩
  | 43 => ⟨S2048x1024, .f32⟩
  | 44 => ⟨S32x64x8x128, .f32⟩
  | 45 => ⟨S2048x1024, .f32⟩
  | 46 => ⟨S8x32x64x64, .f32⟩
  | 47 => ⟨S8x2048x64, .f32⟩
  | 48 => ⟨S32x64x8x128, .f32⟩
  | 49 => ⟨S2048x1024, .f32⟩
  | 50 => ⟨S32x64x8x128, .f32⟩
  | 51 => ⟨S2048x1024, .f32⟩
  | _ => ⟨S32x1024x128, .f32⟩

abbrev hbmTy (i : Nat) : BufTy := match i / 128 with
  | 0 => hbmTy0_0 i
  | 1 => hbmTy0_1 i
  | _ => ⟨S32x1024x128, .f32⟩

abbrev bufTy : (tb : Table) → Fin (tcTables nBuf tb) → BufTy
  | .hbm, ⟨i, _⟩ => hbmTy i
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_c : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v23_4 : Ref sig .tc := ⟨.hbm, 43, rfl⟩
abbrev main_v23_5 : Ref sig .tc := ⟨.hbm, 44, rfl⟩
abbrev main_v23_6 : Ref sig .tc := ⟨.hbm, 45, rfl⟩
abbrev main_v23_7 : Ref sig .tc := ⟨.hbm, 46, rfl⟩
abbrev main_v23_8 : Ref sig .tc := ⟨.hbm, 47, rfl⟩
abbrev main_v23_9 : Ref sig .tc := ⟨.hbm, 48, rfl⟩
abbrev main_v23_10 : Ref sig .tc := ⟨.hbm, 49, rfl⟩
abbrev main_v23_11 : Ref sig .tc := ⟨.hbm, 50, rfl⟩
abbrev main_v23_12 : Ref sig .tc := ⟨.hbm, 51, rfl⟩
abbrev main_v23_13 : Ref sig .tc := ⟨.hbm, 52, rfl⟩
abbrev main_v23_14 : Ref sig .tc := ⟨.hbm, 53, rfl⟩
abbrev main_v23_15 : Ref sig .tc := ⟨.hbm, 54, rfl⟩
abbrev main_while0c_c_22 : Ref sig .tc := ⟨.hbm, 55, rfl⟩
abbrev main_while0c_v37 : Ref sig .tc := ⟨.hbm, 56, rfl⟩
abbrev main_while0b_c_22 : Ref sig .tc := ⟨.hbm, 57, rfl⟩
abbrev main_while0b_v37 : Ref sig .tc := ⟨.hbm, 58, rfl⟩
abbrev main_while0b_c_23 : Ref sig .tc := ⟨.hbm, 59, rfl⟩
abbrev main_while0b_v38 : Ref sig .tc := ⟨.hbm, 60, rfl⟩
abbrev main_while0b_call0_c : Ref sig .tc := ⟨.hbm, 61, rfl⟩
abbrev main_while0b_call0_c_0 : Ref sig .tc := ⟨.hbm, 62, rfl⟩
abbrev main_while0b_call0_c_1 : Ref sig .tc := ⟨.hbm, 63, rfl⟩
abbrev main_while0b_call0_v0 : Ref sig .tc := ⟨.hbm, 64, rfl⟩
abbrev main_while0b_v39 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_c_1 : Ref sig .tc := ⟨.hbm, 68, rfl⟩
abbrev main_while0b_call1_v0 : Ref sig .tc := ⟨.hbm, 69, rfl⟩
abbrev main_while0b_v40 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_call2_v0 : Ref sig .tc := ⟨.hbm, 74, rfl⟩
abbrev main_while0b_v41 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_v0 : Ref sig .tc := ⟨.hbm, 79, rfl⟩
abbrev main_while0b_v42 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_v0 : Ref sig .tc := ⟨.hbm, 84, rfl⟩
abbrev main_while0b_v43 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_c_1 : Ref sig .tc := ⟨.hbm, 88, rfl⟩
abbrev main_while0b_call5_v0 : Ref sig .tc := ⟨.hbm, 89, rfl⟩
abbrev main_while0b_v44 : Ref sig .tc := ⟨.hbm, 90, rfl⟩
abbrev main_while0b_call6_c : Ref sig .tc := ⟨.hbm, 91, rfl⟩
abbrev main_while0b_call6_c_0 : Ref sig .tc := ⟨.hbm, 92, rfl⟩
abbrev main_while0b_call6_c_1 : Ref sig .tc := ⟨.hbm, 93, rfl⟩
abbrev main_while0b_call6_v0 : Ref sig .tc := ⟨.hbm, 94, rfl⟩
abbrev main_while0b_v45 : Ref sig .tc := ⟨.hbm, 95, rfl⟩
abbrev main_while0b_call7_c : Ref sig .tc := ⟨.hbm, 96, rfl⟩
abbrev main_while0b_call7_c_0 : Ref sig .tc := ⟨.hbm, 97, rfl⟩
abbrev main_while0b_call7_v0 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_v55 : Ref sig .tc := ⟨.hbm, 108, rfl⟩
abbrev main_while0b_v56 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_v60 : Ref sig .tc := ⟨.hbm, 113, rfl⟩
abbrev main_while0b_v61 : Ref sig .tc := ⟨.hbm, 114, rfl⟩
abbrev main_while0b_cst_24 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_cst_25 : Ref sig .tc := ⟨.hbm, 120, rfl⟩
abbrev main_while0b_v66 : Ref sig .tc := ⟨.hbm, 121, rfl⟩
abbrev main_while0b_v67 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_v75 : Ref sig .tc := ⟨.hbm, 130, rfl⟩
abbrev main_while0b_v76 : Ref sig .tc := ⟨.hbm, 131, rfl⟩
abbrev main_while0b_v77 : Ref sig .tc := ⟨.hbm, 132, rfl⟩
abbrev main_while0b_v78 : Ref sig .tc := ⟨.hbm, 133, rfl⟩
abbrev main_while0b_v79 : Ref sig .tc := ⟨.hbm, 134, rfl⟩
abbrev main_while0b_call8_v0 : Ref sig .tc := ⟨.hbm, 135, rfl⟩
abbrev main_while0b_call8_c : Ref sig .tc := ⟨.hbm, 136, rfl⟩
abbrev main_while0b_call8_c_0 : Ref sig .tc := ⟨.hbm, 137, rfl⟩
abbrev main_while0b_call8_c_1 : Ref sig .tc := ⟨.hbm, 138, rfl⟩
abbrev main_while0b_v80 : Ref sig .tc := ⟨.hbm, 139, rfl⟩
abbrev main_while0b_call9_v0 : Ref sig .tc := ⟨.hbm, 140, rfl⟩
abbrev main_while0b_call9_c : Ref sig .tc := ⟨.hbm, 141, rfl⟩
abbrev main_while0b_call9_c_0 : Ref sig .tc := ⟨.hbm, 142, rfl⟩
abbrev main_while0b_call9_c_1 : Ref sig .tc := ⟨.hbm, 143, rfl⟩
abbrev main_while0b_v81 : Ref sig .tc := ⟨.hbm, 144, rfl⟩
abbrev main_while0b_call10_v0 : Ref sig .tc := ⟨.hbm, 145, rfl⟩
abbrev main_while0b_call10_c : Ref sig .tc := ⟨.hbm, 146, rfl⟩
abbrev main_while0b_call10_c_0 : Ref sig .tc := ⟨.hbm, 147, rfl⟩
abbrev main_while0b_call10_c_1 : Ref sig .tc := ⟨.hbm, 148, rfl⟩
abbrev main_while0b_v82 : Ref sig .tc := ⟨.hbm, 149, rfl⟩
abbrev main_while0b_call11_v0 : Ref sig .tc := ⟨.hbm, 150, rfl⟩
abbrev main_while0b_call11_c : Ref sig .tc := ⟨.hbm, 151, rfl⟩
abbrev main_while0b_call11_c_0 : Ref sig .tc := ⟨.hbm, 152, rfl⟩
abbrev main_while0b_call11_c_1 : Ref sig .tc := ⟨.hbm, 153, rfl⟩
abbrev main_while0b_v83 : Ref sig .tc := ⟨.hbm, 154, rfl⟩
abbrev main_while0b_call12_v0 : Ref sig .tc := ⟨.hbm, 155, rfl⟩
abbrev main_while0b_call12_c : Ref sig .tc := ⟨.hbm, 156, rfl⟩
abbrev main_while0b_call12_c_0 : Ref sig .tc := ⟨.hbm, 157, rfl⟩
abbrev main_while0b_call12_c_1 : Ref sig .tc := ⟨.hbm, 158, rfl⟩
abbrev main_while0b_v84 : Ref sig .tc := ⟨.hbm, 159, rfl⟩
abbrev main_while0b_call13_v0 : Ref sig .tc := ⟨.hbm, 160, rfl⟩
abbrev main_while0b_call13_c : Ref sig .tc := ⟨.hbm, 161, rfl⟩
abbrev main_while0b_call13_c_0 : Ref sig .tc := ⟨.hbm, 162, rfl⟩
abbrev main_while0b_v85 : Ref sig .tc := ⟨.hbm, 163, rfl⟩
abbrev main_while0b_c_26 : Ref sig .tc := ⟨.hbm, 164, rfl⟩
abbrev main_while0b_v86 : Ref sig .tc := ⟨.hbm, 165, rfl⟩
abbrev main_v24 : Ref sig .tc := ⟨.hbm, 166, rfl⟩
abbrev main_cst_6 : Ref sig .tc := ⟨.hbm, 167, rfl⟩
abbrev main_v25 : Ref sig .tc := ⟨.hbm, 168, rfl⟩
abbrev main_v26 : Ref sig .tc := ⟨.hbm, 169, rfl⟩
abbrev main_v27 : Ref sig .tc := ⟨.hbm, 170, rfl⟩
abbrev main_v28 : Ref sig .tc := ⟨.hbm, 171, rfl⟩
abbrev main_v29 : Ref sig .tc := ⟨.hbm, 172, rfl⟩
abbrev main_v30 : Ref sig .tc := ⟨.hbm, 173, rfl⟩
abbrev main_v31 : Ref sig .tc := ⟨.hbm, 174, rfl⟩
abbrev main_v32 : Ref sig .tc := ⟨.hbm, 175, rfl⟩
abbrev main_v33 : Ref sig .tc := ⟨.hbm, 176, rfl⟩
abbrev main_v34 : Ref sig .tc := ⟨.hbm, 177, rfl⟩
abbrev main_v35 : Ref sig .tc := ⟨.hbm, 178, rfl⟩
abbrev main_v36 : Ref sig .tc := ⟨.hbm, 179, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S2048x1024 : Shape := ⟨2, ![2048, 1024]⟩
abbrev S8x2048x64 : Shape := ⟨3, ![8, 2048, 64]⟩
abbrev S256x1024 : Shape := ⟨2, ![256, 1024]⟩
abbrev S32x1024x128 : Shape := ⟨3, ![32, 1024, 128]⟩
abbrev S64x1024 : Shape := ⟨2, ![64, 1024]⟩
abbrev S8x64x64 : Shape := ⟨3, ![8, 64, 64]⟩
abbrev S8x1024 : Shape := ⟨2, ![8, 1024]⟩
abbrev S1x1024x128 : Shape := ⟨3, ![1, 1024, 128]⟩
abbrev S1024x128 : Shape := ⟨2, ![1024, 128]⟩
abbrev S128x128 : Shape := ⟨2, ![128, 128]⟩
abbrev S64x128 : Shape := ⟨2, ![64, 128]⟩
abbrev S1x64x64 : Shape := ⟨3, ![1, 64, 64]⟩
abbrev S64x64 : Shape := ⟨2, ![64, 64]⟩
abbrev S8x128 : Shape := ⟨2, ![8, 128]⟩
abbrev S1x128 : Shape := ⟨2, ![1, 128]⟩

abbrev nBuf : Space → Nat
  | .hbm => 8
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x2048x64, .f32⟩
  | .hbm, ⟨3, _⟩ => ⟨S2048x1024, .f32⟩
  | .hbm, ⟨4, _⟩ => ⟨S2048x1024, .f32⟩
  | .hbm, ⟨5, _⟩ => ⟨S256x1024, .f32⟩
  | .hbm, ⟨6, _⟩ => ⟨S2048x1024, .f32⟩
  | .hbm, ⟨7, _⟩ => ⟨S32x1024x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S8x64x64, .f32⟩
  | .local _ .vmem, ⟨5, _⟩ => ⟨S8x64x64, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x1024, .f32⟩
  | .local _ .vmem, ⟨11, _⟩ => ⟨S8x1024, .f32⟩
  | .local _ .vmem, ⟨12, _⟩ => ⟨S64x1024, .f32⟩
  | .local _ .vmem, ⟨13, _⟩ => ⟨S64x1024, .f32⟩
  | .local _ .vmem, ⟨14, _⟩ => ⟨S1x1024x128, .f32⟩
  | .local _ .vmem, ⟨15, _⟩ => ⟨S1x1024x128, .f32⟩
  | .local _ .vmem, ⟨16, _⟩ => ⟨S1024x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2048x1024 : Shape := ⟨2, ![2048, 1024]⟩
abbrev S8x2048x64 : Shape := ⟨3, ![8, 2048, 64]⟩
abbrev S256x1024 : Shape := ⟨2, ![256, 1024]⟩
abbrev S_ : Shape := ⟨0, ![]⟩
abbrev S8x128x128 : Shape := ⟨3, ![8, 128, 128]⟩
abbrev S32x64x8x128 : Shape := ⟨4, ![32, 64, 8, 128]⟩
abbrev S32x8x64x128 : Shape := ⟨4, ![32, 8, 64, 128]⟩
abbrev S8x32x64x64 : Shape := ⟨4, ![8, 32, 64, 64]⟩
abbrev S32x8x64x64 : Shape := ⟨4, ![32, 8, 64, 64]⟩
abbrev S32x8x8x128 : Shape := ⟨4, ![32, 8, 8, 128]⟩
abbrev S32x1x8x128 : Shape := ⟨4, ![32, 1, 8, 128]⟩
abbrev S32x8x128 : Shape := ⟨3, ![32, 8, 128]⟩
abbrev S32x8x128x128 : Shape := ⟨4, ![32, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x128 : Shape := ⟨3, ![1, 8, 128]⟩
abbrev S8x128 : Shape := ⟨2, ![8, 128]⟩
abbrev S8x1x128 : Shape := ⟨3, ![8, 1, 128]⟩
abbrev S1x8x128x128 : Shape := ⟨4, ![1, 8, 128, 128]⟩
abbrev S32x1024x128 : Shape := ⟨3, ![32, 1024, 128]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x2048x64, .f32⟩
  | .hbm, ⟨3, _⟩ => ⟨S2048x1024, .f32⟩
  | .hbm, ⟨4, _⟩ => ⟨S2048x1024, .f32⟩
  | .hbm, ⟨5, _⟩ => ⟨S256x1024, .f32⟩
  | .hbm, ⟨6, _⟩ => ⟨S_, .f32⟩
  | .hbm, ⟨7, _⟩ => ⟨S8x128x128, .f32⟩
  | .hbm, ⟨8, _⟩ => ⟨S32x64x8x128, .f32⟩
  | .hbm, ⟨9, _⟩ => ⟨S32x8x64x128, .f32⟩
  | .hbm, ⟨10, _⟩ => ⟨S32x64x8x128, .f32⟩
  | .hbm, ⟨11, _⟩ => ⟨S32x8x64x128, .f32⟩
  | .hbm, ⟨12, _⟩ => ⟨S8x32x64x64, .f32⟩
  | .hbm, ⟨13, _⟩ => ⟨S32x8x64x64, .f32⟩
  | .hbm, ⟨14, _⟩ => ⟨S32x64x8x128, .f32⟩
  | .hbm, ⟨15, _⟩ => ⟨S32x8x64x128, .f32⟩
  | .hbm, ⟨16, _⟩ => ⟨S32x64x8x128, .f32⟩
  | .hbm, ⟨17, _⟩ => ⟨S32x8x64x128, .f32⟩
  | .hbm, ⟨18, _⟩ => ⟨S32x8x8x128, .f32⟩
  | .hbm, ⟨19, _⟩ => ⟨S32x1x8x128, .f32⟩
  | .hbm, ⟨20, _⟩ => ⟨S32x8x128, .f32⟩
  | .hbm, ⟨21, _⟩ => ⟨S_, .f32⟩
  | .hbm, ⟨22, _⟩ => ⟨S32x8x64x128, .f32⟩
  | .hbm, ⟨23, _⟩ => ⟨S_, .f32⟩
  | .hbm, ⟨24, _⟩ => ⟨S32x8x128x128, .f32⟩
  | .hbm, ⟨25, _⟩ => ⟨S_, .i32⟩
  | .hbm, ⟨26, _⟩ => ⟨S32x8x64x128, .f32⟩
  | .hbm, ⟨27, _⟩ => ⟨S32x8x64x128, .f32⟩
  | .hbm, ⟨28, _⟩ => ⟨S32x8x64x64, .f32⟩
  | .hbm, ⟨29, _⟩ => ⟨S32x8x64x128, .f32⟩
  | .hbm, ⟨30, _⟩ => ⟨S32x8x64x128, .f32⟩
  | .hbm, ⟨31, _⟩ => ⟨S32x8x128, .f32⟩
  | .hbm, ⟨32, _⟩ => ⟨S_, .i32⟩
  | .hbm, ⟨33, _⟩ => ⟨S8x128x128, .f32⟩
  | .hbm, ⟨34, _⟩ => ⟨S32x8x64x128, .f32⟩
  | .hbm, ⟨35, _⟩ => ⟨S32x8x128x128, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x8x64x128, .f32⟩
  | .hbm, ⟨42, _⟩ => ⟨S8x64x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x8x64x128, .f32⟩
  | .hbm, ⟨47, _⟩ => ⟨S8x64x128, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x8x64x64, .f32⟩
  | .hbm, ⟨52, _⟩ => ⟨S8x64x64, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x8x64x128, .f32⟩
  | .hbm, ⟨57, _⟩ => ⟨S8x64x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x8x64x128, .f32⟩
  | .hbm, ⟨62, _⟩ => ⟨S8x64x128, .f32⟩
  | .hbm, ⟨63, _⟩ => ⟨S_, .i32⟩
  | .hbm, ⟨64, _⟩ => ⟨S_, .i32⟩
  | .hbm, ⟨65, _⟩ => ⟨S1x8x128, .f32⟩
  | .hbm, ⟨66, _⟩ => ⟨S8x128, .f32⟩
  | .hbm, ⟨67, _⟩ => ⟨S8x64x128, .f32⟩
  | .hbm, ⟨68, _⟩ => ⟨S8x64x128, .f32⟩
  | .hbm, ⟨69, _⟩ => ⟨S8x64x128, .f32⟩
  | .hbm, ⟨70, _⟩ => ⟨S8x64x128, .f32⟩
  | .hbm, ⟨71, _⟩ => ⟨S8x64x128, .f32⟩
  | .hbm, ⟨72, _⟩ => ⟨S8x1x128, .f32⟩
  | .hbm, ⟨73, _⟩ => ⟨S8x128x128, .f32⟩
  | .hbm, ⟨74, _⟩ => ⟨S8x128x128, .f32⟩
  | .hbm, ⟨75, _⟩ => ⟨S8x128x128, .f32⟩
  | .hbm, ⟨76, _⟩ => ⟨S8x128x128, .f32⟩
  | .hbm, ⟨77, _⟩ => ⟨S1x8x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S32x8x64x128, .f32⟩
  | .hbm, ⟨82, _⟩ => ⟨S1x8x128x128, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S32x8x128x128, .f32⟩
  | .hbm, ⟨87, _⟩ => ⟨S_, .i32⟩
  | .hbm, ⟨88, _⟩ => ⟨S_, .i32⟩
  | .hbm, ⟨89, _⟩ => ⟨S32x64x8x128, .f32⟩
  | .hbm, ⟨90, _⟩ => ⟨S2048x1024, .f32⟩
  | .hbm, ⟨91, _⟩ => ⟨S32x1024x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_c : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev main_v16_8 : Ref sig .tc := ⟨.hbm, 34, rfl⟩
abbrev main_v16_9 : Ref sig .tc := ⟨.hbm, 35, rfl⟩
abbrev main_while0c_c_11 : Ref sig .tc := ⟨.hbm, 36, rfl⟩
abbrev main_while0c_v20 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_v0 : Ref sig .tc := ⟨.hbm, 41, rfl⟩
abbrev main_while0b_v20 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_v0 : Ref sig .tc := ⟨.hbm, 46, rfl⟩
abbrev main_while0b_v21 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_c_1 : Ref sig .tc := ⟨.hbm, 50, rfl⟩
abbrev main_while0b_call2_v0 : Ref sig .tc := ⟨.hbm, 51, rfl⟩
abbrev main_while0b_v22 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_call3_c_1 : Ref sig .tc := ⟨.hbm, 55, rfl⟩
abbrev main_while0b_call3_v0 : Ref sig .tc := ⟨.hbm, 56, rfl⟩
abbrev main_while0b_v23 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_c_1 : Ref sig .tc := ⟨.hbm, 60, rfl⟩
abbrev main_while0b_call4_v0 : Ref sig .tc := ⟨.hbm, 61, rfl⟩
abbrev main_while0b_v24 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_v0 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_call6_v0 : Ref sig .tc := ⟨.hbm, 77, rfl⟩
abbrev main_while0b_call6_c : Ref sig .tc := ⟨.hbm, 78, rfl⟩
abbrev main_while0b_call6_c_0 : Ref sig .tc := ⟨.hbm, 79, rfl⟩
abbrev main_while0b_call6_c_1 : Ref sig .tc := ⟨.hbm, 80, rfl⟩
abbrev main_while0b_v36 : Ref sig .tc := ⟨.hbm, 81, rfl⟩
abbrev main_while0b_call7_v0 : Ref sig .tc := ⟨.hbm, 82, rfl⟩
abbrev main_while0b_call7_c : Ref sig .tc := ⟨.hbm, 83, rfl⟩
abbrev main_while0b_call7_c_0 : Ref sig .tc := ⟨.hbm, 84, rfl⟩
abbrev main_while0b_call7_c_1 : Ref sig .tc := ⟨.hbm, 85, rfl⟩
abbrev main_while0b_v37 : Ref sig .tc := ⟨.hbm, 86, rfl⟩
abbrev main_while0b_c_11 : Ref sig .tc := ⟨.hbm, 87, rfl⟩
abbrev main_while0b_v38 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S2048x2048 : Shape := ⟨2, ![2048, 2048]⟩
abbrev S2048x5632 : Shape := ⟨2, ![2048, 5632]⟩
abbrev S4x2048x1408 : Shape := ⟨3, ![4, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S4x2048x1408, .f32⟩
  | .hbm, ⟨4, _⟩ => ⟨S4x2048x1408, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2048x2048 : Shape := ⟨2, ![2048, 2048]⟩
abbrev S2048x5632 : Shape := ⟨2, ![2048, 5632]⟩
abbrev S_ : Shape := ⟨0, ![]⟩
abbrev S4x2048x1408 : Shape := ⟨3, ![4, 2048, 1408]⟩
abbrev S2048x4x1408 : Shape := ⟨3, ![2048, 4, 1408]⟩
abbrev S5632x2048 : Shape := ⟨2, ![5632, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S_, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S2048x4x1408, .f32⟩
  | .hbm, ⟨8, _⟩ => ⟨S2048x5632, .f32⟩
  | .hbm, ⟨9, _⟩ => ⟨S2048x2048, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S5632x2048, .f32⟩
  | .hbm, ⟨15, _⟩ => ⟨S2048x5632, .f32⟩
  | .hbm, ⟨16, _⟩ => ⟨S5632x2048, .f32⟩
  | .hbm, ⟨17, _⟩ => ⟨S2048x5632, .f32⟩
  | .hbm, ⟨18, _⟩ => ⟨S2048x4x1408, .f32⟩
  | .hbm, ⟨19, _⟩ => ⟨S4x2048x1408, .f32⟩
  | .hbm, ⟨20, _⟩ => ⟨S2048x4x1408, .f32⟩
  | .hbm, ⟨21, _⟩ => ⟨S4x2048x1408, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel4.lean ====
abbrev S4x2048x1408 : Shape := ⟨3, ![4, 2048, 1408]⟩
abbrev S2048x5632 : Shape := ⟨2, ![2048, 5632]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S2048x5632, .bf16⟩
  | .hbm, ⟨3, _⟩ => ⟨S2048x5632, .bf16⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S4x2048x1408 : Shape := ⟨3, ![4, 2048, 1408]⟩
abbrev S2048x5632 : Shape := ⟨2, ![2048, 5632]⟩
abbrev S_ : Shape := ⟨0, ![]⟩
abbrev S2048x2048 : Shape := ⟨2, ![2048, 2048]⟩
abbrev S2048x4x1408 : Shape := ⟨3, ![2048, 4, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S2048x2048, .f32⟩
  | .hbm, ⟨6, _⟩ => ⟨S2048x4x1408, .bf16⟩
  | .hbm, ⟨7, _⟩ => ⟨S2048x5632, .bf16⟩
  | .hbm, ⟨8, _⟩ => ⟨S2048x4x1408, .bf16⟩
  | .hbm, ⟨9, _⟩ => ⟨S2048x5632, .bf16⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x1408x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S2048x2048 : Shape := ⟨2, ![2048, 2048]⟩
abbrev S_ : Shape := ⟨0, ![]⟩
abbrev S4x1408x2048 : Shape := ⟨3, ![4, 1408, 2048]⟩
abbrev S5632x2048 : Shape := ⟨2, ![5632, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S_, .f32⟩
  | .hbm, ⟨5, _⟩ => ⟨S4x1408x2048, .f32⟩
  | .hbm, ⟨6, _⟩ => ⟨S2048x5632, .f32⟩
  | .hbm, ⟨7, _⟩ => ⟨S5632x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x5632, .f32⟩
  | .hbm, ⟨18, _⟩ => ⟨S5632x2048, .f32⟩
  | .hbm, ⟨19, _⟩ => ⟨S4x1408x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S2048x2048 : Shape := ⟨2, ![2048, 2048]⟩
abbrev S4x2048x1408 : Shape := ⟨3, ![4, 2048, 1408]⟩
abbrev S2048x5632 : Shape := ⟨2, ![2048, 5632]⟩
abbrev S256x2048 : Shape := ⟨2, ![256, 2048]⟩
abbrev S1x2048x1408 : Shape := ⟨3, ![1, 2048, 1408]⟩
abbrev S256x1408 : Shape := ⟨2, ![256, 1408]⟩
abbrev S2048x1408 : Shape := ⟨2, ![2048, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x5632, .f32⟩
  | .hbm, ⟨4, _⟩ => ⟨S2048x5632, .f32⟩
  | .hbm, ⟨5, _⟩ => ⟨S2048x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .bf16⟩
  | .local _ .vmem, ⟨11, _⟩ => ⟨S256x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S2048x2048 : Shape := ⟨2, ![2048, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x4x1408, .bf16⟩
  | .hbm, ⟨4, _⟩ => ⟨S2048x5632, .bf16⟩
  | .hbm, ⟨5, _⟩ => ⟨S2048x4x1408, .bf16⟩
  | .hbm, ⟨6, _⟩ => ⟨S2048x5632, .bf16⟩
  | .hbm, ⟨7, _⟩ => ⟨S2048x2048, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel7.lean ====
abbrev S2048x2048 : Shape := ⟨2, ![2048, 2048]⟩
abbrev S2048x5632 : Shape := ⟨2, ![2048, 5632]⟩
abbrev S4x1408x2048 : Shape := ⟨3, ![4, 1408, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x5632, .bf16⟩
  | .hbm, ⟨2, _⟩ => ⟨S4x1408x2048, .bf16⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x2048 : Shape := ⟨2, ![2048, 2048]⟩
abbrev S2048x5632 : Shape := ⟨2, ![2048, 5632]⟩
abbrev S4x1408x2048 : Shape := ⟨3, ![4, 1408, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .bf16⟩
  | .hbm, ⟨2, _⟩ => ⟨S4x1408x2048, .bf16⟩
  | .hbm, ⟨3, _⟩ => ⟨S2048x5632, .f32⟩
  | .hbm, ⟨4, _⟩ => ⟨S5632x2048, .bf16⟩
  | .hbm, ⟨5, _⟩ => ⟨S5632x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S2048x5632 : Shape := ⟨2, ![2048, 5632]⟩
abbrev S4x1408x2048 : Shape := ⟨3, ![4, 1408, 2048]⟩
abbrev S2048x2048 : Shape := ⟨2, ![2048, 2048]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S4x1408x2048, .bf16⟩
  | .hbm, ⟨3, _⟩ => ⟨S2048x2048, .bf16⟩
  | .hbm, ⟨4, _⟩ => ⟨S2048x5632, .bf16⟩
  | .hbm, ⟨5, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S2048x5632 : Shape := ⟨2, ![2048, 5632]⟩
abbrev S4x1408x2048 : Shape := ⟨3, ![4, 1408, 2048]⟩
abbrev S2048x2048 : Shape := ⟨2, ![2048, 2048]⟩
abbrev S_ : Shape := ⟨0, ![]⟩
abbrev S5632x2048 : Shape := ⟨2, ![5632, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S4x1408x2048, .bf16⟩
  | .hbm, ⟨3, _⟩ => ⟨S2048x2048, .bf16⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S5632x2048, .bf16⟩
  | .hbm, ⟨21, _⟩ => ⟨S5632x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .bf16⟩
  | .hbm, ⟨39, _⟩ => ⟨S2048x5632, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel9.lean ====
abbrev S2048x2048 : Shape := ⟨2, ![2048, 2048]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x3072 : Shape := ⟨2, ![2048, 3072]⟩
abbrev S_ : Shape := ⟨0, ![]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S_, .f32⟩
  | .hbm, ⟨3, _⟩ => ⟨S2048x3072, .f32⟩
  | .hbm, ⟨4, _⟩ => ⟨S2048x2048, .f32⟩
  | .hbm, ⟨5, _⟩ => ⟨S2048x3072, .f32⟩
  | .hbm, ⟨6, _⟩ => ⟨S2048x3072, .f32⟩
  | .hbm, ⟨7, _⟩ => ⟨S3072x2048, .f32⟩
  | .hbm, ⟨8, _⟩ => ⟨S2048x3072, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x3072 : Shape := ⟨2, ![2048, 3072]⟩
abbrev S2048x2048 : Shape := ⟨2, ![2048, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x3072 : Shape := ⟨2, ![2048, 3072]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S_, .f32⟩
  | .hbm, ⟨3, _⟩ => ⟨S2048x2048, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_19 : BitVec 32 := 0#32
  let v47 : BitVec 1 := Scalar.cmpi .ne v46 c0_i32_19
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel12.lean ====
abbrev S2x2048x1408 : Shape := ⟨3, ![2, 2048, 1408]⟩
abbrev S1x256x1408 : Shape := ⟨3, ![1, 256, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S2x2048x1408 : Shape := ⟨3, ![2, 2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S_, .f32⟩
  | .hbm, ⟨5, _⟩ => ⟨S2x2048x1408, .f32⟩
  | .hbm, ⟨6, _⟩ => ⟨S2x2048x1408, .f32⟩
  | .hbm, ⟨7, _⟩ => ⟨S_, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S_, .f32⟩
  | .hbm, ⟨12, _⟩ => ⟨S2x2048x1408, .f32⟩
  | .hbm, ⟨13, _⟩ => ⟨S2x2048x1408, .f32⟩
  | .hbm, ⟨14, _⟩ => ⟨S2x2048x1408, .f32⟩
  | .hbm, ⟨15, _⟩ => ⟨S_, .f32⟩
  | .hbm, ⟨16, _⟩ => ⟨S2x2048x1408, .f32⟩
  | .hbm, ⟨17, _⟩ => ⟨S2x2048x1408, .f32⟩
  | .hbm, ⟨18, _⟩ => ⟨S2x2048x1408, .f32⟩
  | .hbm, ⟨19, _⟩ => ⟨S_, .f32⟩
  | .hbm, ⟨20, _⟩ => ⟨S2x2048x1408, .f32⟩
  | .hbm, ⟨21, _⟩ => ⟨S2x2048x1408, .f32⟩
  | .hbm, ⟨22, _⟩ => ⟨S_, .f32⟩
  | .hbm, ⟨23, _⟩ => ⟨S2x2048x1408, .f32⟩
  | .hbm, ⟨24, _⟩ => ⟨S2x2048x1408, .f32⟩
  | .hbm, ⟨25, _⟩ => ⟨S2x2048x1408, .f32⟩
  | .hbm, ⟨26, _⟩ => ⟨S_, .f32⟩
  | .hbm, ⟨27, _⟩ => ⟨S2x2048x1408, .f32⟩
  | .hbm, ⟨28, _⟩ => ⟨S2x2048x1408, .f32⟩
  | .hbm, ⟨29, _⟩ => ⟨S2x2048x1408, .f32⟩
  | .hbm, ⟨30, _⟩ => ⟨S_, .f32⟩
  | .hbm, ⟨31, _⟩ => ⟨S2x2048x1408, .f32⟩
  | .hbm, ⟨32, _⟩ => ⟨S2x2048x1408, .f32⟩
  | .hbm, ⟨33, _⟩ => ⟨S2x2048x1408, .f32⟩
  | .hbm, ⟨34, _⟩ => ⟨S_, .f32⟩
  | .hbm, ⟨35, _⟩ => ⟨S2x2048x1408, .f32⟩
  | .hbm, ⟨36, _⟩ => ⟨S2x2048x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S2x1408x2048 : Shape := ⟨3, ![2, 1408, 2048]⟩
abbrev S1x176x2048 : Shape := ⟨3, ![1, 176, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S2x1408x2048 : Shape := ⟨3, ![2, 1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S_, .f32⟩
  | .hbm, ⟨5, _⟩ => ⟨S2x1408x2048, .f32⟩
  | .hbm, ⟨6, _⟩ => ⟨S2x1408x2048, .f32⟩
  | .hbm, ⟨7, _⟩ => ⟨S_, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S_, .f32⟩
  | .hbm, ⟨23, _⟩ => ⟨S2x1408x2048, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2x2048x1284 : Shape := ⟨3, ![2, 2048, 1284]⟩
abbrev S1x256x1284 : Shape := ⟨3, ![1, 256, 1284]⟩
abbrev S256x1284 : Shape := ⟨2, ![256, 1284]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1284, .f32⟩
  | .hbm, ⟨1, _⟩ => ⟨S2x2048x1284, .f32⟩
  | .hbm, ⟨2, _⟩ => ⟨S2x2048x1284, .f32⟩
  | .hbm, ⟨3, _⟩ => ⟨S2x2048x1284, .f32⟩
  | .hbm, ⟨4, _⟩ => ⟨S2x2048x1284, .f32⟩
  | .hbm, ⟨5, _⟩ => ⟨S2x2048x1284, .f32⟩
  | .hbm, ⟨6, _⟩ => ⟨S2x2048x1284, .f32⟩
  | .hbm, ⟨7, _⟩ => ⟨S2x2048x1284, .f32⟩
  | .local _ .vmem, ⟨0, _⟩ => ⟨S1x256x1284, .f32⟩
  | .local _ .vmem, ⟨1, _⟩ => ⟨S1x256x1284, .f32⟩
  | .local _ .vmem, ⟨2, _⟩ => ⟨S1x256x1284, .f32⟩
  | .local _ .vmem, ⟨3, _⟩ => ⟨S1x256x1284, .f32⟩
  | .local _ .vmem, ⟨4, _⟩ => ⟨S1x256x1284, .f32⟩
  | .local _ .vmem, ⟨5, _⟩ => ⟨S1x256x1284, .f32⟩
  | .local _ .vmem, ⟨6, _⟩ => ⟨S1x256x1284, .f32⟩
  | .local _ .vmem, ⟨7, _⟩ => ⟨S1x256x1284, .f32⟩
  | .local _ .vmem, ⟨8, _⟩ => ⟨S1x256x1284, .f32⟩
  | .local _ .vmem, ⟨9, _⟩ => ⟨S1x256x1284, .f32⟩
  | .local _ .vmem, ⟨10, _⟩ => ⟨S1x256x1284, .f32⟩
  | .local _ .vmem, ⟨11, _⟩ => ⟨S1x256x1284, .f32⟩
  | .local _ .vmem, ⟨12, _⟩ => ⟨S1x256x1284, .f32⟩
  | .local _ .vmem, ⟨13, _⟩ => ⟨S1x256x1284, .f32⟩
  | .local _ .vmem, ⟨14, _⟩ => ⟨S1x256x1284, .f32⟩
  | .local _ .vmem, ⟨15, _⟩ => ⟨S1x256x1284, .f32⟩
  | _, _ => ⟨S2x2048x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1284 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S2x2048x1284 : Shape := ⟨3, ![2, 2048, 1284]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1284, .f32⟩
  | .hbm, ⟨1, _⟩ => ⟨S2x2048x1284, .f32⟩
  | .hbm, ⟨2, _⟩ => ⟨S2x2048x1284, .f32⟩
  | .hbm, ⟨3, _⟩ => ⟨S2x2048x1284, .f32⟩
  | .hbm, ⟨4, _⟩ => ⟨S_, .f32⟩
  | .hbm, ⟨5, _⟩ => ⟨S2x2048x1284, .f32⟩
  | .hbm, ⟨6, _⟩ => ⟨S2x2048x1284, .f32⟩
  | .hbm, ⟨7, _⟩ => ⟨S_, .f32⟩
  | .hbm, ⟨8, _⟩ => ⟨S2x2048x1284, .f32⟩
  | .hbm, ⟨9, _⟩ => ⟨S2x2048x1284, .f32⟩
  | .hbm, ⟨10, _⟩ => ⟨S2x2048x1284, .f32⟩
  | .hbm, ⟨11, _⟩ => ⟨S_, .f32⟩
  | .hbm, ⟨12, _⟩ => ⟨S2x2048x1284, .f32⟩
  | .hbm, ⟨13, _⟩ => ⟨S2x2048x1284, .f32⟩
  | .hbm, ⟨14, _⟩ => ⟨S2x2048x1284, .f32⟩
  | .hbm, ⟨15, _⟩ => ⟨S_, .f32⟩
  | .hbm, ⟨16, _⟩ => ⟨S2x2048x1284, .f32⟩
  | .hbm, ⟨17, _⟩ => ⟨S2x2048x1284, .f32⟩
  | .hbm, ⟨18, _⟩ => ⟨S2x2048x1284, .f32⟩
  | .hbm, ⟨19, _⟩ => ⟨S_, .f32⟩
  | .hbm, ⟨20, _⟩ => ⟨S2x2048x1284, .f32⟩
  | .hbm, ⟨21, _⟩ => ⟨S2x2048x1284, .f32⟩
  | .hbm, ⟨22, _⟩ => ⟨S_, .f32⟩
  | .hbm, ⟨23, _⟩ => ⟨S2x2048x1284, .f32⟩
  | .hbm, ⟨24, _⟩ => ⟨S2x2048x1284, .f32⟩
  | .hbm, ⟨25, _⟩ => ⟨S2x2048x1284, .f32⟩
  | .hbm, ⟨26, _⟩ => ⟨S_, .f32⟩
  | .hbm, ⟨27, _⟩ => ⟨S2x2048x1284, .f32⟩
  | .hbm, ⟨28, _⟩ => ⟨S2x2048x1284, .f32⟩
  | .hbm, ⟨29, _⟩ => ⟨S2x2048x1284, .f32⟩
  | .hbm, ⟨30, _⟩ => ⟨S_, .f32⟩
  | .hbm, ⟨31, _⟩ => ⟨S2x2048x1284, .f32⟩
  | .hbm, ⟨32, _⟩ => ⟨S2x2048x1284, .f32⟩
  | .hbm, ⟨33, _⟩ => ⟨S2x2048x1284, .f32⟩
  | .hbm, ⟨34, _⟩ => ⟨S_, .f32⟩
  | .hbm, ⟨35, _⟩ => ⟨S2x2048x1284, .f32⟩
  | .hbm, ⟨36, _⟩ => ⟨S2x2048x1284, .f32⟩
  | _, _ => ⟨S2x2048x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2x32x96 : Shape := ⟨3, ![2, 32, 96]⟩
abbrev S1x32x96 : Shape := ⟨3, ![1, 32, 96]⟩
abbrev S32x96 : Shape := ⟨2, ![32, 96]⟩

abbrev nBuf : Space → Nat
  | .hbm => 8
  | .vmem => 16
  | .smem => 0
  | _ => 0

abbrev bufTy : (tb : Table) → Fin (tcTables nBuf tb) → BufTy
  | .hbm, ⟨0, _⟩ => ⟨S2x32x96, .f32⟩
  | .hbm, ⟨1, _⟩ => ⟨S2x32x96, .f32⟩
  | .hbm, ⟨2, _⟩ => ⟨S2x32x96, .f32⟩
  | .hbm, ⟨3, _⟩ => ⟨S2x32x96, .f32⟩
  | .hbm, ⟨4, _⟩ => ⟨S2x32x96, .f32⟩
  | .hbm, ⟨5, _⟩ => ⟨S2x32x96, .f32⟩
  | .hbm, ⟨6, _⟩ => ⟨S2x32x96, .f32⟩
  | .hbm, ⟨7, _⟩ => ⟨S2x32x96, .f32⟩
  | .local _ .vmem, ⟨0, _⟩ => ⟨S1x32x96, .f32⟩
  | .local _ .vmem, ⟨1, _⟩ => ⟨S1x32x96, .f32⟩
  | .local _ .vmem, ⟨2, _⟩ => ⟨S1x32x96, .f32⟩
  | .local _ .vmem, ⟨3, _⟩ => ⟨S1x32x96, .f32⟩
  | .local _ .vmem, ⟨4, _⟩ => ⟨S1x32x96, .f32⟩
  | .local _ .vmem, ⟨5, _⟩ => ⟨S1x32x96, .f32⟩
  | .local _ .vmem, ⟨6, _⟩ => ⟨S1x32x96, .f32⟩
  | .local _ .vmem, ⟨7, _⟩ => ⟨S1x32x96, .f32⟩
  | .local _ .vmem, ⟨8, _⟩ => ⟨S1x32x96, .f32⟩
  | .local _ .vmem, ⟨9, _⟩ => ⟨S1x32x96, .f32⟩
  | .local _ .vmem, ⟨10, _⟩ => ⟨S1x32x96, .f32⟩
  | .local _ .vmem, ⟨11, _⟩ => ⟨S1x32x96, .f32⟩
  | .local _ .vmem, ⟨12, _⟩ => ⟨S1x32x96, .f32⟩
  | .local _ .vmem, ⟨13, _⟩ => ⟨S1x32x96, .f32⟩
  | .local _ .vmem, ⟨14, _⟩ => ⟨S1x32x96, .f32⟩
  | .local _ .vmem, ⟨15, _⟩ => ⟨S1x32x96, .f32⟩
  | _, _ => ⟨S2x32x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S2x32x96 : Shape := ⟨3, ![2, 32, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32x96, .f32⟩
  | .hbm, ⟨1, _⟩ => ⟨S2x32x96, .f32⟩
  | .hbm, ⟨2, _⟩ => ⟨S2x32x96, .f32⟩
  | .hbm, ⟨3, _⟩ => ⟨S2x32x96, .f32⟩
  | .hbm, ⟨4, _⟩ => ⟨S_, .f32⟩
  | .hbm, ⟨5, _⟩ => ⟨S2x32x96, .f32⟩
  | .hbm, ⟨6, _⟩ => ⟨S2x32x96, .f32⟩
  | .hbm, ⟨7, _⟩ => ⟨S_, .f32⟩
  | .hbm, ⟨8, _⟩ => ⟨S2x32x96, .f32⟩
  | .hbm, ⟨9, _⟩ => ⟨S2x32x96, .f32⟩
  | .hbm, ⟨10, _⟩ => ⟨S2x32x96, .f32⟩
  | .hbm, ⟨11, _⟩ => ⟨S_, .f32⟩
  | .hbm, ⟨12, _⟩ => ⟨S2x32x96, .f32⟩
  | .hbm, ⟨13, _⟩ => ⟨S2x32x96, .f32⟩
  | .hbm, ⟨14, _⟩ => ⟨S2x32x96, .f32⟩
  | .hbm, ⟨15, _⟩ => ⟨S_, .f32⟩
  | .hbm, ⟨16, _⟩ => ⟨S2x32x96, .f32⟩
  | .hbm, ⟨17, _⟩ => ⟨S2x32x96, .f32⟩
  | .hbm, ⟨18, _⟩ => ⟨S2x32x96, .f32⟩
  | .hbm, ⟨19, _⟩ => ⟨S_, .f32⟩
  | .hbm, ⟨20, _⟩ => ⟨S2x32x96, .f32⟩
  | .hbm, ⟨21, _⟩ => ⟨S2x32x96, .f32⟩
  | .hbm, ⟨22, _⟩ => ⟨S_, .f32⟩
  | .hbm, ⟨23, _⟩ => ⟨S2x32x96, .f32⟩
  | .hbm, ⟨24, _⟩ => ⟨S2x32x96, .f32⟩
  | .hbm, ⟨25, _⟩ => ⟨S2x32x96, .f32⟩
  | .hbm, ⟨26, _⟩ => ⟨S_, .f32⟩
  | .hbm, ⟨27, _⟩ => ⟨S2x32x96, .f32⟩
  | .hbm, ⟨28, _⟩ => ⟨S2x32x96, .f32⟩
  | .hbm, ⟨29, _⟩ => ⟨S2x32x96, .f32⟩
  | .hbm, ⟨30, _⟩ => ⟨S_, .f32⟩
  | .hbm, ⟨31, _⟩ => ⟨S2x32x96, .f32⟩
  | .hbm, ⟨32, _⟩ => ⟨S2x32x96, .f32⟩
  | .hbm, ⟨33, _⟩ => ⟨S2x32x96, .f32⟩
  | .hbm, ⟨34, _⟩ => ⟨S_, .f32⟩
  | .hbm, ⟨35, _⟩ => ⟨S2x32x96, .f32⟩
  | .hbm, ⟨36, _⟩ => ⟨S2x32x96, .f32⟩
  | _, _ => ⟨S2x32x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S2x256x256 : Shape := ⟨3, ![2, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x512x2048 : Shape := ⟨3, ![2, 512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x2048x1024 : Shape := ⟨3, ![2, 2048, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S2x2048x1024 : Shape := ⟨3, ![2, 2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048x1024, .f32⟩
  | .hbm, ⟨36, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1x200x128 : Shape := ⟨3, ![1, 200, 128]⟩
abbrev S200x128 : Shape := ⟨2, ![200, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x200x128, .f32⟩
  | .hbm, ⟨1, _⟩ => ⟨S1x200x128, .f32⟩
  | .hbm, ⟨2, _⟩ => ⟨S1x200x128, .f32⟩
  | .hbm, ⟨3, _⟩ => ⟨S1x200x128, .f32⟩
  | .hbm, ⟨4, _⟩ => ⟨S1x200x128, .f32⟩
  | .hbm, ⟨5, _⟩ => ⟨S1x200x128, .f32⟩
  | .hbm, ⟨6, _⟩ => ⟨S1x200x128, .f32⟩
  | .hbm, ⟨7, _⟩ => ⟨S1x200x128, .f32⟩
  | .local _ .vmem, ⟨0, _⟩ => ⟨S1x200x128, .f32⟩
  | .local _ .vmem, ⟨1, _⟩ => ⟨S1x200x128, .f32⟩
  | .local _ .vmem, ⟨2, _⟩ => ⟨S1x200x128, .f32⟩
  | .local _ .vmem, ⟨3, _⟩ => ⟨S1x200x128, .f32⟩
  | .local _ .vmem, ⟨4, _⟩ => ⟨S1x200x128, .f32⟩
  | .local _ .vmem, ⟨5, _⟩ => ⟨S1x200x128, .f32⟩
  | .local _ .vmem, ⟨6, _⟩ => ⟨S1x200x128, .f32⟩
  | .local _ .vmem, ⟨7, _⟩ => ⟨S1x200x128, .f32⟩
  | _, _ => ⟨S1x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x200x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x200x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x200x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x200x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference19Ideal.lean ====
abbrev S1x200x128 : Shape := ⟨3, ![1, 200, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x200x128, .f32⟩
  | .hbm, ⟨1, _⟩ => ⟨S1x200x128, .f32⟩
  | .hbm, ⟨2, _⟩ => ⟨S1x200x128, .f32⟩
  | .hbm, ⟨3, _⟩ => ⟨S1x200x128, .f32⟩
  | .hbm, ⟨4, _⟩ => ⟨S_, .f32⟩
  | .hbm, ⟨5, _⟩ => ⟨S1x200x128, .f32⟩
  | .hbm, ⟨6, _⟩ => ⟨S1x200x128, .f32⟩
  | .hbm, ⟨7, _⟩ => ⟨S_, .f32⟩
  | .hbm, ⟨8, _⟩ => ⟨S1x200x128, .f32⟩
  | .hbm, ⟨9, _⟩ => ⟨S1x200x128, .f32⟩
  | .hbm, ⟨10, _⟩ => ⟨S1x200x128, .f32⟩
  | .hbm, ⟨11, _⟩ => ⟨S_, .f32⟩
  | .hbm, ⟨12, _⟩ => ⟨S1x200x128, .f32⟩
  | .hbm, ⟨13, _⟩ => ⟨S1x200x128, .f32⟩
  | .hbm, ⟨14, _⟩ => ⟨S1x200x128, .f32⟩
  | .hbm, ⟨15, _⟩ => ⟨S_, .f32⟩
  | .hbm, ⟨16, _⟩ => ⟨S1x200x128, .f32⟩
  | .hbm, ⟨17, _⟩ => ⟨S1x200x128, .f32⟩
  | .hbm, ⟨18, _⟩ => ⟨S1x200x128, .f32⟩
  | .hbm, ⟨19, _⟩ => ⟨S_, .f32⟩
  | .hbm, ⟨20, _⟩ => ⟨S1x200x128, .f32⟩
  | .hbm, ⟨21, _⟩ => ⟨S1x200x128, .f32⟩
  | .hbm, ⟨22, _⟩ => ⟨S_, .f32⟩
  | .hbm, ⟨23, _⟩ => ⟨S1x200x128, .f32⟩
  | .hbm, ⟨24, _⟩ => ⟨S1x200x128, .f32⟩
  | .hbm, ⟨25, _⟩ => ⟨S1x200x128, .f32⟩
  | .hbm, ⟨26, _⟩ => ⟨S_, .f32⟩
  | .hbm, ⟨27, _⟩ => ⟨S1x200x128, .f32⟩
  | .hbm, ⟨28, _⟩ => ⟨S1x200x128, .f32⟩
  | .hbm, ⟨29, _⟩ => ⟨S1x200x128, .f32⟩
  | .hbm, ⟨30, _⟩ => ⟨S_, .f32⟩
  | .hbm, ⟨31, _⟩ => ⟨S1x200x128, .f32⟩
  | .hbm, ⟨32, _⟩ => ⟨S1x200x128, .f32⟩
  | .hbm, ⟨33, _⟩ => ⟨S1x200x128, .f32⟩
  | .hbm, ⟨34, _⟩ => ⟨S_, .f32⟩
  | .hbm, ⟨35, _⟩ => ⟨S1x200x128, .f32⟩
  | .hbm, ⟨36, _⟩ => ⟨S1x200x128, .f32⟩
  | _, _ => ⟨S1x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Scan.lean ====
module

public import Idealize.ShloMosaic.Lib.Pointwise
public import Idealize.ShloMosaic.Lib.Pipeline.ValueKit

@[expose] public section

/-! The gated delta rule's scan over one chunk of 64 rows, per head, over the extended reals: what a chunk makes of the state it
starts from (`vnew`, `outp`, `next`), and how the two-dimensional arrays hold heads and chunks. -/

noncomputable section

namespace Cert.Scan

open Idealize.ShloMosaic

/-- Rows of a chunk: head, row, lane. -/
abbrev Rows := Fin 8 → Fin 64 → Fin 128 → EReal
/-- A square of a chunk: head, row, row. -/
abbrev Sq := Fin 8 → Fin 64 → Fin 64 → EReal
/-- A state: head, key lane, value lane. -/
abbrev St := Fin 8 → Fin 128 → Fin 128 → EReal
/-- A row of lanes: head, lane. -/
abbrev Ln := Fin 8 → Fin 128 → EReal

/-- Lane `v` of head `h` among the 1024 lanes of all heads. -/
def hd (h : Fin 8) (v : Fin 128) : Fin 1024 := ⟨128 * h.val + v.val, by omega⟩
/-- Row `c` of chunk `n` among the 2048 rows. -/
def row (n : Fin 32) (c : Fin 64) : Fin 2048 := ⟨64 * n.val + c.val, by omega⟩
/-- The first of the eight rows that chunk `n` has in the decay's array. -/
def row8 (n : Fin 32) : Fin 256 := ⟨8 * n.val, by omega⟩

/-- The corrected values: `u − w · s`. -/
def vnew (s : St) (u w : Rows) : Rows := fun h c v => u h c v - ∑ k, w h c k * s h k v
/-- The chunk's output: `qd · s + qk · vnew`. -/
def outp (s : St) (u w : Rows) (qk : Sq) (qd : Rows) : Rows := fun h c v =>
  (∑ k, qd h c k * s h k v) + ∑ j, qk h c j * vnew s u w h j v
/-- The state after the chunk: `s · gl + kdᵀ · vnew`. -/
def next (s : St) (u w kd : Rows) (gl : Ln) : St := fun h k v =>
  s h k v * gl h v + ∑ c, kd h c k * vnew s u w h c v

/-- A block of 64 rows and all lanes, by head. -/
def rowsB (x : FVec Ideal ⟨2, ![64, 1024]⟩ .f32) : Rows := fun h c v => x (ix2 c (hd h v))
/-- A block of squares. -/
def sqB (x : FVec Ideal ⟨3, ![8, 64, 64]⟩ .f32) : Sq := fun h c j => x (ix3 h c j)
/-- The first row of a block of eight, by head. -/
def lnB (x : FVec Ideal ⟨2, ![8, 1024]⟩ .f32) : Ln := fun h v => x (ix2 0 (hd h v))
/-- A state held as 1024 rows of 128 lanes. -/
def stB (x : FVec Ideal ⟨2, ![1024, 128]⟩ .f32) : St := fun h k v => x (ix2 (hd h k) v)
/-- Chunk `n` of an array of 2048 rows. -/
def rowsAt (x : FVec Ideal ⟨2, ![2048, 1024]⟩ .f32) (n : Fin 32) : Rows := fun h c v => x (ix2 (row n c) (hd h v))
/-- Chunk `n`'s squares. -/
def sqAt (x : FVec Ideal ⟨3, ![8, 2048, 64]⟩ .f32) (n : Fin 32) : Sq := fun h c j => x (ix3 h (row n c) j)
/-- Chunk `n`'s decays. -/
def lnAt (x : FVec Ideal ⟨2, ![256, 1024]⟩ .f32) (n : Fin 32) : Ln := fun h v => x (ix2 (row8 n) (hd h v))
/-- The state before chunk `n`, of an array of 32 states. -/
def stAt (x : FVec Ideal ⟨3, ![32, 1024, 128]⟩ .f32) (n : Fin 32) : St := fun h k v => x (ix3 n (hd h k) v)

/-- A number of a chunk, whatever natural number it is given as. -/
def chunk (n : ℕ) : Fin 32 := ⟨n % 32, Nat.mod_lt _ (by decide)⟩

/-- The state before chunk `n`, from the zero state. -/
def state (u w : FVec Ideal ⟨2, ![2048, 1024]⟩ .f32) (kd : FVec Ideal ⟨2, ![2048, 1024]⟩ .f32) (gl : FVec Ideal ⟨2, ![256, 1024]⟩ .f32) : ℕ → St
  | 0 => fun _ _ _ => 0
  | n + 1 => next (state u w kd gl n) (rowsAt u (chunk n)) (rowsAt w (chunk n)) (rowsAt kd (chunk n)) (lnAt gl (chunk n))

/-- Every lane is a lane of a head. -/
theorem exists_hd (j : Fin 1024) : ∃ h v, j = hd h v :=
  ⟨⟨j.val / 128, by omega⟩, ⟨j.val % 128, by omega⟩, Fin.ext (by simp only [hd]; omega)⟩

/-- Every row is a row of a chunk. -/
theorem exists_row (i : Fin 2048) : ∃ n c, i = row n c :=
  ⟨⟨i.val / 64, by omega⟩, ⟨i.val % 64, by omega⟩, Fin.ext (by simp only [row]; omega)⟩

/-- The head and the lane are read off the lane's number among all. -/
theorem of_hd {h : Fin 8} {k x : Fin 128} {n : ℕ} (e : (hd h k).val = n + x.val) (hn : n % 128 = 0) :
    ∃ hlt : n / 128 < 8, h = ⟨n / 128, hlt⟩ ∧ k = x := by
  simp only [hd] at e
  exact ⟨by omega, Fin.ext (by simp only []; omega), Fin.ext (by omega)⟩

/-- The same for the first head, whose lanes come first. -/
theorem of_hd_zero {h : Fin 8} {k x : Fin 128} (e : (hd h k).val = x.val) : h = 0 ∧ k = x := by
  simp only [hd] at e
  exact ⟨Fin.ext (by simp only [Fin.val_zero]; omega), Fin.ext (by omega)⟩

/-- Eight heads' blocks beside each other, read at a lane of one head: what that head's block holds there. -/
theorem concat_rows {a : ℕ} {x0 x1 x2 x3 x4 x5 x6 x7 : FVec Ideal ⟨2, ![a, 128]⟩ .f32}
    {hc : Shape.Concatenates ([⟨⟨2, ![a, 128]⟩, x0⟩, ⟨⟨2, ![a, 128]⟩, x1⟩, ⟨⟨2, ![a, 128]⟩, x2⟩, ⟨⟨2, ![a, 128]⟩, x3⟩, ⟨⟨2, ![a, 128]⟩, x4⟩, ⟨⟨2, ![a, 128]⟩, x5⟩, ⟨⟨2, ![a, 128]⟩, x6⟩, ⟨⟨2, ![a, 128]⟩, x7⟩].map
      (fun p : (s : Shape) × (s.Idx → Ideal .f32) => p.1)) ⟨2, ![a, 1024]⟩ 1}
    {k : Fin a} {h : Fin 8} {v : Fin 128} {y : EReal}
    (e0 : h = 0 → x0 (ix2 k v) = y) (e1 : h = 1 → x1 (ix2 k v) = y) (e2 : h = 2 → x2 (ix2 k v) = y) (e3 : h = 3 → x3 (ix2 k v) = y) (e4 : h = 4 → x4 (ix2 k v) = y) (e5 : h = 5 → x5 (ix2 k v) = y) (e6 : h = 6 → x6 (ix2 k v) = y) (e7 : h = 7 → x7 (ix2 k v) = y) :
    concatenate ⟨2, ![a, 1024]⟩ 1 [⟨⟨2, ![a, 128]⟩, x0⟩, ⟨⟨2, ![a, 128]⟩, x1⟩, ⟨⟨2, ![a, 128]⟩, x2⟩, ⟨⟨2, ![a, 128]⟩, x3⟩, ⟨⟨2, ![a, 128]⟩, x4⟩, ⟨⟨2, ![a, 128]⟩, x5⟩, ⟨⟨2, ![a, 128]⟩, x6⟩, ⟨⟨2, ![a, 128]⟩, x7⟩] hc (ix2 k (hd h v)) = y := by
  refine (concatenate_ofFn_apply (t := ⟨2, ![a, 1024]⟩) (s₁ := ⟨2, ![a, 128]⟩) 1 ![x0, x1, x2, x3, x4, x5, x6, x7] hc rfl 128 rfl
    (ix2 k (hd h v)) h ?_ (ix2 k v) ?_ ?_).trans ?_
  · show (128 * h.val + v.val) / 128 = h.val
    omega
  · show v.val = (128 * h.val + v.val) % 128
    omega
  · intro b hb
    match b with
    | ⟨0, _⟩ => rfl
    | ⟨1, _⟩ => exact absurd rfl hb
  · fin_cases h
    exacts [e0 rfl, e1 rfl, e2 rfl, e3 rfl, e4 rfl, e5 rfl, e6 rfl, e7 rfl]

/-- The head and the lane in it of one of the 1024 lanes; the chunk and the row in it of one of the 2048 rows. -/
def headOf (j : Fin 1024) : Fin 8 := ⟨j.val / 128, by omega⟩
def laneOf (j : Fin 1024) : Fin 128 := ⟨j.val % 128, by omega⟩
def chunkOf (i : Fin 2048) : Fin 32 := ⟨i.val / 64, by omega⟩
def inChunk (i : Fin 2048) : Fin 64 := ⟨i.val % 64, by omega⟩
theorem headOf_hd (h : Fin 8) (v : Fin 128) : headOf (hd h v) = h := Fin.ext (by simp only [headOf, hd]; omega)
theorem laneOf_hd (h : Fin 8) (v : Fin 128) : laneOf (hd h v) = v := Fin.ext (by simp only [laneOf, hd]; omega)
theorem chunkOf_row (n : Fin 32) (c : Fin 64) : chunkOf (row n c) = n := Fin.ext (by simp only [chunkOf, row]; omega)
theorem inChunk_row (n : Fin 32) (c : Fin 64) : inChunk (row n c) = c := Fin.ext (by simp only [inChunk, row]; omega)

/-- The array of 2048 rows whose chunk `n` is `f n`. -/
def rowsOf (f : Fin 32 → Rows) : FVec Ideal ⟨2, ![2048, 1024]⟩ .f32 := fun i =>
  f (chunkOf (i 0)) (headOf (i 1)) (inChunk (i 0)) (laneOf (i 1))
/-- The array of 32 states that holds `f n` at `n`. -/
def statesOf (f : Fin 32 → St) : FVec Ideal ⟨3, ![32, 1024, 128]⟩ .f32 := fun i =>
  f (i 0) (headOf (i 1)) (laneOf (i 1)) (i 2)

theorem rowsOf_at (f : Fin 32 → Rows) (n : Fin 32) (c : Fin 64) (h : Fin 8) (v : Fin 128) :
    rowsOf f (ix2 (row n c) (hd h v)) = f n h c v := by
  show f (chunkOf (row n c)) (headOf (hd h v)) (inChunk (row n c)) (laneOf (hd h v)) = _
  rw [chunkOf_row, headOf_hd, inChunk_row, laneOf_hd]

theorem statesOf_at (f : Fin 32 → St) (n : Fin 32) (h : Fin 8) (k v : Fin 128) :
    statesOf f (ix3 n (hd h k) v) = f n h k v := by
  show f n (headOf (hd h k)) (laneOf (hd h k)) v = _
  rw [headOf_hd, laneOf_hd]

/-- Where later stores reach, a store made before them does not show. -/
theorem canon_drop {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by obtain ⟨p, hp, _⟩ := h; exact absurd hp List.not_mem_nil
  | p :: L, h => by
    by_cases hy : y ∈ p.1.set
    · obtain ⟨x, rfl⟩ := p.1.exists_idx_of_mem hy
      rw [List.cons_append, show p.1.idx x = p.1.emb x from rfl, View.canon_cons_emb, View.canon_cons_emb]
    · rw [List.cons_append, View.canon_cons_of_not_mem _ _ hy, View.canon_cons_of_not_mem _ _ hy]
      obtain ⟨q, hq, hm⟩ := h
      rcases List.mem_cons.mp hq with rfl | hq
      · exact absurd hm hy
      · exact canon_drop L' y L ⟨q, hq, hm⟩

theorem chunk_val (n : Fin 32) : chunk n.val = n := Fin.ext (Nat.mod_eq_of_lt n.isLt)

end Cert.Scan
end
-- ==== Proof.Seq.lean ====
module

public import proofs.«01_k».proof.Proof.Scan

@[expose] public section

/-! A stack of 32 chunks' arrays, read and written at one chunk by the host's dynamic slices. -/

set_option maxRecDepth 16384
noncomputable section
namespace Cert.Scan
open Idealize.ShloMosaic

/-- The slice at chunk `n` of a stack of rows. -/
theorem slice_rows (x : FVec Ideal ⟨4, ![32, 8, 64, 128]⟩ .f32) (st : Fin 4 → Int) (n : Fin 32) (e0 : st 0 = n.val) (e1 : st 1 = 0) (e2 : st 2 = 0) (e3 : st 3 = 0)
    (hf) (o : Fin 1) (h : Fin 8) (c : Fin 64) (v : Fin 128) :
    Host.dynamicSlice ⟨4, ![1, 8, 64, 128]⟩ x st hf (ix4 o h c v) = x (ix4 n h c v) := by
  have c0 := Host.clampedStart_of_le (s := ⟨4, ![32, 8, 64, 128]⟩) (t := ⟨4, ![1, 8, 64, 128]⟩) hf.1 st 0 n.val (by simpa using e0) (by show n.val + 1 ≤ 32; omega)
  have c1 := Host.clampedStart_of_le (s := ⟨4, ![32, 8, 64, 128]⟩) (t := ⟨4, ![1, 8, 64, 128]⟩) hf.1 st 1 0 (by simpa using e1) (by exact Nat.le_of_eq (Nat.zero_add _))
  have c2 := Host.clampedStart_of_le (s := ⟨4, ![32, 8, 64, 128]⟩) (t := ⟨4, ![1, 8, 64, 128]⟩) hf.1 st 2 0 (by simpa using e2) (by exact Nat.le_of_eq (Nat.zero_add _))
  have c3 := Host.clampedStart_of_le (s := ⟨4, ![32, 8, 64, 128]⟩) (t := ⟨4, ![1, 8, 64, 128]⟩) hf.1 st 3 0 (by simpa using e3) (by exact Nat.le_of_eq (Nat.zero_add _))
  pointwise []
  simp only [c0, c1, c2, c3, Nat.zero_add]

/-- A stack of rows with chunk `n` replaced. -/
theorem upd_rows (x : FVec Ideal ⟨4, ![32, 8, 64, 128]⟩ .f32) (y : FVec Ideal ⟨4, ![1, 8, 64, 128]⟩ .f32) (st : Fin 4 → Int) (n : Fin 32) (e0 : st 0 = n.val) (e1 : st 1 = 0) (e2 : st 2 = 0) (e3 : st 3 = 0)
    (hf) (i : Fin 32) (h : Fin 8) (c : Fin 64) (v : Fin 128) :
    Host.dynamicUpdateSlice x y st hf (ix4 i h c v) = if i = n then y (ix4 0 h c v) else x (ix4 i h c v) := by
  have c0 := Host.clampedStart_of_le (s := ⟨4, ![32, 8, 64, 128]⟩) (t := ⟨4, ![1, 8, 64, 128]⟩) hf.1 st 0 n.val (by simpa using e0) (by show n.val + 1 ≤ 32; omega)
  have c1 := Host.clampedStart_of_le (s := ⟨4, ![32, 8, 64, 128]⟩) (t := ⟨4, ![1, 8, 64, 128]⟩) hf.1 st 1 0 (by simpa using e1) (by exact Nat.le_of_eq (Nat.zero_add _))
  have c2 := Host.clampedStart_of_le (s := ⟨4, ![32, 8, 64, 128]⟩) (t := ⟨4, ![1, 8, 64, 128]⟩) hf.1 st 2 0 (by simpa using e2) (by exact Nat.le_of_eq (Nat.zero_add _))
  have c3 := Host.clampedStart_of_le (s := ⟨4, ![32, 8, 64, 128]⟩) (t := ⟨4, ![1, 8, 64, 128]⟩) hf.1 st 3 0 (by simpa using e3) (by exact Nat.le_of_eq (Nat.zero_add _))
  pointwise []
  simp only [c0, c1, c2, c3, Nat.zero_add, Nat.sub_zero]
  by_cases hi : i = n
  · subst hi
    rw [dif_pos (by omega), if_pos rfl]
    have e (p : i.val - i.val < 1) : (⟨i.val - i.val, p⟩ : Fin 1) = 0 := Fin.ext (Nat.sub_self _)
    simp only [e]
  · have : i.val ≠ n.val := fun e => hi (Fin.ext e)
    rw [dif_neg (by omega), if_neg hi]

/-- The slice at chunk `n` of a stack of squares. -/
theorem slice_sq (x : FVec Ideal ⟨4, ![32, 8, 64, 64]⟩ .f32) (st : Fin 4 → Int) (n : Fin 32) (e0 : st 0 = n.val) (e1 : st 1 = 0) (e2 : st 2 = 0) (e3 : st 3 = 0)
    (hf) (o : Fin 1) (h : Fin 8) (c : Fin 64) (v : Fin 64) :
    Host.dynamicSlice ⟨4, ![1, 8, 64, 64]⟩ x st hf (ix4 o h c v) = x (ix4 n h c v) := by
  have c0 := Host.clampedStart_of_le (s := ⟨4, ![32, 8, 64, 64]⟩) (t := ⟨4, ![1, 8, 64, 64]⟩) hf.1 st 0 n.val (by simpa using e0) (by show n.val + 1 ≤ 32; omega)
  have c1 := Host.clampedStart_of_le (s := ⟨4, ![32, 8, 64, 64]⟩) (t := ⟨4, ![1, 8, 64, 64]⟩) hf.1 st 1 0 (by simpa using e1) (by exact Nat.le_of_eq (Nat.zero_add _))
  have c2 := Host.clampedStart_of_le (s := ⟨4, ![32, 8, 64, 64]⟩) (t := ⟨4, ![1, 8, 64, 64]⟩) hf.1 st 2 0 (by simpa using e2) (by exact Nat.le_of_eq (Nat.zero_add _))
  have c3 := Host.clampedStart_of_le (s := ⟨4, ![32, 8, 64, 64]⟩) (t := ⟨4, ![1, 8, 64, 64]⟩) hf.1 st 3 0 (by simpa using e3) (by exact Nat.le_of_eq (Nat.zero_add _))
  pointwise []
  simp only [c0, c1, c2, c3, Nat.zero_add]

/-- A stack of squares with chunk `n` replaced. -/
theorem upd_sq (x : FVec Ideal ⟨4, ![32, 8, 64, 64]⟩ .f32) (y : FVec Ideal ⟨4, ![1, 8, 64, 64]⟩ .f32) (st : Fin 4 → Int) (n : Fin 32) (e0 : st 0 = n.val) (e1 : st 1 = 0) (e2 : st 2 = 0) (e3 : st 3 = 0)
    (hf) (i : Fin 32) (h : Fin 8) (c : Fin 64) (v : Fin 64) :
    Host.dynamicUpdateSlice x y st hf (ix4 i h c v) = if i = n then y (ix4 0 h c v) else x (ix4 i h c v) := by
  have c0 := Host.clampedStart_of_le (s := ⟨4, ![32, 8, 64, 64]⟩) (t := ⟨4, ![1, 8, 64, 64]⟩) hf.1 st 0 n.val (by simpa using e0) (by show n.val + 1 ≤ 32; omega)
  have c1 := Host.clampedStart_of_le (s := ⟨4, ![32, 8, 64, 64]⟩) (t := ⟨4, ![1, 8, 64, 64]⟩) hf.1 st 1 0 (by simpa using e1) (by exact Nat.le_of_eq (Nat.zero_add _))
  have c2 := Host.clampedStart_of_le (s := ⟨4, ![32, 8, 64, 64]⟩) (t := ⟨4, ![1, 8, 64, 64]⟩) hf.1 st 2 0 (by simpa using e2) (by exact Nat.le_of_eq (Nat.zero_add _))
  have c3 := Host.clampedStart_of_le (s := ⟨4, ![32, 8, 64, 64]⟩) (t := ⟨4, ![1, 8, 64, 64]⟩) hf.1 st 3 0 (by simpa using e3) (by exact Nat.le_of_eq (Nat.zero_add _))
  pointwise []
  simp only [c0, c1, c2, c3, Nat.zero_add, Nat.sub_zero]
  by_cases hi : i = n
  · subst hi
    rw [dif_pos (by omega), if_pos rfl]
    have e (p : i.val - i.val < 1) : (⟨i.val - i.val, p⟩ : Fin 1) = 0 := Fin.ext (Nat.sub_self _)
    simp only [e]
  · have : i.val ≠ n.val := fun e => hi (Fin.ext e)
    rw [dif_neg (by omega), if_neg hi]

/-- The slice at chunk `n` of a stack of states. -/
theorem slice_st (x : FVec Ideal ⟨4, ![32, 8, 128, 128]⟩ .f32) (st : Fin 4 → Int) (n : Fin 32) (e0 : st 0 = n.val) (e1 : st 1 = 0) (e2 : st 2 = 0) (e3 : st 3 = 0)
    (hf) (o : Fin 1) (h : Fin 8) (c : Fin 128) (v : Fin 128) :
    Host.dynamicSlice ⟨4, ![1, 8, 128, 128]⟩ x st hf (ix4 o h c v) = x (ix4 n h c v) := by
  have c0 := Host.clampedStart_of_le (s := ⟨4, ![32, 8, 128, 128]⟩) (t := ⟨4, ![1, 8, 128, 128]⟩) hf.1 st 0 n.val (by simpa using e0) (by show n.val + 1 ≤ 32; omega)
  have c1 := Host.clampedStart_of_le (s := ⟨4, ![32, 8, 128, 128]⟩) (t := ⟨4, ![1, 8, 128, 128]⟩) hf.1 st 1 0 (by simpa using e1) (by exact Nat.le_of_eq (Nat.zero_add _))
  have c2 := Host.clampedStart_of_le (s := ⟨4, ![32, 8, 128, 128]⟩) (t := ⟨4, ![1, 8, 128, 128]⟩) hf.1 st 2 0 (by simpa using e2) (by exact Nat.le_of_eq (Nat.zero_add _))
  have c3 := Host.clampedStart_of_le (s := ⟨4, ![32, 8, 128, 128]⟩) (t := ⟨4, ![1, 8, 128, 128]⟩) hf.1 st 3 0 (by simpa using e3) (by exact Nat.le_of_eq (Nat.zero_add _))
  pointwise []
  simp only [c0, c1, c2, c3, Nat.zero_add]

/-- A stack of states with chunk `n` replaced. -/
theorem upd_st (x : FVec Ideal ⟨4, ![32, 8, 128, 128]⟩ .f32) (y : FVec Ideal ⟨4, ![1, 8, 128, 128]⟩ .f32) (st : Fin 4 → Int) (n : Fin 32) (e0 : st 0 = n.val) (e1 : st 1 = 0) (e2 : st 2 = 0) (e3 : st 3 = 0)
    (hf) (i : Fin 32) (h : Fin 8) (c : Fin 128) (v : Fin 128) :
    Host.dynamicUpdateSlice x y st hf (ix4 i h c v) = if i = n then y (ix4 0 h c v) else x (ix4 i h c v) := by
  have c0 := Host.clampedStart_of_le (s := ⟨4, ![32, 8, 128, 128]⟩) (t := ⟨4, ![1, 8, 128, 128]⟩) hf.1 st 0 n.val (by simpa using e0) (by show n.val + 1 ≤ 32; omega)
  have c1 := Host.clampedStart_of_le (s := ⟨4, ![32, 8, 128, 128]⟩) (t := ⟨4, ![1, 8, 128, 128]⟩) hf.1 st 1 0 (by simpa using e1) (by exact Nat.le_of_eq (Nat.zero_add _))
  have c2 := Host.clampedStart_of_le (s := ⟨4, ![32, 8, 128, 128]⟩) (t := ⟨4, ![1, 8, 128, 128]⟩) hf.1 st 2 0 (by simpa using e2) (by exact Nat.le_of_eq (Nat.zero_add _))
  have c3 := Host.clampedStart_of_le (s := ⟨4, ![32, 8, 128, 128]⟩) (t := ⟨4, ![1, 8, 128, 128]⟩) hf.1 st 3 0 (by simpa using e3) (by exact Nat.le_of_eq (Nat.zero_add _))
  pointwise []
  simp only [c0, c1, c2, c3, Nat.zero_add, Nat.sub_zero]
  by_cases hi : i = n
  · subst hi
    rw [dif_pos (by omega), if_pos rfl]
    have e (p : i.val - i.val < 1) : (⟨i.val - i.val, p⟩ : Fin 1) = 0 := Fin.ext (Nat.sub_self _)
    simp only [e]
  · have : i.val ≠ n.val := fun e => hi (Fin.ext e)
    rw [dif_neg (by omega), if_neg hi]

/-- The slice at chunk `n` of a stack of rows of lanes. -/
theorem slice_ln (x : FVec Ideal ⟨3, ![32, 8, 128]⟩ .f32) (st : Fin 3 → Int) (n : Fin 32) (e0 : st 0 = n.val) (e1 : st 1 = 0) (e2 : st 2 = 0)
    (hf) (o : Fin 1) (h : Fin 8) (v : Fin 128) :
    Host.dynamicSlice ⟨3, ![1, 8, 128]⟩ x st hf (ix3 o h v) = x (ix3 n h v) := by
  have c0 := Host.clampedStart_of_le (s := ⟨3, ![32, 8, 128]⟩) (t := ⟨3, ![1, 8, 128]⟩) hf.1 st 0 n.val (by simpa using e0) (by show n.val + 1 ≤ 32; omega)
  have c1 := Host.clampedStart_of_le (s := ⟨3, ![32, 8, 128]⟩) (t := ⟨3, ![1, 8, 128]⟩) hf.1 st 1 0 (by simpa using e1) (by exact Nat.le_of_eq (Nat.zero_add _))
  have c2 := Host.clampedStart_of_le (s := ⟨3, ![32, 8, 128]⟩) (t := ⟨3, ![1, 8, 128]⟩) hf.1 st 2 0 (by simpa using e2) (by exact Nat.le_of_eq (Nat.zero_add _))
  pointwise []
  simp only [c0, c1, c2, Nat.zero_add]

/-- A stack of rows of lanes with chunk `n` replaced. -/
theorem upd_ln (x : FVec Ideal ⟨3, ![32, 8, 128]⟩ .f32) (y : FVec Ideal ⟨3, ![1, 8, 128]⟩ .f32) (st : Fin 3 → Int) (n : Fin 32) (e0 : st 0 = n.val) (e1 : st 1 = 0) (e2 : st 2 = 0)
    (hf) (i : Fin 32) (h : Fin 8) (v : Fin 128) :
    Host.dynamicUpdateSlice x y st hf (ix3 i h v) = if i = n then y (ix3 0 h v) else x (ix3 i h v) := by
  have c0 := Host.clampedStart_of_le (s := ⟨3, ![32, 8, 128]⟩) (t := ⟨3, ![1, 8, 128]⟩) hf.1 st 0 n.val (by simpa using e0) (by show n.val + 1 ≤ 32; omega)
  have c1 := Host.clampedStart_of_le (s := ⟨3, ![32, 8, 128]⟩) (t := ⟨3, ![1, 8, 128]⟩) hf.1 st 1 0 (by simpa using e1) (by exact Nat.le_of_eq (Nat.zero_add _))
  have c2 := Host.clampedStart_of_le (s := ⟨3, ![32, 8, 128]⟩) (t := ⟨3, ![1, 8, 128]⟩) hf.1 st 2 0 (by simpa using e2) (by exact Nat.le_of_eq (Nat.zero_add _))
  pointwise []
  simp only [c0, c1, c2, Nat.zero_add, Nat.sub_zero]
  by_cases hi : i = n
  · subst hi
    rw [dif_pos (by omega), if_pos rfl]
    have e (p : i.val - i.val < 1) : (⟨i.val - i.val, p⟩ : Fin 1) = 0 := Fin.ext (Nat.sub_self _)
    simp only [e]
  · have : i.val ≠ n.val := fun e => hi (Fin.ext e)
    rw [dif_neg (by omega), if_neg hi]

/-- A trip's number, as the loop's counter holds it, read signed. -/
theorem toInt_ofNat (n : ℕ) (h : n < 32) : (BitVec.ofNat 32 n).toInt = n := by
  interval_cases n <;> rfl

end Cert.Scan
end
-- ==== Proof.Back.lean ====
module

public import proofs.«01_k».proof.Proof.Seq

@[expose] public section

/-! The gradient of one chunk of the gated delta rule's scan, per head, over the extended reals: `s` the state the chunk begins with,
`ds` the gradient of the state after it, `o` the gradient of its output. -/

set_option maxRecDepth 16384
noncomputable section
namespace Cert.Scan
open Idealize.ShloMosaic

/-- The gradient of the corrected values, which is `u`'s: `kd · ds + qkᵀ · o`. -/
def gradU (ds : St) (qk : Sq) (kd o : Rows) : Rows := fun h c v => (∑ k, kd h c k * ds h k v) + ∑ j, qk h j c * o h j v
/-- The gradient of `w`: `−gradU · sᵀ`. -/
def gradW (s ds : St) (qk : Sq) (kd o : Rows) : Rows := fun h c k => ∑ v, -gradU ds qk kd o h c v * s h k v
/-- The gradient of `qk`: `o · vnewᵀ`. -/
def gradQk (s : St) (u w o : Rows) : Sq := fun h c j => ∑ v, o h c v * vnew s u w h j v
/-- The gradient of `qd`: `o · sᵀ`. -/
def gradQd (s : St) (o : Rows) : Rows := fun h c k => ∑ v, o h c v * s h k v
/-- The gradient of `kd`: `vnew · dsᵀ`. -/
def gradKd (s ds : St) (u w : Rows) : Rows := fun h c k => ∑ v, vnew s u w h c v * ds h k v
/-- The gradient of the decay: the sum of `s ∘ ds` over the key lanes. -/
def gradGl (s ds : St) : Ln := fun h v => ∑ k, s h k v * ds h k v
/-- The gradient of the state that the chunk begins with. -/
def prev (ds : St) (w : Rows) (qk : Sq) (qd kd : Rows) (gl : Ln) (o : Rows) : St := fun h k v =>
  (ds h k v * gl h v + ∑ c, qd h c k * o h c v) + ∑ c, w h c k * -gradU ds qk kd o h c v

/-- A state in a block of its own. -/
def st1B (x : FVec Ideal ⟨3, ![1, 1024, 128]⟩ .f32) : St := fun h k v => x (ix3 0 (hd h k) v)

/-- The chunk that the `n`-th step of the reversed scan treats. -/
def rchunk (n : ℕ) : Fin 32 := ⟨31 - n, by omega⟩

/-- The gradient of the state after chunk `31 − n`, from zero. -/
def dstate (w : FVec Ideal ⟨2, ![2048, 1024]⟩ .f32) (qk : FVec Ideal ⟨3, ![8, 2048, 64]⟩ .f32) (qd kd : FVec Ideal ⟨2, ![2048, 1024]⟩ .f32)
    (gl : FVec Ideal ⟨2, ![256, 1024]⟩ .f32) (o : FVec Ideal ⟨2, ![2048, 1024]⟩ .f32) : ℕ → St
  | 0 => fun _ _ _ => 0
  | n + 1 => prev (dstate w qk qd kd gl o n) (rowsAt w (rchunk n)) (sqAt qk (rchunk n)) (rowsAt qd (rchunk n)) (rowsAt kd (rchunk n)) (lnAt gl (rchunk n)) (rowsAt o (rchunk n))

/-- Eight heads' squares on top of each other, read at one head. -/
theorem concat_sq {x0 x1 x2 x3 x4 x5 x6 x7 : FVec Ideal ⟨3, ![1, 64, 64]⟩ .f32}
    {hc : Shape.Concatenates ([⟨⟨3, ![1, 64, 64]⟩, x0⟩, ⟨⟨3, ![1, 64, 64]⟩, x1⟩, ⟨⟨3, ![1, 64, 64]⟩, x2⟩, ⟨⟨3, ![1, 64, 64]⟩, x3⟩, ⟨⟨3, ![1, 64, 64]⟩, x4⟩, ⟨⟨3, ![1, 64, 64]⟩, x5⟩, ⟨⟨3, ![1, 64, 64]⟩, x6⟩, ⟨⟨3, ![1, 64, 64]⟩, x7⟩].map
      (fun p : (s : Shape) × (s.Idx → Ideal .f32) => p.1)) ⟨3, ![8, 64, 64]⟩ 0}
    {h : Fin 8} {k v : Fin 64} {y : EReal}
    (e0 : h = 0 → x0 (ix3 0 k v) = y) (e1 : h = 1 → x1 (ix3 0 k v) = y) (e2 : h = 2 → x2 (ix3 0 k v) = y) (e3 : h = 3 → x3 (ix3 0 k v) = y) (e4 : h = 4 → x4 (ix3 0 k v) = y) (e5 : h = 5 → x5 (ix3 0 k v) = y) (e6 : h = 6 → x6 (ix3 0 k v) = y) (e7 : h = 7 → x7 (ix3 0 k v) = y) :
    concatenate ⟨3, ![8, 64, 64]⟩ 0 [⟨⟨3, ![1, 64, 64]⟩, x0⟩, ⟨⟨3, ![1, 64, 64]⟩, x1⟩, ⟨⟨3, ![1, 64, 64]⟩, x2⟩, ⟨⟨3, ![1, 64, 64]⟩, x3⟩, ⟨⟨3, ![1, 64, 64]⟩, x4⟩, ⟨⟨3, ![1, 64, 64]⟩, x5⟩, ⟨⟨3, ![1, 64, 64]⟩, x6⟩, ⟨⟨3, ![1, 64, 64]⟩, x7⟩] hc (ix3 h k v) = y := by
  refine (concatenate_ofFn_apply (t := ⟨3, ![8, 64, 64]⟩) (s₁ := ⟨3, ![1, 64, 64]⟩) 0 ![x0, x1, x2, x3, x4, x5, x6, x7] hc rfl 1 rfl
    (ix3 h k v) h ?_ (ix3 0 k v) ?_ ?_).trans ?_
  · show h.val / 1 = h.val
    omega
  · show 0 = h.val % 1
    omega
  · intro b hb
    match b with
    | ⟨0, _⟩ => exact absurd rfl hb
    | ⟨1, _⟩ => rfl
    | ⟨2, _⟩ => rfl
  · fin_cases h
    exacts [e0 rfl, e1 rfl, e2 rfl, e3 rfl, e4 rfl, e5 rfl, e6 rfl, e7 rfl]

end Cert.Scan
end
-- ==== Proof.KPoints.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Back

@[expose] public section

/-! What one grid point of the backward scan leaves: the gradient of the state, and of each of the chunk's six operands. -/

set_option maxRecDepth 16384
noncomputable section
namespace Cert.KernelIdeal.Points
open Idealize.ShloMosaic Idealize.SL Idealize.SL.Sem Idealize.ShloMosaic.Pipeline
open Cert.KernelIdeal Cert.KernelIdeal.Gen
open Cert.Scan

variable (m : (ℓ : Loc nD τ sig) → Buf (Elt Ideal) ℓ)

set_option maxHeartbeats 4000000 in
/-- `du` after the first point. -/
theorem du_A (c : Dev nD) (t : Fin cfg0.N) (h0 : t.val % 32 = 0) (k : Fin 64) (h : Fin 8) (v : Fin 128) :
    (outsAt0 m c t.val t.isLt).1 (ix2 k (hd h v)) = gradU (fun _ _ _ => 0) (sqB (iblk m c 3 t)) (rowsB (iblk m c 5 t)) (rowsB (iblk m c 7 t)) h k v := by
  rw [outsAt0_A m c t h0]
  frame_open
  simp (disch := decide) only [↓ View.readCov_skip, ↓ View.readCov_cons_toLoadRect, ↓ View.readCov_fill]
  frame_out
  generalize iblk m c 3 t = X3
  generalize iblk m c 5 t = X5
  generalize iblk m c 7 t = X7
  unfold k0_pay138
  refine concat_rows ?_ ?_ ?_ ?_ ?_ ?_ ?_ ?_
  all_goals
    rintro rfl
    unfold_payloads
    pointwise [k0_pay4, zero_mul, mul_zero, Finset.sum_const_zero, zero_add, gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dw` after the first point. -/
theorem dw_A (c : Dev nD) (t : Fin cfg0.N) (h0 : t.val % 32 = 0) (k : Fin 64) (h : Fin 8) (v : Fin 128) :
    (outsAt0 m c t.val t.isLt).2.1 (ix2 k (hd h v)) = gradW (st1B (iblk m c 0 t)) (fun _ _ _ => 0) (sqB (iblk m c 3 t)) (rowsB (iblk m c 5 t)) (rowsB (iblk m c 7 t)) h k v := by
  rw [outsAt0_A m c t h0]
  frame_open
  simp (disch := decide) only [↓ View.readCov_skip, ↓ View.readCov_cons_toLoadRect, ↓ View.readCov_fill]
  frame_out
  generalize iblk m c 0 t = X0
  generalize iblk m c 3 t = X3
  generalize iblk m c 5 t = X5
  generalize iblk m c 7 t = X7
  unfold k0_pay139
  refine concat_rows ?_ ?_ ?_ ?_ ?_ ?_ ?_ ?_
  all_goals
    rintro rfl
    unfold_payloads
    pointwise [k0_pay4, zero_mul, mul_zero, Finset.sum_const_zero, zero_add, gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dqk` after the first point. -/
theorem dqk_A (c : Dev nD) (t : Fin cfg0.N) (h0 : t.val % 32 = 0) (h : Fin 8) (k v : Fin 64) :
    (outsAt0 m c t.val t.isLt).2.2.1 (ix3 h k v) = gradQk (st1B (iblk m c 0 t)) (rowsB (iblk m c 1 t)) (rowsB (iblk m c 2 t)) (rowsB (iblk m c 7 t)) h k v := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 7 t = X7
  unfold k0_pay140
  refine concat_sq ?_ ?_ ?_ ?_ ?_ ?_ ?_ ?_
  all_goals
    rintro rfl
    unfold_payloads
    pointwise [k0_pay4, zero_mul, mul_zero, Finset.sum_const_zero, zero_add, gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dqd` after the first point. -/
theorem dqd_A (c : Dev nD) (t : Fin cfg0.N) (h0 : t.val % 32 = 0) (k : Fin 64) (h : Fin 8) (v : Fin 128) :
    (outsAt0 m c t.val t.isLt).2.2.2.1 (ix2 k (hd h v)) = gradQd (st1B (iblk m c 0 t)) (rowsB (iblk m c 7 t)) h k v := by
  rw [outsAt0_A m c t h0]
  frame_open
  simp (disch := decide) only [↓ View.readCov_skip, ↓ View.readCov_cons_toLoadRect, ↓ View.readCov_fill]
  frame_out
  generalize iblk m c 0 t = X0
  generalize iblk m c 7 t = X7
  unfold k0_pay1
  refine concat_rows ?_ ?_ ?_ ?_ ?_ ?_ ?_ ?_
  all_goals
    rintro rfl
    unfold_payloads
    pointwise [k0_pay4, zero_mul, mul_zero, Finset.sum_const_zero, zero_add, gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dkd` after the first point. -/
theorem dkd_A (c : Dev nD) (t : Fin cfg0.N) (h0 : t.val % 32 = 0) (k : Fin 64) (h : Fin 8) (v : Fin 128) :
    (outsAt0 m c t.val t.isLt).2.2.2.2.1 (ix2 k (hd h v)) = gradKd (st1B (iblk m c 0 t)) (fun _ _ _ => 0) (rowsB (iblk m c 1 t)) (rowsB (iblk m c 2 t)) h k v := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  unfold k0_pay2
  refine concat_rows ?_ ?_ ?_ ?_ ?_ ?_ ?_ ?_
  all_goals
    rintro rfl
    unfold_payloads
    pointwise [k0_pay4, zero_mul, mul_zero, Finset.sum_const_zero, zero_add, gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dgl` after the first point. -/
theorem dgl_A (c : Dev nD) (t : Fin cfg0.N) (h0 : t.val % 32 = 0) (k : Fin 8) (h : Fin 8) (v : Fin 128) :
    (outsAt0 m c t.val t.isLt).2.2.2.2.2.1 (ix2 k (hd h v)) = if k = 0 then gradGl (st1B (iblk m c 0 t)) (fun _ _ _ => 0) h v else 0 := by
  rw [outsAt0_A m c t h0]
  frame_open
  simp (disch := decide) only [↓ View.readCov_skip, ↓ View.readCov_cons_toLoadRect, ↓ View.readCov_fill]
  frame_out
  generalize iblk m c 0 t = X0
  unfold k0_pay3
  refine concat_rows ?_ ?_ ?_ ?_ ?_ ?_ ?_ ?_
  all_goals
    rintro rfl
    unfold_payloads
    by_cases hk : k = 0
    · subst hk
      rw [if_pos rfl]
      pointwise [k0_pay4, zero_mul, mul_zero, Finset.sum_const_zero, zero_add, gradU, gradW, gradQk, gradQd, gradKd, gradGl, prev, vnew, st1B, stB, rowsB, sqB, lnB, zero_sub]
      first | done | rfl | (simp only [hd, Fin.val_zero, Nat.mul_zero, Nat.zero_add])
    · have hk' : ¬ k.val < 1 := fun h => hk (Fin.ext (by omega))
      rw [if_neg hk]
      pointwise [k0_pay4, zero_mul, mul_zero, Finset.sum_const_zero, zero_add, gradU, gradW, gradQk, gradQd, gradKd, gradGl, prev, vnew, st1B, stB, rowsB, sqB, lnB, zero_sub]
      first | done | rfl | rw [dif_neg hk']

set_option maxHeartbeats 4000000 in
/-- `ds` after the first point. -/
theorem ds_A (c : Dev nD) (t : Fin cfg0.N) (h0 : t.val % 32 = 0) (h : Fin 8) (k v : Fin 128) :
    (outsAt0 m c t.val t.isLt).2.2.2.2.2.2 (ix2 (hd h k) v) = prev (fun _ _ _ => 0) (rowsB (iblk m c 2 t)) (sqB (iblk m c 3 t)) (rowsB (iblk m c 4 t)) (rowsB (iblk m c 5 t)) (lnB (iblk m c 6 t)) (rowsB (iblk m c 7 t)) h k v := by
  rw [outsAt0_A m c t h0]
  frame_open
  simp (disch := decide) only [↓ View.readCov_skip, ↓ View.readCov_cons_toLoadRect, ↓ View.readCov_fill]
  frame_out
  generalize iblk m c 2 t = X2
  generalize iblk m c 3 t = X3
  generalize iblk m c 4 t = X4
  generalize iblk m c 5 t = X5
  generalize iblk m c 6 t = X6
  generalize iblk m c 7 t = X7
  refine (canon_drop [_] _ [_, _, _, _, _, _, _, _] (View.cover_of_tiledL _ ![128, 128] (by sl_kernel_rfl) _)).trans ?_
  canon_tiles x hx
  all_goals
    idx_vars x
    first | obtain ⟨rfl, rfl⟩ := of_hd_zero hx0 | obtain ⟨hlt, rfl, rfl⟩ := of_hd hx0 (by rfl)
    obtain rfl : v = _ := Fin.ext hx1
    unfold_payloads
    pointwise [k0_pay4, zero_mul, mul_zero, Finset.sum_const_zero, zero_add, gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `du` after a later point. -/
theorem du_B (c : Dev nD) (t : Fin cfg0.N) (h0 : ¬ t.val % 32 = 0) (k : Fin 64) (h : Fin 8) (v : Fin 128) :
    (outsAt0 m c t.val t.isLt).1 (ix2 k (hd h v)) = gradU (stB (outsAt0 m c (t.val - 1) (Nat.lt_of_le_of_lt (Nat.sub_le _ _) t.isLt)).2.2.2.2.2.2) (sqB (iblk m c 3 t)) (rowsB (iblk m c 5 t)) (rowsB (iblk m c 7 t)) h k v := by
  rw [outsAt0_B m c t h0]
  frame_open
  simp (disch := decide) only [↓ View.readCov_skip, ↓ View.readCov_cons_toLoadRect, ↓ View.readCov_fill]
  frame_out
  simp only [read_unread_whole]
  generalize (outsAt0 m c (t.val - 1) _).2.2.2.2.2.2 = D
  generalize iblk m c 3 t = X3
  generalize iblk m c 5 t = X5
  generalize iblk m c 7 t = X7
  unfold k0_pay138
  refine concat_rows ?_ ?_ ?_ ?_ ?_ ?_ ?_ ?_
  all_goals
    rintro rfl
    unfold_payloads
    pointwise [gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dw` after a later point. -/
theorem dw_B (c : Dev nD) (t : Fin cfg0.N) (h0 : ¬ t.val % 32 = 0) (k : Fin 64) (h : Fin 8) (v : Fin 128) :
    (outsAt0 m c t.val t.isLt).2.1 (ix2 k (hd h v)) = gradW (st1B (iblk m c 0 t)) (stB (outsAt0 m c (t.val - 1) (Nat.lt_of_le_of_lt (Nat.sub_le _ _) t.isLt)).2.2.2.2.2.2) (sqB (iblk m c 3 t)) (rowsB (iblk m c 5 t)) (rowsB (iblk m c 7 t)) h k v := by
  rw [outsAt0_B m c t h0]
  frame_open
  simp (disch := decide) only [↓ View.readCov_skip, ↓ View.readCov_cons_toLoadRect, ↓ View.readCov_fill]
  frame_out
  simp only [read_unread_whole]
  generalize (outsAt0 m c (t.val - 1) _).2.2.2.2.2.2 = D
  generalize iblk m c 0 t = X0
  generalize iblk m c 3 t = X3
  generalize iblk m c 5 t = X5
  generalize iblk m c 7 t = X7
  unfold k0_pay139
  refine concat_rows ?_ ?_ ?_ ?_ ?_ ?_ ?_ ?_
  all_goals
    rintro rfl
    unfold_payloads
    pointwise [gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dqk` after a later point. -/
theorem dqk_B (c : Dev nD) (t : Fin cfg0.N) (h0 : ¬ t.val % 32 = 0) (h : Fin 8) (k v : Fin 64) :
    (outsAt0 m c t.val t.isLt).2.2.1 (ix3 h k v) = gradQk (st1B (iblk m c 0 t)) (rowsB (iblk m c 1 t)) (rowsB (iblk m c 2 t)) (rowsB (iblk m c 7 t)) h k v := by
  rw [outsAt0_B m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 7 t = X7
  unfold k0_pay140
  refine concat_sq ?_ ?_ ?_ ?_ ?_ ?_ ?_ ?_
  all_goals
    rintro rfl
    unfold_payloads
    pointwise [gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dqd` after a later point. -/
theorem dqd_B (c : Dev nD) (t : Fin cfg0.N) (h0 : ¬ t.val % 32 = 0) (k : Fin 64) (h : Fin 8) (v : Fin 128) :
    (outsAt0 m c t.val t.isLt).2.2.2.1 (ix2 k (hd h v)) = gradQd (st1B (iblk m c 0 t)) (rowsB (iblk m c 7 t)) h k v := by
  rw [outsAt0_B m c t h0]
  frame_open
  simp (disch := decide) only [↓ View.readCov_skip, ↓ View.readCov_cons_toLoadRect, ↓ View.readCov_fill]
  frame_out
  generalize iblk m c 0 t = X0
  generalize iblk m c 7 t = X7
  unfold k0_pay1
  refine concat_rows ?_ ?_ ?_ ?_ ?_ ?_ ?_ ?_
  all_goals
    rintro rfl
    unfold_payloads
    pointwise [gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dkd` after a later point. -/
theorem dkd_B (c : Dev nD) (t : Fin cfg0.N) (h0 : ¬ t.val % 32 = 0) (k : Fin 64) (h : Fin 8) (v : Fin 128) :
    (outsAt0 m c t.val t.isLt).2.2.2.2.1 (ix2 k (hd h v)) = gradKd (st1B (iblk m c 0 t)) (stB (outsAt0 m c (t.val - 1) (Nat.lt_of_le_of_lt (Nat.sub_le _ _) t.isLt)).2.2.2.2.2.2) (rowsB (iblk m c 1 t)) (rowsB (iblk m c 2 t)) h k v := by
  rw [outsAt0_B m c t h0]
  frame_open
  simp (disch := decide) only [↓ View.readCov_skip, ↓ View.readCov_cons_toLoadRect, ↓ View.readCov_fill]
  frame_out
  simp only [read_unread_whole]
  generalize (outsAt0 m c (t.val - 1) _).2.2.2.2.2.2 = D
  generalize iblk m c 0 t = X0
  generalize iblk m c 1 t = X1
  generalize iblk m c 2 t = X2
  unfold k0_pay2
  refine concat_rows ?_ ?_ ?_ ?_ ?_ ?_ ?_ ?_
  all_goals
    rintro rfl
    unfold_payloads
    pointwise [gradU, gradW, gradQk, gradQd, gradKd, gradGl, prev, vnew, st1B, stB, rowsB, sqB, lnB, zero_sub]
    first | done | rfl | (simp only [hd, Fin.val_zero, Nat.mul_zero, Nat.zero_add])

set_option maxHeartbeats 4000000 in
/-- `dgl` after a later point. -/
theorem dgl_B (c : Dev nD) (t : Fin cfg0.N) (h0 : ¬ t.val % 32 = 0) (k : Fin 8) (h : Fin 8) (v : Fin 128) :
    (outsAt0 m c t.val t.isLt).2.2.2.2.2.1 (ix2 k (hd h v)) = if k = 0 then gradGl (st1B (iblk m c 0 t)) (stB (outsAt0 m c (t.val - 1) (Nat.lt_of_le_of_lt (Nat.sub_le _ _) t.isLt)).2.2.2.2.2.2) h v else 0 := by
  rw [outsAt0_B m c t h0]
  frame_open
  simp (disch := decide) only [↓ View.readCov_skip, ↓ View.readCov_cons_toLoadRect, ↓ View.readCov_fill]
  frame_out
  simp only [read_unread_whole]
  generalize (outsAt0 m c (t.val - 1) _).2.2.2.2.2.2 = D
  generalize iblk m c 0 t = X0
  unfold k0_pay3
  refine concat_rows ?_ ?_ ?_ ?_ ?_ ?_ ?_ ?_
  all_goals
    rintro rfl
    unfold_payloads
    by_cases hk : k = 0
    · subst hk
      rw [if_pos rfl]
      pointwise [gradU, gradW, gradQk, gradQd, gradKd, gradGl, prev, vnew, st1B, stB, rowsB, sqB, lnB, zero_sub]
      first | done | rfl | (simp only [hd, Fin.val_zero, Nat.mul_zero, Nat.zero_add])
    · have hk' : ¬ k.val < 1 := fun h => hk (Fin.ext (by omega))
      rw [if_neg hk]
      pointwise [gradU, gradW, gradQk, gradQd, gradKd, gradGl, prev, vnew, st1B, stB, rowsB, sqB, lnB, zero_sub]
      first | done | rfl | rw [dif_neg hk']

set_option maxHeartbeats 4000000 in
/-- `ds` after a later point. -/
theorem ds_B (c : Dev nD) (t : Fin cfg0.N) (h0 : ¬ t.val % 32 = 0) (h : Fin 8) (k v : Fin 128) :
    (outsAt0 m c t.val t.isLt).2.2.2.2.2.2 (ix2 (hd h k) v) = prev (stB (outsAt0 m c (t.val - 1) (Nat.lt_of_le_of_lt (Nat.sub_le _ _) t.isLt)).2.2.2.2.2.2) (rowsB (iblk m c 2 t)) (sqB (iblk m c 3 t)) (rowsB (iblk m c 4 t)) (rowsB (iblk m c 5 t)) (lnB (iblk m c 6 t)) (rowsB (iblk m c 7 t)) h k v := by
  rw [outsAt0_B m c t h0]
  frame_open
  simp (disch := decide) only [↓ View.readCov_skip, ↓ View.readCov_cons_toLoadRect, ↓ View.readCov_fill]
  frame_out
  simp only [read_unread_whole]
  generalize (outsAt0 m c (t.val - 1) _).2.2.2.2.2.2 = D
  generalize iblk m c 2 t = X2
  generalize iblk m c 3 t = X3
  generalize iblk m c 4 t = X4
  generalize iblk m c 5 t = X5
  generalize iblk m c 6 t = X6
  generalize iblk m c 7 t = X7
  canon_tiles x hx
  all_goals
    idx_vars x
    first | obtain ⟨rfl, rfl⟩ := of_hd_zero hx0 | obtain ⟨hlt, rfl, rfl⟩ := of_hd hx0 (by rfl)
    obtain rfl : v = _ := Fin.ext hx1
    unfold_payloads
    pointwise [gradU, gradW, gradQk, gradQd, gradKd, gradGl, prev, vnew, st1B, stB, rowsB, sqB, lnB, zero_sub]
    first | done | rfl | (simp only [hd, Fin.val_zero, Nat.mul_zero, Nat.zero_add])

end Cert.KernelIdeal.Points
end
-- ==== Proof.Arrays.lean ====
module

public import proofs.«01_k».proof.Proof.Back

@[expose] public section

/-! The arrays of all chunks' squares, and of all chunks' gradients of the decay. -/

noncomputable section
namespace Cert.Scan
open Idealize.ShloMosaic

/-- The array of squares whose chunk `n` is `f n`. -/
def sqOf (f : Fin 32 → Sq) : FVec Ideal ⟨3, ![8, 2048, 64]⟩ .f32 := fun i =>
  f (chunkOf (i 1)) (i 0) (inChunk (i 1)) (i 2)

theorem sqOf_at (f : Fin 32 → Sq) (n : Fin 32) (h : Fin 8) (c j : Fin 64) : sqOf f (ix3 h (row n c) j) = f n h c j := by
  show f (chunkOf (row n c)) h (inChunk (row n c)) j = _
  rw [chunkOf_row, inChunk_row]

/-- Row `r` of the eight rows that chunk `n` has in the decay's array. -/
def rowr (n : Fin 32) (r : Fin 8) : Fin 256 := ⟨8 * n.val + r.val, by omega⟩
theorem exists_rowr (i : Fin 256) : ∃ n r, i = rowr n r :=
  ⟨⟨i.val / 8, by omega⟩, ⟨i.val % 8, by omega⟩, Fin.ext (by simp only [rowr]; omega)⟩
def chunkOf8 (i : Fin 256) : Fin 32 := ⟨i.val / 8, by omega⟩
def in8 (i : Fin 256) : Fin 8 := ⟨i.val % 8, by omega⟩
theorem chunkOf8_rowr (n : Fin 32) (r : Fin 8) : chunkOf8 (rowr n r) = n := Fin.ext (by simp only [chunkOf8, rowr]; omega)
theorem in8_rowr (n : Fin 32) (r : Fin 8) : in8 (rowr n r) = r := Fin.ext (by simp only [in8, rowr]; omega)

/-- The array of 256 rows whose rows `8n` are `f n` and whose other rows are zero. -/
def lnOf (f : Fin 32 → Ln) : FVec Ideal ⟨2, ![256, 1024]⟩ .f32 := fun i =>
  if in8 (i 0) = 0 then f (chunkOf8 (i 0)) (headOf (i 1)) (laneOf (i 1)) else 0

theorem lnOf_at (f : Fin 32 → Ln) (n : Fin 32) (r h : Fin 8) (v : Fin 128) :
    lnOf f (ix2 (rowr n r) (hd h v)) = if r = 0 then f n h v else 0 := by
  show (if in8 (rowr n r) = 0 then f (chunkOf8 (rowr n r)) (headOf (hd h v)) (laneOf (hd h v)) else 0) = _
  rw [in8_rowr, chunkOf8_rowr, headOf_hd, laneOf_hd]

end Cert.Scan
end
-- ==== Proof.KValue.lean ====
module

public import proofs.«01_k».proof.Proof.Gen.KernelIdeal.Value
public import proofs.«01_k».proof.Proof.KPoints
public import proofs.«01_k».proof.Proof.Arrays

@[expose] public section

/-! What the backward scan's six arrays hold after the run. -/

set_option maxRecDepth 16384
noncomputable section
namespace Cert.KernelIdeal.Points
open Idealize.ShloMosaic Idealize.SL Idealize.SL.Sem Idealize.ShloMosaic.Pipeline
open Cert.KernelIdeal Cert.KernelIdeal.Gen
open Cert.Scan

variable (m : (ℓ : Loc nD τ sig) → Buf (Elt Ideal) ℓ)

/-- Which block of each array point `t` reads and writes. -/
theorem idx : ∀ t : Fin cfg0.N, (win0_0.index t = ![31 - t.val, 0, 0] ∧ win0_1.index t = ![31 - t.val, 0] ∧ win0_2.index t = ![31 - t.val, 0] ∧ win0_3.index t = ![0, 31 - t.val, 0] ∧ win0_4.index t = ![31 - t.val, 0] ∧ win0_5.index t = ![31 - t.val, 0] ∧ win0_6.index t = ![31 - t.val, 0] ∧ win0_7.index t = ![31 - t.val, 0] ∧ win0_8.index t = ![31 - t.val, 0] ∧ win0_9.index t = ![31 - t.val, 0] ∧ win0_10.index t = ![0, 31 - t.val, 0] ∧ win0_11.index t = ![31 - t.val, 0] ∧ win0_12.index t = ![31 - t.val, 0] ∧ win0_13.index t = ![31 - t.val, 0]) :=
  (by decide +kernel : ∀ t : Fin grid0.N, _)

/-- The arguments, by name. -/
abbrev arg_s (c : Dev nD) : FVec Ideal ⟨3, ![32, 1024, 128]⟩ .f32 := m ((c.tc : Thread nD τ).loc main_arg0)
abbrev arg_u (c : Dev nD) : FVec Ideal ⟨2, ![2048, 1024]⟩ .f32 := m ((c.tc : Thread nD τ).loc main_arg1)
abbrev arg_w (c : Dev nD) : FVec Ideal ⟨2, ![2048, 1024]⟩ .f32 := m ((c.tc : Thread nD τ).loc main_arg2)
abbrev arg_qk (c : Dev nD) : FVec Ideal ⟨3, ![8, 2048, 64]⟩ .f32 := m ((c.tc : Thread nD τ).loc main_arg3)
abbrev arg_qd (c : Dev nD) : FVec Ideal ⟨2, ![2048, 1024]⟩ .f32 := m ((c.tc : Thread nD τ).loc main_arg4)
abbrev arg_kd (c : Dev nD) : FVec Ideal ⟨2, ![2048, 1024]⟩ .f32 := m ((c.tc : Thread nD τ).loc main_arg5)
abbrev arg_gl (c : Dev nD) : FVec Ideal ⟨2, ![256, 1024]⟩ .f32 := m ((c.tc : Thread nD τ).loc main_arg6)
abbrev arg_o (c : Dev nD) : FVec Ideal ⟨2, ![2048, 1024]⟩ .f32 := m ((c.tc : Thread nD τ).loc main_arg7)

/-- Point `t` reads chunk `31 − t` of `s`. -/
theorem blk0 (c : Dev nD) (t : Fin cfg0.N) : st1B (iblk m c 0 t) = stAt (arg_s m c) (rchunk t.val) := by
  have ht : t.val < 32 := t.isLt
  funext h k v
  obtain ⟨e0, e1, e2, e3, e4, e5, e6, e7, e8, e9, e10, e11, e12, e13⟩ := idx t
  simp only [st1B, stAt, hd]
  blk_ext [iblk, V, e0, row, row8, rchunk]

/-- Point `t` reads chunk `31 − t` of `u`. -/
theorem blk1 (c : Dev nD) (t : Fin cfg0.N) : rowsB (iblk m c 1 t) = rowsAt (arg_u m c) (rchunk t.val) := by
  have ht : t.val < 32 := t.isLt
  funext h k v
  obtain ⟨e0, e1, e2, e3, e4, e5, e6, e7, e8, e9, e10, e11, e12, e13⟩ := idx t
  simp only [rowsB, rowsAt, hd]
  blk_ext [iblk, V, e1, row, row8, rchunk]

/-- Point `t` reads chunk `31 − t` of `w`. -/
theorem blk2 (c : Dev nD) (t : Fin cfg0.N) : rowsB (iblk m c 2 t) = rowsAt (arg_w m c) (rchunk t.val) := by
  have ht : t.val < 32 := t.isLt
  funext h k v
  obtain ⟨e0, e1, e2, e3, e4, e5, e6, e7, e8, e9, e10, e11, e12, e13⟩ := idx t
  simp only [rowsB, rowsAt, hd]
  blk_ext [iblk, V, e2, row, row8, rchunk]

/-- Point `t` reads chunk `31 − t` of `qk`. -/
theorem blk3 (c : Dev nD) (t : Fin cfg0.N) : sqB (iblk m c 3 t) = sqAt (arg_qk m c) (rchunk t.val) := by
  have ht : t.val < 32 := t.isLt
  funext h k v
  obtain ⟨e0, e1, e2, e3, e4, e5, e6, e7, e8, e9, e10, e11, e12, e13⟩ := idx t
  simp only [sqB, sqAt, hd]
  blk_ext [iblk, V, e3, row, row8, rchunk]

/-- Point `t` reads chunk `31 − t` of `qd`. -/
theorem blk4 (c : Dev nD) (t : Fin cfg0.N) : rowsB (iblk m c 4 t) = rowsAt (arg_qd m c) (rchunk t.val) := by
  have ht : t.val < 32 := t.isLt
  funext h k v
  obtain ⟨e0, e1, e2, e3, e4, e5, e6, e7, e8, e9, e10, e11, e12, e13⟩ := idx t
  simp only [rowsB, rowsAt, hd]
  blk_ext [iblk, V, e4, row, row8, rchunk]

/-- Point `t` reads chunk `31 − t` of `kd`. -/
theorem blk5 (c : Dev nD) (t : Fin cfg0.N) : rowsB (iblk m c 5 t) = rowsAt (arg_kd m c) (rchunk t.val) := by
  have ht : t.val < 32 := t.isLt
  funext h k v
  obtain ⟨e0, e1, e2, e3, e4, e5, e6, e7, e8, e9, e10, e11, e12, e13⟩ := idx t
  simp only [rowsB, rowsAt, hd]
  blk_ext [iblk, V, e5, row, row8, rchunk]

/-- Point `t` reads chunk `31 − t` of `gl`. -/
theorem blk6 (c : Dev nD) (t : Fin cfg0.N) : lnB (iblk m c 6 t) = lnAt (arg_gl m c) (rchunk t.val) := by
  have ht : t.val < 32 := t.isLt
  funext h v
  obtain ⟨e0, e1, e2, e3, e4, e5, e6, e7, e8, e9, e10, e11, e12, e13⟩ := idx t
  simp only [lnB, lnAt, hd]
  blk_ext [iblk, V, e6, row, row8, rchunk]

/-- Point `t` reads chunk `31 − t` of `o`. -/
theorem blk7 (c : Dev nD) (t : Fin cfg0.N) : rowsB (iblk m c 7 t) = rowsAt (arg_o m c) (rchunk t.val) := by
  have ht : t.val < 32 := t.isLt
  funext h k v
  obtain ⟨e0, e1, e2, e3, e4, e5, e6, e7, e8, e9, e10, e11, e12, e13⟩ := idx t
  simp only [rowsB, rowsAt, hd]
  blk_ext [iblk, V, e7, row, row8, rchunk]

/-- The gradient of the state after point `n`. -/
theorem ds_eq (c : Dev nD) : ∀ (n : ℕ) (hn : n < cfg0.N),
    stB (outsAt0 m c n hn).2.2.2.2.2.2 = dstate (arg_w m c) (arg_qk m c) (arg_qd m c) (arg_kd m c) (arg_gl m c) (arg_o m c) (n + 1)
  | 0, hn => by
    funext h k v
    rw [stB, ds_A m c ⟨0, hn⟩ rfl h k v, blk2, blk3, blk4, blk5, blk6, blk7, dstate, dstate]
  | n + 1, hn => by
    have hn' : n + 1 < 32 := hn
    funext h k v
    rw [stB, ds_B m c ⟨n + 1, hn⟩ (by show ¬ (n + 1) % 32 = 0; omega) h k v, blk2, blk3, blk4, blk5, blk6, blk7, dstate]
    exact congrArg (fun S => prev S _ _ _ _ _ _ h k v) (ds_eq c n (by omega))

/-- `du` after point `t`. -/
theorem du_eq (c : Dev nD) (t : Fin cfg0.N) (k : Fin 64) (h : Fin 8) (v : Fin 128) :
    (outsAt0 m c t.val t.isLt).1 (ix2 k (hd h v)) = gradU (dstate (arg_w m c) (arg_qk m c) (arg_qd m c) (arg_kd m c) (arg_gl m c) (arg_o m c) t.val) (sqAt (arg_qk m c) (rchunk t.val)) (rowsAt (arg_kd m c) (rchunk t.val)) (rowsAt (arg_o m c) (rchunk t.val)) h k v := by
  have ht : t.val < 32 := t.isLt
  by_cases h0 : t.val % 32 = 0
  · have e : t.val = 0 := by omega
    rw [du_A m c t h0, blk3, blk5, blk7, e, dstate]
  · rw [du_B m c t h0, blk3, blk5, blk7, ds_eq, show t.val - 1 + 1 = t.val by omega]

/-- `du` of all chunks. -/
def all_du (c : Dev nD) : Fin 32 → Rows := fun n => gradU (dstate (arg_w m c) (arg_qk m c) (arg_qd m c) (arg_kd m c) (arg_gl m c) (arg_o m c) (31 - n.val)) (sqAt (arg_qk m c) n) (rowsAt (arg_kd m c) n) (rowsAt (arg_o m c) n)

/-- The array of `du` after the run. -/
theorem arr8 (c : Dev nD) : (dats m 0 c).arrAt 8 cfg0.N = rowsOf (all_du m c) := by
  refine (dats m 0 c).arrAt_eq_of_covers 8 _ (by decide +kernel) fun t hf y => ?_
  have ht : t.val < 32 := t.isLt
  obtain ⟨e0, e1, e2, e3, e4, e5, e6, e7, e8, e9, e10, e11, e12, e13⟩ := idx t
  blk_simp
  rw [after0_8]
  idx_vars y
  obtain ⟨h, v, rfl⟩ := exists_hd y1
  refine (du_eq m c t y0 h v).trans ?_
  have e : ((cfg0.win 8).blk t).view.emb (ix2 y0 (hd h v)) = ix2 (row (rchunk t.val) y0) (hd h v) := by
    blk_ext [e8, row, rowr, rchunk]
  rw [e, rowsOf_at]
  rw [all_du, show 31 - (rchunk t.val).val = t.val by simp only [rchunk]; omega]

/-- `dw` after point `t`. -/
theorem dw_eq (c : Dev nD) (t : Fin cfg0.N) (k : Fin 64) (h : Fin 8) (v : Fin 128) :
    (outsAt0 m c t.val t.isLt).2.1 (ix2 k (hd h v)) = gradW (stAt (arg_s m c) (rchunk t.val)) (dstate (arg_w m c) (arg_qk m c) (arg_qd m c) (arg_kd m c) (arg_gl m c) (arg_o m c) t.val) (sqAt (arg_qk m c) (rchunk t.val)) (rowsAt (arg_kd m c) (rchunk t.val)) (rowsAt (arg_o m c) (rchunk t.val)) h k v := by
  have ht : t.val < 32 := t.isLt
  by_cases h0 : t.val % 32 = 0
  · have e : t.val = 0 := by omega
    rw [dw_A m c t h0, blk0, blk3, blk5, blk7, e, dstate]
  · rw [dw_B m c t h0, blk0, blk3, blk5, blk7, ds_eq, show t.val - 1 + 1 = t.val by omega]

/-- `dw` of all chunks. -/
def all_dw (c : Dev nD) : Fin 32 → Rows := fun n => gradW (stAt (arg_s m c) n) (dstate (arg_w m c) (arg_qk m c) (arg_qd m c) (arg_kd m c) (arg_gl m c) (arg_o m c) (31 - n.val)) (sqAt (arg_qk m c) n) (rowsAt (arg_kd m c) n) (rowsAt (arg_o m c) n)

/-- The array of `dw` after the run. -/
theorem arr9 (c : Dev nD) : (dats m 0 c).arrAt 9 cfg0.N = rowsOf (all_dw m c) := by
  refine (dats m 0 c).arrAt_eq_of_covers 9 _ (by decide +kernel) fun t hf y => ?_
  have ht : t.val < 32 := t.isLt
  obtain ⟨e0, e1, e2, e3, e4, e5, e6, e7, e8, e9, e10, e11, e12, e13⟩ := idx t
  blk_simp
  rw [after0_9]
  idx_vars y
  obtain ⟨h, v, rfl⟩ := exists_hd y1
  refine (dw_eq m c t y0 h v).trans ?_
  have e : ((cfg0.win 9).blk t).view.emb (ix2 y0 (hd h v)) = ix2 (row (rchunk t.val) y0) (hd h v) := by
    blk_ext [e9, row, rowr, rchunk]
  rw [e, rowsOf_at]
  rw [all_dw, show 31 - (rchunk t.val).val = t.val by simp only [rchunk]; omega]

/-- `dqk` after point `t`. -/
theorem dqk_eq (c : Dev nD) (t : Fin cfg0.N) (h : Fin 8) (k v : Fin 64) :
    (outsAt0 m c t.val t.isLt).2.2.1 (ix3 h k v) = gradQk (stAt (arg_s m c) (rchunk t.val)) (rowsAt (arg_u m c) (rchunk t.val)) (rowsAt (arg_w m c) (rchunk t.val)) (rowsAt (arg_o m c) (rchunk t.val)) h k v := by
  have ht : t.val < 32 := t.isLt
  by_cases h0 : t.val % 32 = 0
  · have e : t.val = 0 := by omega
    rw [dqk_A m c t h0, blk0, blk1, blk2, blk7]
  · rw [dqk_B m c t h0, blk0, blk1, blk2, blk7]

/-- `dqk` of all chunks. -/
def all_dqk (c : Dev nD) : Fin 32 → Sq := fun n => gradQk (stAt (arg_s m c) n) (rowsAt (arg_u m c) n) (rowsAt (arg_w m c) n) (rowsAt (arg_o m c) n)

/-- The array of `dqk` after the run. -/
theorem arr10 (c : Dev nD) : (dats m 0 c).arrAt 10 cfg0.N = sqOf (all_dqk m c) := by
  refine (dats m 0 c).arrAt_eq_of_covers 10 _ (by decide +kernel) fun t hf y => ?_
  have ht : t.val < 32 := t.isLt
  obtain ⟨e0, e1, e2, e3, e4, e5, e6, e7, e8, e9, e10, e11, e12, e13⟩ := idx t
  blk_simp
  rw [after0_10]
  idx_vars y
  refine (dqk_eq m c t y0 y1 y2).trans ?_
  have e : ((cfg0.win 10).blk t).view.emb (ix3 y0 y1 y2) = ix3 y0 (row (rchunk t.val) y1) y2 := by
    blk_ext [e10, row, rowr, rchunk]
  rw [e, sqOf_at]
  rw [all_dqk]

/-- `dqd` after point `t`. -/
theorem dqd_eq (c : Dev nD) (t : Fin cfg0.N) (k : Fin 64) (h : Fin 8) (v : Fin 128) :
    (outsAt0 m c t.val t.isLt).2.2.2.1 (ix2 k (hd h v)) = gradQd (stAt (arg_s m c) (rchunk t.val)) (rowsAt (arg_o m c) (rchunk t.val)) h k v := by
  have ht : t.val < 32 := t.isLt
  by_cases h0 : t.val % 32 = 0
  · have e : t.val = 0 := by omega
    rw [dqd_A m c t h0, blk0, blk7]
  · rw [dqd_B m c t h0, blk0, blk7]

/-- `dqd` of all chunks. -/
def all_dqd (c : Dev nD) : Fin 32 → Rows := fun n => gradQd (stAt (arg_s m c) n) (rowsAt (arg_o m c) n)

/-- The array of `dqd` after the run. -/
theorem arr11 (c : Dev nD) : (dats m 0 c).arrAt 11 cfg0.N = rowsOf (all_dqd m c) := by
  refine (dats m 0 c).arrAt_eq_of_covers 11 _ (by decide +kernel) fun t hf y => ?_
  have ht : t.val < 32 := t.isLt
  obtain ⟨e0, e1, e2, e3, e4, e5, e6, e7, e8, e9, e10, e11, e12, e13⟩ := idx t
  blk_simp
  rw [after0_11]
  idx_vars y
  obtain ⟨h, v, rfl⟩ := exists_hd y1
  refine (dqd_eq m c t y0 h v).trans ?_
  have e : ((cfg0.win 11).blk t).view.emb (ix2 y0 (hd h v)) = ix2 (row (rchunk t.val) y0) (hd h v) := by
    blk_ext [e11, row, rowr, rchunk]
  rw [e, rowsOf_at]
  rw [all_dqd]

/-- `dkd` after point `t`. -/
theorem dkd_eq (c : Dev nD) (t : Fin cfg0.N) (k : Fin 64) (h : Fin 8) (v : Fin 128) :
    (outsAt0 m c t.val t.isLt).2.2.2.2.1 (ix2 k (hd h v)) = gradKd (stAt (arg_s m c) (rchunk t.val)) (dstate (arg_w m c) (arg_qk m c) (arg_qd m c) (arg_kd m c) (arg_gl m c) (arg_o m c) t.val) (rowsAt (arg_u m c) (rchunk t.val)) (rowsAt (arg_w m c) (rchunk t.val)) h k v := by
  have ht : t.val < 32 := t.isLt
  by_cases h0 : t.val % 32 = 0
  · have e : t.val = 0 := by omega
    rw [dkd_A m c t h0, blk0, blk1, blk2, e, dstate]
  · rw [dkd_B m c t h0, blk0, blk1, blk2, ds_eq, show t.val - 1 + 1 = t.val by omega]

/-- `dkd` of all chunks. -/
def all_dkd (c : Dev nD) : Fin 32 → Rows := fun n => gradKd (stAt (arg_s m c) n) (dstate (arg_w m c) (arg_qk m c) (arg_qd m c) (arg_kd m c) (arg_gl m c) (arg_o m c) (31 - n.val)) (rowsAt (arg_u m c) n) (rowsAt (arg_w m c) n)

/-- The array of `dkd` after the run. -/
theorem arr12 (c : Dev nD) : (dats m 0 c).arrAt 12 cfg0.N = rowsOf (all_dkd m c) := by
  refine (dats m 0 c).arrAt_eq_of_covers 12 _ (by decide +kernel) fun t hf y => ?_
  have ht : t.val < 32 := t.isLt
  obtain ⟨e0, e1, e2, e3, e4, e5, e6, e7, e8, e9, e10, e11, e12, e13⟩ := idx t
  blk_simp
  rw [after0_12]
  idx_vars y
  obtain ⟨h, v, rfl⟩ := exists_hd y1
  refine (dkd_eq m c t y0 h v).trans ?_
  have e : ((cfg0.win 12).blk t).view.emb (ix2 y0 (hd h v)) = ix2 (row (rchunk t.val) y0) (hd h v) := by
    blk_ext [e12, row, rowr, rchunk]
  rw [e, rowsOf_at]
  rw [all_dkd, show 31 - (rchunk t.val).val = t.val by simp only [rchunk]; omega]

/-- `dgl` after point `t`. -/
theorem dgl_eq (c : Dev nD) (t : Fin cfg0.N) (k : Fin 8) (h : Fin 8) (v : Fin 128) :
    (outsAt0 m c t.val t.isLt).2.2.2.2.2.1 (ix2 k (hd h v)) = if k = 0 then gradGl (stAt (arg_s m c) (rchunk t.val)) (dstate (arg_w m c) (arg_qk m c) (arg_qd m c) (arg_kd m c) (arg_gl m c) (arg_o m c) t.val) h v else 0 := by
  have ht : t.val < 32 := t.isLt
  by_cases h0 : t.val % 32 = 0
  · have e : t.val = 0 := by omega
    rw [dgl_A m c t h0, blk0, e, dstate]
  · rw [dgl_B m c t h0, blk0, ds_eq, show t.val - 1 + 1 = t.val by omega]

/-- `dgl` of all chunks. -/
def all_dgl (c : Dev nD) : Fin 32 → Ln := fun n => gradGl (stAt (arg_s m c) n) (dstate (arg_w m c) (arg_qk m c) (arg_qd m c) (arg_kd m c) (arg_gl m c) (arg_o m c) (31 - n.val))

/-- The array of `dgl` after the run. -/
theorem arr13 (c : Dev nD) : (dats m 0 c).arrAt 13 cfg0.N = lnOf (all_dgl m c) := by
  refine (dats m 0 c).arrAt_eq_of_covers 13 _ (by decide +kernel) fun t hf y => ?_
  have ht : t.val < 32 := t.isLt
  obtain ⟨e0, e1, e2, e3, e4, e5, e6, e7, e8, e9, e10, e11, e12, e13⟩ := idx t
  blk_simp
  rw [after0_13]
  idx_vars y
  obtain ⟨h, v, rfl⟩ := exists_hd y1
  refine (dgl_eq m c t y0 h v).trans ?_
  have e : ((cfg0.win 13).blk t).view.emb (ix2 y0 (hd h v)) = ix2 (rowr (rchunk t.val) y0) (hd h v) := by
    blk_ext [e13, row, rowr, rchunk]
  rw [e, lnOf_at]
  rw [all_dgl, show 31 - (rchunk t.val).val = t.val by simp only [rchunk]; omega]

/-- The run: the six arrays it leaves, the arguments unchanged. -/
theorem run (ρ : Dev nD → PrngReg) : θ_run defs (onTc (τ := τ) (main (F := Ideal))) ⟨m, fun _ => 0, ρ⟩ fun r => ∀ c : Dev nD,
r.2.mem ((c.tc : Thread nD τ).loc main_v0_0) = rowsOf (all_du m c)
      ∧ r.2.mem ((c.tc : Thread nD τ).loc main_v0_1) = rowsOf (all_dw m c)
      ∧ r.2.mem ((c.tc : Thread nD τ).loc main_v0_2) = sqOf (all_dqk m c)
      ∧ r.2.mem ((c.tc : Thread nD τ).loc main_v0_3) = rowsOf (all_dqd m c)
      ∧ r.2.mem ((c.tc : Thread nD τ).loc main_v0_4) = rowsOf (all_dkd m c)
      ∧ r.2.mem ((c.tc : Thread nD τ).loc main_v0_5) = lnOf (all_dgl m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (arr8 m c), (h c).2.1.trans (arr9 m c), (h c).2.2.1.trans (arr10 m c), (h c).2.2.2.1.trans (arr11 m c), (h c).2.2.2.2.1.trans (arr12 m c), (h c).2.2.2.2.2.1.trans (arr13 m c), (h c).2.2.2.2.2.2⟩) (Value.run_blocks m ρ)

end Cert.KernelIdeal.Points
end
-- ==== Proof.RRun.lean ====
module

public import proofs.«01_k».proof.Proof.Gen.ReferenceIdeal.Run
public import proofs.«01_k».proof.Proof.Gen.ReferenceIdeal.Step

@[expose] public section

/-! The reference's loop as one step function iterated from a first state: the generated run of the loop, read at a state. The lemmas are the
generated ones; a trip's step is compared with the step function by definition. -/

noncomputable section

namespace Cert.ReferenceIdeal.Iterated

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v23_9) = s.main_v23_9
  f_10 : V0 (Proc.devRef .tc main_v23_10) = s.main_v23_10
  f_11 : V0 (Proc.devRef .tc main_v23_11) = s.main_v23_11
  f_12 : V0 (Proc.devRef .tc main_v23_12) = s.main_v23_12
  f_13 : V0 (Proc.devRef .tc main_v23_13) = s.main_v23_13
  f_14 : V0 (Proc.devRef .tc main_v23_14) = s.main_v23_14
  f_15 : V0 (Proc.devRef .tc main_v23_15) = s.main_v23_15
  f_0 : V0 (Proc.devRef .tc main_v23_0) = s.main_v23_0
  f_1 : V0 (Proc.devRef .tc main_v23_1) = s.main_v23_1
  f_2 : V0 (Proc.devRef .tc main_v23_2) = s.main_v23_2
  f_3 : V0 (Proc.devRef .tc main_v23_3) = s.main_v23_3
  f_4 : V0 (Proc.devRef .tc main_v23_4) = s.main_v23_4
  f_5 : V0 (Proc.devRef .tc main_v23_5) = s.main_v23_5
  f_6 : V0 (Proc.devRef .tc main_v23_6) = s.main_v23_6
  f_7 : V0 (Proc.devRef .tc main_v23_7) = s.main_v23_7
  n_8 : V0 (Proc.devRef .tc main_v23_8) = constantI S_ 32 (BitVec.ofNat 32 j)

variable {V0 s j}

set_option maxRecDepth 8192 in
theorem al_0 (h : Holds V0 s j) : (constantI S_ 32 32#32 : (Proc.devRef .tc main_while0b_c_22 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 32#32) (V0 (Proc.devRef .tc main_v23_8)) : (Proc.devRef .tc main_while0b_v37 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_23 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v38 V0 : (Proc.devRef .tc main_while0b_v38 : DevRef τ sig).ty.Contents (Elt F)) = Cert.ReferenceIdeal.Step.b3 j s := by
  unfold res_main_while0b_v38 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x8x128x128 (V0 (Proc.devRef .tc main_v23_0)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x8x128x128_S1x8x128x128 : (Proc.devRef .tc main_while0b_call0_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v39 V0 : (Proc.devRef .tc main_while0b_v39 : DevRef τ sig).ty.Contents (Elt F)) = Cert.ReferenceIdeal.Step.b8 j s := by
  unfold res_main_while0b_v39 Cert.ReferenceIdeal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call1_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x8x64x128 (V0 (Proc.devRef .tc main_v23_1)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x8x64x128_S1x8x64x128 : (Proc.devRef .tc main_while0b_call1_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (res_main_while0b_v40 V0 : (Proc.devRef .tc main_while0b_v40 : DevRef τ sig).ty.Contents (Elt F)) = Cert.ReferenceIdeal.Step.b13 j s := by
  unfold res_main_while0b_v40 Cert.ReferenceIdeal.Step.b13
  rw [← al_12 h]
  try rfl
set_option maxRecDepth 8192 in
theorem al_14 (h : Holds V0 s j) : (constantI S_ 32 0#32 : (Proc.devRef .tc main_while0b_call2_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call2_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x8x64x128 (V0 (Proc.devRef .tc main_v23_2)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x8x64x128_S1x8x64x128 : (Proc.devRef .tc main_while0b_call2_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (shapeCast S8x64x128 (Host.dynamicSlice S1x8x64x128 (V0 (Proc.devRef .tc main_v23_2)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128 : (Proc.devRef .tc main_while0b_v41 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call3_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x8x64x128 (V0 (Proc.devRef .tc main_v23_3)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x8x64x128_S1x8x64x128 : (Proc.devRef .tc main_while0b_call3_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (res_main_while0b_v42 V0 : (Proc.devRef .tc main_while0b_v42 : DevRef τ sig).ty.Contents (Elt F)) = Cert.ReferenceIdeal.Step.b23 j s := by
  unfold res_main_while0b_v42 Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x8x64x64 (V0 (Proc.devRef .tc main_v23_4)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x8x64x64_S1x8x64x64 : (Proc.devRef .tc main_while0b_call4_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (res_main_while0b_v43 V0 : (Proc.devRef .tc main_while0b_v43 : DevRef τ sig).ty.Contents (Elt F)) = Cert.ReferenceIdeal.Step.b28 j s := by
  unfold res_main_while0b_v43 Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x8x64x128 (V0 (Proc.devRef .tc main_v23_5)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x8x64x128_S1x8x64x128 : (Proc.devRef .tc main_while0b_call5_v0 : DevRef τ sig).ty.Contents (Elt F)) = Cert.ReferenceIdeal.Step.b32 j s := by
  unfold Cert.ReferenceIdeal.Step.b32
  rw [← al_3 h, ← al_29 h, ← al_30 h, ← al_31 h, h.f_5]
  try rfl
set_option maxRecDepth 8192 in
theorem al_33 (h : Holds V0 s j) : (res_main_while0b_v44 V0 : (Proc.devRef .tc main_while0b_v44 : DevRef τ sig).ty.Contents (Elt F)) = Cert.ReferenceIdeal.Step.b33 j s := by
  unfold res_main_while0b_v44 Cert.ReferenceIdeal.Step.b33
  rw [← al_32 h]
  try rfl
set_option maxRecDepth 8192 in
theorem al_34 (h : Holds V0 s j) : (constantI S_ 32 0#32 : (Proc.devRef .tc main_while0b_call6_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call6_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call6_c_1 : DevRef τ sig).ty.Contents (Elt F)) = Cert.ReferenceIdeal.Step.b36 j s := by
  unfold Cert.ReferenceIdeal.Step.b36
  rfl
set_option maxRecDepth 8192 in
theorem al_37 (h : Holds V0 s j) : (Host.dynamicSlice S1x8x64x128 (V0 (Proc.devRef .tc main_v23_6)) (fun k => (((![res_main_while0b_v38 V0, constantI S_ 32 0#32, constantI S_ 32 0#32, constantI S_ 32 0#32] : Fin 4 → (⟨S_, .i32⟩ : BufTy).Contents (Elt F))) k (Shape.Idx.first h_S_)).toInt) sliceFits_S32x8x64x128_S1x8x64x128 : (Proc.devRef .tc main_while0b_call6_v0 : DevRef τ sig).ty.Contents (Elt F)) = Cert.ReferenceIdeal.Step.b37 j s := by
  unfold Cert.ReferenceIdeal.Step.b37
  rw [← al_3 h, ← al_34 h, ← al_35 h, ← al_36 h, h.f_6]
  try rfl
set_option maxRecDepth 8192 in
theorem al_38 (h : Holds V0 s j) : (res_main_while0b_v45 V0 : (Proc.devRef .tc main_while0b_v45 : DevRef τ sig).ty.Contents (Elt F)) = Cert.ReferenceIdeal.Step.b38 j s := by
  unfold res_main_while0b_v45 Cert.ReferenceIdeal.Step.b38
  rw [← al_37 h]
  try rfl
set_option maxRecDepth 8192 in
theorem al_39 (h : Holds V0 s j) : (constantI S_ 32 0#32 : (Proc.devRef .tc main_while0b_call7_c : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call7_c_0 : DevRef τ sig).ty.Contents (Elt F)) = Cert.ReferenceIdeal.Step.b40 j s := by
  unfold Cert.ReferenceIdeal.Step.b40
  rfl
set_option maxRecDepth 8192 in
theorem al_41 (h : Holds V0 s j) : (Host.dynamicSlice S1x8x128 (V0 (Proc.devRef .tc main_v23_7)) (fun k => (((![res_main_while0b_v38 V0, constantI S_ 32 0#32, constantI S_ 32 0#32] : Fin 3 → (⟨S_, .i32⟩ : BufTy).Contents (Elt F))) k (Shape.Idx.first h_S_)).toInt) sliceFits_S32x8x128_S1x8x128 : (Proc.devRef .tc main_while0b_call7_v0 : DevRef τ sig).ty.Contents (Elt F)) = Cert.ReferenceIdeal.Step.b41 j s := by
  unfold Cert.ReferenceIdeal.Step.b41
  rw [← al_3 h, ← al_39 h, ← al_40 h, h.f_7]
  try rfl
set_option maxRecDepth 8192 in
theorem al_42 (h : Holds V0 s j) : (shapeCast S8x128 (Host.dynamicSlice S1x8x128 (V0 (Proc.devRef .tc main_v23_7)) (fun k => (((![res_main_while0b_v38 V0, constantI S_ 32 0#32, constantI S_ 32 0#32] : Fin 3 → (⟨S_, .i32⟩ : BufTy).Contents (Elt F))) k (Shape.Idx.first h_S_)).toInt) sliceFits_S32x8x128_S1x8x128) shapeCasts_S1x8x128_S8x128 : (Proc.devRef .tc main_while0b_v46 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (Host.dotGeneral dot_S8x64x128_S8x128x128_S8x64x128_2_1_1_2_0_0 none (res_main_while0b_v42 V0) (res_main_while0b_v39 V0) : (Proc.devRef .tc main_while0b_v47 : DevRef τ sig).ty.Contents (Elt F)) = Cert.ReferenceIdeal.Step.b43 j s := by
  unfold Cert.ReferenceIdeal.Step.b43
  rw [← al_23 h, ← al_8 h]
  try rfl
set_option maxRecDepth 8192 in
theorem al_44 (h : Holds V0 s j) : (res_main_while0b_v48 V0 : (Proc.devRef .tc main_while0b_v48 : DevRef τ sig).ty.Contents (Elt F)) = Cert.ReferenceIdeal.Step.b44 j s := by
  unfold res_main_while0b_v48 Cert.ReferenceIdeal.Step.b44
  rw [← al_18 h, ← al_43 h]
  try rfl
set_option maxRecDepth 8192 in
theorem al_45 (h : Holds V0 s j) : (Host.dotGeneral dot_S8x64x128_S8x128x128_S8x64x128_2_1_1_2_0_0 none (res_main_while0b_v44 V0) (res_main_while0b_v39 V0) : (Proc.devRef .tc main_while0b_v49 : DevRef τ sig).ty.Contents (Elt F)) = Cert.ReferenceIdeal.Step.b45 j s := by
  unfold Cert.ReferenceIdeal.Step.b45
  rw [← al_33 h, ← al_8 h]
  try rfl
set_option maxRecDepth 8192 in
theorem al_46 (h : Holds V0 s j) : (Host.dotGeneral dot_S8x64x64_S8x64x128_S8x64x128_2_1_1_2_0_0 none (res_main_while0b_v43 V0) (res_main_while0b_v48 V0) : (Proc.devRef .tc main_while0b_v50 : DevRef τ sig).ty.Contents (Elt F)) = Cert.ReferenceIdeal.Step.b46 j s := by
  unfold Cert.ReferenceIdeal.Step.b46
  rw [← al_28 h, ← al_44 h]
  try rfl
set_option maxRecDepth 8192 in
theorem al_47 (h : Holds V0 s j) : (addf (Host.dotGeneral dot_S8x64x128_S8x128x128_S8x64x128_2_1_1_2_0_0 none (res_main_while0b_v44 V0) (res_main_while0b_v39 V0)) (Host.dotGeneral dot_S8x64x64_S8x64x128_S8x64x128_2_1_1_2_0_0 none (res_main_while0b_v43 V0) (res_main_while0b_v48 V0)) : (Proc.devRef .tc main_while0b_v51 : DevRef τ sig).ty.Contents (Elt F)) = Cert.ReferenceIdeal.Step.b47 j s := by
  unfold Cert.ReferenceIdeal.Step.b47
  rw [← al_45 h, ← al_46 h]
  try rfl
set_option maxRecDepth 8192 in
theorem al_48 (h : Holds V0 s j) : (res_main_while0b_v52 V0 : (Proc.devRef .tc main_while0b_v52 : DevRef τ sig).ty.Contents (Elt F)) = Cert.ReferenceIdeal.Step.b48 j s := by
  unfold res_main_while0b_v52 Cert.ReferenceIdeal.Step.b48
  rw [← al_42 h]
  try rfl
set_option maxRecDepth 8192 in
theorem al_49 (h : Holds V0 s j) : (broadcastInDim S8x128x128 ![0, 1, 2] bcast_S8x1x128_S8x128x128_0_1_2 (res_main_while0b_v52 V0) : (Proc.devRef .tc main_while0b_v53 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (mulf (res_main_while0b_v39 V0) (broadcastInDim S8x128x128 ![0, 1, 2] bcast_S8x1x128_S8x128x128_0_1_2 (res_main_while0b_v52 V0)) : (Proc.devRef .tc main_while0b_v54 : DevRef τ sig).ty.Contents (Elt F)) = Cert.ReferenceIdeal.Step.b50 j s := by
  unfold Cert.ReferenceIdeal.Step.b50
  rw [← al_8 h, ← al_49 h]
  try rfl
set_option maxRecDepth 8192 in
theorem al_51 (h : Holds V0 s j) : (Host.dotGeneral dot_S8x64x128_S8x64x128_S8x128x128_1_1_2_2_0_0 none (res_main_while0b_v45 V0) (res_main_while0b_v48 V0) : (Proc.devRef .tc main_while0b_v55 : DevRef τ sig).ty.Contents (Elt F)) = Cert.ReferenceIdeal.Step.b51 j s := by
  unfold Cert.ReferenceIdeal.Step.b51
  rw [← al_38 h, ← al_44 h]
  try rfl
set_option maxRecDepth 8192 in
theorem al_52 (h : Holds V0 s j) : (addf (mulf (res_main_while0b_v39 V0) (broadcastInDim S8x128x128 ![0, 1, 2] bcast_S8x1x128_S8x128x128_0_1_2 (res_main_while0b_v52 V0))) (Host.dotGeneral dot_S8x64x128_S8x64x128_S8x128x128_1_1_2_2_0_0 none (res_main_while0b_v45 V0) (res_main_while0b_v48 V0)) : (Proc.devRef .tc main_while0b_v56 : DevRef τ sig).ty.Contents (Elt F)) = Cert.ReferenceIdeal.Step.b52 j s := by
  unfold Cert.ReferenceIdeal.Step.b52
  rw [← al_50 h, ← al_51 h]
  try rfl
set_option maxRecDepth 8192 in
theorem al_53 (h : Holds V0 s j) : (Host.dotGeneral dot_S8x128x128_S8x64x128_S8x128x64_1_2_2_1_0_0 none (V0 (Proc.devRef .tc main_v23_9)) (res_main_while0b_v45 V0) : (Proc.devRef .tc main_while0b_v57 : DevRef τ sig).ty.Contents (Elt F)) = Cert.ReferenceIdeal.Step.b53 j s := by
  unfold Cert.ReferenceIdeal.Step.b53
  rw [← al_38 h, h.f_9]
  try rfl
set_option maxRecDepth 8192 in
theorem al_54 (h : Holds V0 s j) : (transpose S8x64x128 [0, 2, 1] (Host.dotGeneral dot_S8x128x128_S8x64x128_S8x128x64_1_2_2_1_0_0 none (V0 (Proc.devRef .tc main_v23_9)) (res_main_while0b_v45 V0)) transposes_S8x128x64_S8x64x128_0_2_1 : (Proc.devRef .tc main_while0b_v58 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (Host.dotGeneral dot_S8x128x128_S8x64x128_S8x128x64_2_2_1_1_0_0 none (V0 (Proc.devRef .tc main_v23_9)) (res_main_while0b_v48 V0) : (Proc.devRef .tc main_while0b_v59 : DevRef τ sig).ty.Contents (Elt F)) = Cert.ReferenceIdeal.Step.b55 j s := by
  unfold Cert.ReferenceIdeal.Step.b55
  rw [← al_44 h, h.f_9]
  try rfl
set_option maxRecDepth 8192 in
theorem al_56 (h : Holds V0 s j) : (transpose S8x64x128 [0, 2, 1] (Host.dotGeneral dot_S8x128x128_S8x64x128_S8x128x64_2_2_1_1_0_0 none (V0 (Proc.devRef .tc main_v23_9)) (res_main_while0b_v48 V0)) transposes_S8x128x64_S8x64x128_0_2_1 : (Proc.devRef .tc main_while0b_v60 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (mulf (res_main_while0b_v39 V0) (V0 (Proc.devRef .tc main_v23_9)) : (Proc.devRef .tc main_while0b_v61 : DevRef τ sig).ty.Contents (Elt F)) = Cert.ReferenceIdeal.Step.b57 j s := by
  unfold Cert.ReferenceIdeal.Step.b57
  rw [← al_8 h, h.f_9]
  try rfl
set_option maxRecDepth 8192 in
theorem al_58 (h : Holds V0 s j) : (constant S_ .f32 0x00000000#32 : (Proc.devRef .tc main_while0b_cst_24 : DevRef τ sig).ty.Contents (Elt F)) = Cert.ReferenceIdeal.Step.b58 j s := by
  unfold Cert.ReferenceIdeal.Step.b58
  rfl
set_option maxRecDepth 8192 in
theorem al_59 (h : Holds V0 s j) : (Host.reduceAdd (mulf (res_main_while0b_v39 V0) (V0 (Proc.devRef .tc main_v23_9))) (constant S_ .f32 0x00000000#32) reducesTo_S8x128x128_S8x128_d1 h_S_ : (Proc.devRef .tc main_while0b_v62 : DevRef τ sig).ty.Contents (Elt F)) = Cert.ReferenceIdeal.Step.b59 j s := by
  unfold Cert.ReferenceIdeal.Step.b59
  rw [← al_57 h, ← al_58 h]
  try rfl
set_option maxRecDepth 8192 in
theorem al_60 (h : Holds V0 s j) : (shapeCast S8x1x128 (Host.reduceAdd (mulf (res_main_while0b_v39 V0) (V0 (Proc.devRef .tc main_v23_9))) (constant S_ .f32 0x00000000#32) reducesTo_S8x128x128_S8x128_d1 h_S_) shapeCasts_S8x128_S8x1x128 : (Proc.devRef .tc main_while0b_v63 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (broadcastInDim S8x128x128 ![0, 1, 2] bcast_S8x1x128_S8x128x128_0_1_2 (res_main_while0b_v52 V0) : (Proc.devRef .tc main_while0b_v64 : DevRef τ sig).ty.Contents (Elt F)) = Cert.ReferenceIdeal.Step.b61 j s := by
  unfold Cert.ReferenceIdeal.Step.b61
  rw [← al_48 h]
  try rfl
set_option maxRecDepth 8192 in
theorem al_62 (h : Holds V0 s j) : (mulf (V0 (Proc.devRef .tc main_v23_9)) (broadcastInDim S8x128x128 ![0, 1, 2] bcast_S8x1x128_S8x128x128_0_1_2 (res_main_while0b_v52 V0)) : (Proc.devRef .tc main_while0b_v65 : DevRef τ sig).ty.Contents (Elt F)) = Cert.ReferenceIdeal.Step.b62 j s := by
  unfold Cert.ReferenceIdeal.Step.b62
  rw [← al_61 h, h.f_9]
  try rfl
set_option maxRecDepth 8192 in
theorem al_63 (h : Holds V0 s j) : (constant S_ .f32 0x00000000#32 : (Proc.devRef .tc main_while0b_cst_25 : DevRef τ sig).ty.Contents (Elt F)) = Cert.ReferenceIdeal.Step.b63 j s := by
  unfold Cert.ReferenceIdeal.Step.b63
  rfl
set_option maxRecDepth 8192 in
theorem al_64 (h : Holds V0 s j) : (Host.reduceAdd (shapeCast S8x1x128 (Host.reduceAdd (mulf (res_main_while0b_v39 V0) (V0 (Proc.devRef .tc main_v23_9))) (constant S_ .f32 0x00000000#32) reducesTo_S8x128x128_S8x128_d1 h_S_) shapeCasts_S8x128_S8x1x128) (constant S_ .f32 0x00000000#32) reducesTo_S8x1x128_S8x128_d1 h_S_ : (Proc.devRef .tc main_while0b_v66 : DevRef τ sig).ty.Contents (Elt F)) = Cert.ReferenceIdeal.Step.b64 j s := by
  unfold Cert.ReferenceIdeal.Step.b64
  rw [← al_60 h, ← al_63 h]
  try rfl
set_option maxRecDepth 8192 in
theorem al_65 (h : Holds V0 s j) : (Host.dotGeneral dot_S8x64x128_S8x64x64_S8x128x64_1_1_2_2_0_0 none (res_main_while0b_v40 V0) (res_main_while0b_v43 V0) : (Proc.devRef .tc main_while0b_v67 : DevRef τ sig).ty.Contents (Elt F)) = Cert.ReferenceIdeal.Step.b65 j s := by
  unfold Cert.ReferenceIdeal.Step.b65
  rw [← al_13 h, ← al_28 h]
  try rfl
set_option maxRecDepth 8192 in
theorem al_66 (h : Holds V0 s j) : (transpose S8x64x128 [0, 2, 1] (Host.dotGeneral dot_S8x64x128_S8x64x64_S8x128x64_1_1_2_2_0_0 none (res_main_while0b_v40 V0) (res_main_while0b_v43 V0)) transposes_S8x128x64_S8x64x128_0_2_1 : (Proc.devRef .tc main_while0b_v68 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (res_main_while0b_v69 V0 : (Proc.devRef .tc main_while0b_v69 : DevRef τ sig).ty.Contents (Elt F)) = Cert.ReferenceIdeal.Step.b67 j s := by
  unfold res_main_while0b_v69 Cert.ReferenceIdeal.Step.b67
  rw [← al_54 h, ← al_66 h]
  try rfl
set_option maxRecDepth 8192 in
theorem al_68 (h : Holds V0 s j) : (Host.dotGeneral dot_S8x64x128_S8x64x128_S8x64x64_2_2_1_1_0_0 none (res_main_while0b_v40 V0) (res_main_while0b_v48 V0) : (Proc.devRef .tc main_while0b_v70 : DevRef τ sig).ty.Contents (Elt F)) = Cert.ReferenceIdeal.Step.b68 j s := by
  unfold Cert.ReferenceIdeal.Step.b68
  rw [← al_13 h, ← al_44 h]
  try rfl
set_option maxRecDepth 8192 in
theorem al_69 (h : Holds V0 s j) : (Host.dotGeneral dot_S8x64x128_S8x64x128_S8x128x128_1_1_2_2_0_0 none (res_main_while0b_v40 V0) (res_main_while0b_v44 V0) : (Proc.devRef .tc main_while0b_v71 : DevRef τ sig).ty.Contents (Elt F)) = Cert.ReferenceIdeal.Step.b69 j s := by
  unfold Cert.ReferenceIdeal.Step.b69
  rw [← al_13 h, ← al_33 h]
  try rfl
set_option maxRecDepth 8192 in
theorem al_70 (h : Holds V0 s j) : (transpose S8x128x128 [0, 2, 1] (Host.dotGeneral dot_S8x64x128_S8x64x128_S8x128x128_1_1_2_2_0_0 none (res_main_while0b_v40 V0) (res_main_while0b_v44 V0)) transposes_S8x128x128_S8x128x128_0_2_1 : (Proc.devRef .tc main_while0b_v72 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (addf (mulf (V0 (Proc.devRef .tc main_v23_9)) (broadcastInDim S8x128x128 ![0, 1, 2] bcast_S8x1x128_S8x128x128_0_1_2 (res_main_while0b_v52 V0))) (transpose S8x128x128 [0, 2, 1] (Host.dotGeneral dot_S8x64x128_S8x64x128_S8x128x128_1_1_2_2_0_0 none (res_main_while0b_v40 V0) (res_main_while0b_v44 V0)) transposes_S8x128x128_S8x128x128_0_2_1) : (Proc.devRef .tc main_while0b_v73 : DevRef τ sig).ty.Contents (Elt F)) = Cert.ReferenceIdeal.Step.b71 j s := by
  unfold Cert.ReferenceIdeal.Step.b71
  rw [← al_62 h, ← al_70 h]
  try rfl
set_option maxRecDepth 8192 in
theorem al_72 (h : Holds V0 s j) : (Host.dotGeneral dot_S8x64x128_S8x128x128_S8x64x128_2_2_1_1_0_0 none (res_main_while0b_v40 V0) (res_main_while0b_v39 V0) : (Proc.devRef .tc main_while0b_v74 : DevRef τ sig).ty.Contents (Elt F)) = Cert.ReferenceIdeal.Step.b72 j s := by
  unfold Cert.ReferenceIdeal.Step.b72
  rw [← al_13 h, ← al_8 h]
  try rfl
set_option maxRecDepth 8192 in
theorem al_73 (h : Holds V0 s j) : (res_main_while0b_v75 V0 : (Proc.devRef .tc main_while0b_v75 : DevRef τ sig).ty.Contents (Elt F)) = Cert.ReferenceIdeal.Step.b73 j s := by
  unfold res_main_while0b_v75 Cert.ReferenceIdeal.Step.b73
  rw [← al_67 h]
  try rfl
set_option maxRecDepth 8192 in
theorem al_74 (h : Holds V0 s j) : (Host.dotGeneral dot_S8x64x128_S8x64x128_S8x128x128_1_1_2_2_0_0 none (res_main_while0b_v75 V0) (res_main_while0b_v42 V0) : (Proc.devRef .tc main_while0b_v76 : DevRef τ sig).ty.Contents (Elt F)) = Cert.ReferenceIdeal.Step.b74 j s := by
  unfold Cert.ReferenceIdeal.Step.b74
  rw [← al_73 h, ← al_23 h]
  try rfl
set_option maxRecDepth 8192 in
theorem al_75 (h : Holds V0 s j) : (transpose S8x128x128 [0, 2, 1] (Host.dotGeneral dot_S8x64x128_S8x64x128_S8x128x128_1_1_2_2_0_0 none (res_main_while0b_v75 V0) (res_main_while0b_v42 V0)) transposes_S8x128x128_S8x128x128_0_2_1 : (Proc.devRef .tc main_while0b_v77 : DevRef τ sig).ty.Contents (Elt F)) = Cert.ReferenceIdeal.Step.b75 j s := by
  unfold Cert.ReferenceIdeal.Step.b75
  rw [← al_74 h]
  try rfl
set_option maxRecDepth 8192 in
theorem al_76 (h : Holds V0 s j) : (addf (addf (mulf (V0 (Proc.devRef .tc main_v23_9)) (broadcastInDim S8x128x128 ![0, 1, 2] bcast_S8x1x128_S8x128x128_0_1_2 (res_main_while0b_v52 V0))) (transpose S8x128x128 [0, 2, 1] (Host.dotGeneral dot_S8x64x128_S8x64x128_S8x128x128_1_1_2_2_0_0 none (res_main_while0b_v40 V0) (res_main_while0b_v44 V0)) transposes_S8x128x128_S8x128x128_0_2_1)) (transpose S8x128x128 [0, 2, 1] (Host.dotGeneral dot_S8x64x128_S8x64x128_S8x128x128_1_1_2_2_0_0 none (res_main_while0b_v75 V0) (res_main_while0b_v42 V0)) transposes_S8x128x128_S8x128x128_0_2_1) : (Proc.devRef .tc main_while0b_v78 : DevRef τ sig).ty.Contents (Elt F)) = Cert.ReferenceIdeal.Step.b76 j s := by
  unfold Cert.ReferenceIdeal.Step.b76
  rw [← al_71 h, ← al_75 h]
  try rfl
set_option maxRecDepth 8192 in
theorem al_77 (h : Holds V0 s j) : (Host.dotGeneral dot_S8x64x128_S8x128x128_S8x64x128_2_2_1_1_0_0 none (res_main_while0b_v75 V0) (res_main_while0b_v39 V0) : (Proc.devRef .tc main_while0b_v79 : DevRef τ sig).ty.Contents (Elt F)) = Cert.ReferenceIdeal.Step.b77 j s := by
  unfold Cert.ReferenceIdeal.Step.b77
  rw [← al_73 h, ← al_8 h]
  try rfl
set_option maxRecDepth 8192 in
theorem al_78 (h : Holds V0 s j) : (broadcastInDim S1x8x64x128 ![1, 2, 3] bcast_S8x64x128_S1x8x64x128_1_2_3 (res_main_while0b_v69 V0) : (Proc.devRef .tc main_while0b_call8_v0 : DevRef τ sig).ty.Contents (Elt F)) = Cert.ReferenceIdeal.Step.b78 j s := by
  unfold Cert.ReferenceIdeal.Step.b78
  rw [← al_67 h]
  try rfl
set_option maxRecDepth 8192 in
theorem al_79 (h : Holds V0 s j) : (constantI S_ 32 0#32 : (Proc.devRef .tc main_while0b_call8_c : DevRef τ sig).ty.Contents (Elt F)) = Cert.ReferenceIdeal.Step.b79 j s := by
  unfold Cert.ReferenceIdeal.Step.b79
  rfl
set_option maxRecDepth 8192 in
theorem al_80 (h : Holds V0 s j) : (constantI S_ 32 0#32 : (Proc.devRef .tc main_while0b_call8_c_0 : DevRef τ sig).ty.Contents (Elt F)) = Cert.ReferenceIdeal.Step.b80 j s := by
  unfold Cert.ReferenceIdeal.Step.b80
  rfl
set_option maxRecDepth 8192 in
theorem al_81 (h : Holds V0 s j) : (constantI S_ 32 0#32 : (Proc.devRef .tc main_while0b_call8_c_1 : DevRef τ sig).ty.Contents (Elt F)) = Cert.ReferenceIdeal.Step.b81 j s := by
  unfold Cert.ReferenceIdeal.Step.b81
  rfl
set_option maxRecDepth 8192 in
theorem al_82 (h : Holds V0 s j) : (Host.dynamicUpdateSlice (V0 (Proc.devRef .tc main_v23_10)) (broadcastInDim S1x8x64x128 ![1, 2, 3] bcast_S8x64x128_S1x8x64x128_1_2_3 (res_main_while0b_v69 V0)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x128_S1x8x64x128 : (Proc.devRef .tc main_while0b_v80 : DevRef τ sig).ty.Contents (Elt F)) = Cert.ReferenceIdeal.Step.b82 j s := by
  unfold Cert.ReferenceIdeal.Step.b82
  rw [← al_78 h, ← al_3 h, ← al_79 h, ← al_80 h, ← al_81 h, h.f_10]
  try rfl
set_option maxRecDepth 8192 in
theorem al_83 (h : Holds V0 s j) : (broadcastInDim S1x8x64x128 ![1, 2, 3] bcast_S8x64x128_S1x8x64x128_1_2_3 (Host.dotGeneral dot_S8x64x128_S8x128x128_S8x64x128_2_2_1_1_0_0 none (res_main_while0b_v75 V0) (res_main_while0b_v39 V0)) : (Proc.devRef .tc main_while0b_call9_v0 : DevRef τ sig).ty.Contents (Elt F)) = Cert.ReferenceIdeal.Step.b83 j s := by
  unfold Cert.ReferenceIdeal.Step.b83
  rw [← al_77 h]
  try rfl
set_option maxRecDepth 8192 in
theorem al_84 (h : Holds V0 s j) : (constantI S_ 32 0#32 : (Proc.devRef .tc main_while0b_call9_c : DevRef τ sig).ty.Contents (Elt F)) = Cert.ReferenceIdeal.Step.b84 j s := by
  unfold Cert.ReferenceIdeal.Step.b84
  rfl
set_option maxRecDepth 8192 in
theorem al_85 (h : Holds V0 s j) : (constantI S_ 32 0#32 : (Proc.devRef .tc main_while0b_call9_c_0 : DevRef τ sig).ty.Contents (Elt F)) = Cert.ReferenceIdeal.Step.b85 j s := by
  unfold Cert.ReferenceIdeal.Step.b85
  rfl
set_option maxRecDepth 8192 in
theorem al_86 (h : Holds V0 s j) : (constantI S_ 32 0#32 : (Proc.devRef .tc main_while0b_call9_c_1 : DevRef τ sig).ty.Contents (Elt F)) = Cert.ReferenceIdeal.Step.b86 j s := by
  unfold Cert.ReferenceIdeal.Step.b86
  rfl
set_option maxRecDepth 8192 in
theorem al_87 (h : Holds V0 s j) : (Host.dynamicUpdateSlice (V0 (Proc.devRef .tc main_v23_11)) (broadcastInDim S1x8x64x128 ![1, 2, 3] bcast_S8x64x128_S1x8x64x128_1_2_3 (Host.dotGeneral dot_S8x64x128_S8x128x128_S8x64x128_2_2_1_1_0_0 none (res_main_while0b_v75 V0) (res_main_while0b_v39 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x128_S1x8x64x128 : (Proc.devRef .tc main_while0b_v81 : DevRef τ sig).ty.Contents (Elt F)) = Cert.ReferenceIdeal.Step.b87 j s := by
  unfold Cert.ReferenceIdeal.Step.b87
  rw [← al_83 h, ← al_3 h, ← al_84 h, ← al_85 h, ← al_86 h, h.f_11]
  try rfl
set_option maxRecDepth 8192 in
theorem al_88 (h : Holds V0 s j) : (broadcastInDim S1x8x64x64 ![1, 2, 3] bcast_S8x64x64_S1x8x64x64_1_2_3 (Host.dotGeneral dot_S8x64x128_S8x64x128_S8x64x64_2_2_1_1_0_0 none (res_main_while0b_v40 V0) (res_main_while0b_v48 V0)) : (Proc.devRef .tc main_while0b_call10_v0 : DevRef τ sig).ty.Contents (Elt F)) = Cert.ReferenceIdeal.Step.b88 j s := by
  unfold Cert.ReferenceIdeal.Step.b88
  rw [← al_68 h]
  try rfl
set_option maxRecDepth 8192 in
theorem al_89 (h : Holds V0 s j) : (constantI S_ 32 0#32 : (Proc.devRef .tc main_while0b_call10_c : DevRef τ sig).ty.Contents (Elt F)) = Cert.ReferenceIdeal.Step.b89 j s := by
  unfold Cert.ReferenceIdeal.Step.b89
  rfl
set_option maxRecDepth 8192 in
theorem al_90 (h : Holds V0 s j) : (constantI S_ 32 0#32 : (Proc.devRef .tc main_while0b_call10_c_0 : DevRef τ sig).ty.Contents (Elt F)) = Cert.ReferenceIdeal.Step.b90 j s := by
  unfold Cert.ReferenceIdeal.Step.b90
  rfl
set_option maxRecDepth 8192 in
theorem al_91 (h : Holds V0 s j) : (constantI S_ 32 0#32 : (Proc.devRef .tc main_while0b_call10_c_1 : DevRef τ sig).ty.Contents (Elt F)) = Cert.ReferenceIdeal.Step.b91 j s := by
  unfold Cert.ReferenceIdeal.Step.b91
  rfl
set_option maxRecDepth 8192 in
theorem al_92 (h : Holds V0 s j) : (Host.dynamicUpdateSlice (V0 (Proc.devRef .tc main_v23_12)) (broadcastInDim S1x8x64x64 ![1, 2, 3] bcast_S8x64x64_S1x8x64x64_1_2_3 (Host.dotGeneral dot_S8x64x128_S8x64x128_S8x64x64_2_2_1_1_0_0 none (res_main_while0b_v40 V0) (res_main_while0b_v48 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x64_S1x8x64x64 : (Proc.devRef .tc main_while0b_v82 : DevRef τ sig).ty.Contents (Elt F)) = Cert.ReferenceIdeal.Step.b92 j s := by
  unfold Cert.ReferenceIdeal.Step.b92
  rw [← al_88 h, ← al_3 h, ← al_89 h, ← al_90 h, ← al_91 h, h.f_12]
  try rfl
set_option maxRecDepth 8192 in
theorem al_93 (h : Holds V0 s j) : (broadcastInDim S1x8x64x128 ![1, 2, 3] bcast_S8x64x128_S1x8x64x128_1_2_3 (Host.dotGeneral dot_S8x64x128_S8x128x128_S8x64x128_2_2_1_1_0_0 none (res_main_while0b_v40 V0) (res_main_while0b_v39 V0)) : (Proc.devRef .tc main_while0b_call11_v0 : DevRef τ sig).ty.Contents (Elt F)) = Cert.ReferenceIdeal.Step.b93 j s := by
  unfold Cert.ReferenceIdeal.Step.b93
  rw [← al_72 h]
  try rfl
set_option maxRecDepth 8192 in
theorem al_94 (h : Holds V0 s j) : (constantI S_ 32 0#32 : (Proc.devRef .tc main_while0b_call11_c : DevRef τ sig).ty.Contents (Elt F)) = Cert.ReferenceIdeal.Step.b94 j s := by
  unfold Cert.ReferenceIdeal.Step.b94
  rfl
set_option maxRecDepth 8192 in
theorem al_95 (h : Holds V0 s j) : (constantI S_ 32 0#32 : (Proc.devRef .tc main_while0b_call11_c_0 : DevRef τ sig).ty.Contents (Elt F)) = Cert.ReferenceIdeal.Step.b95 j s := by
  unfold Cert.ReferenceIdeal.Step.b95
  rfl
set_option maxRecDepth 8192 in
theorem al_96 (h : Holds V0 s j) : (constantI S_ 32 0#32 : (Proc.devRef .tc main_while0b_call11_c_1 : DevRef τ sig).ty.Contents (Elt F)) = Cert.ReferenceIdeal.Step.b96 j s := by
  unfold Cert.ReferenceIdeal.Step.b96
  rfl
set_option maxRecDepth 8192 in
theorem al_97 (h : Holds V0 s j) : (Host.dynamicUpdateSlice (V0 (Proc.devRef .tc main_v23_13)) (broadcastInDim S1x8x64x128 ![1, 2, 3] bcast_S8x64x128_S1x8x64x128_1_2_3 (Host.dotGeneral dot_S8x64x128_S8x128x128_S8x64x128_2_2_1_1_0_0 none (res_main_while0b_v40 V0) (res_main_while0b_v39 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x128_S1x8x64x128 : (Proc.devRef .tc main_while0b_v83 : DevRef τ sig).ty.Contents (Elt F)) = Cert.ReferenceIdeal.Step.b97 j s := by
  unfold Cert.ReferenceIdeal.Step.b97
  rw [← al_93 h, ← al_3 h, ← al_94 h, ← al_95 h, ← al_96 h, h.f_13]
  try rfl
set_option maxRecDepth 8192 in
theorem al_98 (h : Holds V0 s j) : (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v23_9)) (res_main_while0b_v48 V0)) transposes_S8x128x64_S8x64x128_0_2_1) : (Proc.devRef .tc main_while0b_call12_v0 : DevRef τ sig).ty.Contents (Elt F)) = Cert.ReferenceIdeal.Step.b98 j s := by
  unfold Cert.ReferenceIdeal.Step.b98
  rw [← al_56 h]
  try rfl
set_option maxRecDepth 8192 in
theorem al_99 (h : Holds V0 s j) : (constantI S_ 32 0#32 : (Proc.devRef .tc main_while0b_call12_c : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call12_c_0 : DevRef τ sig).ty.Contents (Elt F)) = Cert.ReferenceIdeal.Step.b100 j s := by
  unfold Cert.ReferenceIdeal.Step.b100
  rfl
set_option maxRecDepth 8192 in
theorem al_101 (h : Holds V0 s j) : (constantI S_ 32 0#32 : (Proc.devRef .tc main_while0b_call12_c_1 : DevRef τ sig).ty.Contents (Elt F)) = Cert.ReferenceIdeal.Step.b101 j s := by
  unfold Cert.ReferenceIdeal.Step.b101
  rfl
set_option maxRecDepth 8192 in
theorem al_102 (h : Holds V0 s j) : (Host.dynamicUpdateSlice (V0 (Proc.devRef .tc main_v23_14)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v23_9)) (res_main_while0b_v48 V0)) transposes_S8x128x64_S8x64x128_0_2_1)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x128_S1x8x64x128 : (Proc.devRef .tc main_while0b_v84 : DevRef τ sig).ty.Contents (Elt F)) = Cert.ReferenceIdeal.Step.b102 j s := by
  unfold Cert.ReferenceIdeal.Step.b102
  rw [← al_98 h, ← al_3 h, ← al_99 h, ← al_100 h, ← al_101 h, h.f_14]
  try rfl
set_option maxRecDepth 8192 in
theorem al_103 (h : Holds V0 s j) : (broadcastInDim S1x8x128 ![1, 2] bcast_S8x128_S1x8x128_1_2 (Host.reduceAdd (shapeCast S8x1x128 (Host.reduceAdd (mulf (res_main_while0b_v39 V0) (V0 (Proc.devRef .tc main_v23_9))) (constant S_ .f32 0x00000000#32) reducesTo_S8x128x128_S8x128_d1 h_S_) shapeCasts_S8x128_S8x1x128) (constant S_ .f32 0x00000000#32) reducesTo_S8x1x128_S8x128_d1 h_S_) : (Proc.devRef .tc main_while0b_call13_v0 : DevRef τ sig).ty.Contents (Elt F)) = Cert.ReferenceIdeal.Step.b103 j s := by
  unfold Cert.ReferenceIdeal.Step.b103
  rw [← al_64 h]
  try rfl
set_option maxRecDepth 8192 in
theorem al_104 (h : Holds V0 s j) : (constantI S_ 32 0#32 : (Proc.devRef .tc main_while0b_call13_c : DevRef τ sig).ty.Contents (Elt F)) = Cert.ReferenceIdeal.Step.b104 j s := by
  unfold Cert.ReferenceIdeal.Step.b104
  rfl
set_option maxRecDepth 8192 in
theorem al_105 (h : Holds V0 s j) : (constantI S_ 32 0#32 : (Proc.devRef .tc main_while0b_call13_c_0 : DevRef τ sig).ty.Contents (Elt F)) = Cert.ReferenceIdeal.Step.b105 j s := by
  unfold Cert.ReferenceIdeal.Step.b105
  rfl
set_option maxRecDepth 8192 in
theorem al_106 (h : Holds V0 s j) : (Host.dynamicUpdateSlice (V0 (Proc.devRef .tc main_v23_15)) (broadcastInDim S1x8x128 ![1, 2] bcast_S8x128_S1x8x128_1_2 (Host.reduceAdd (shapeCast S8x1x128 (Host.reduceAdd (mulf (res_main_while0b_v39 V0) (V0 (Proc.devRef .tc main_v23_9))) (constant S_ .f32 0x00000000#32) reducesTo_S8x128x128_S8x128_d1 h_S_) shapeCasts_S8x128_S8x1x128) (constant S_ .f32 0x00000000#32) reducesTo_S8x1x128_S8x128_d1 h_S_)) (fun k => (((![res_main_while0b_v38 V0, constantI S_ 32 0#32, constantI S_ 32 0#32] : Fin 3 → (⟨S_, .i32⟩ : BufTy).Contents (Elt F))) k (Shape.Idx.first h_S_)).toInt) updateFits_S32x8x128_S1x8x128 : (Proc.devRef .tc main_while0b_v85 : DevRef τ sig).ty.Contents (Elt F)) = Cert.ReferenceIdeal.Step.b106 j s := by
  unfold Cert.ReferenceIdeal.Step.b106
  rw [← al_103 h, ← al_3 h, ← al_104 h, ← al_105 h, h.f_15]
  try rfl

/-! One trip's step of the carried values is `step`, field by field; a counter steps to the next number. -/

theorem step_9 (h : Holds V0 s j) : step_main_v23_9 V0 = (step j s).main_v23_9 := by
  unfold step_main_v23_9 Cert.ReferenceIdeal.Step.step
  show id (addf (addf (mulf (V0 (Proc.devRef .tc main_v23_9)) (broadcastInDim S8x128x128 ![0, 1, 2] bcast_S8x1x128_S8x128x128_0_1_2 (res_main_while0b_v52 V0))) (transpose S8x128x128 [0, 2, 1] (Host.dotGeneral dot_S8x64x128_S8x64x128_S8x128x128_1_1_2_2_0_0 none (res_main_while0b_v40 V0) (res_main_while0b_v44 V0)) transposes_S8x128x128_S8x128x128_0_2_1)) (transpose S8x128x128 [0, 2, 1] (Host.dotGeneral dot_S8x64x128_S8x64x128_S8x128x128_1_1_2_2_0_0 none (res_main_while0b_v75 V0) (res_main_while0b_v42 V0)) transposes_S8x128x128_S8x128x128_0_2_1)) = _
  exact al_76 h
theorem step_10 (h : Holds V0 s j) : step_main_v23_10 V0 = (step j s).main_v23_10 := by
  unfold step_main_v23_10 Cert.ReferenceIdeal.Step.step
  show id (Host.dynamicUpdateSlice (V0 (Proc.devRef .tc main_v23_10)) (broadcastInDim S1x8x64x128 ![1, 2, 3] bcast_S8x64x128_S1x8x64x128_1_2_3 (res_main_while0b_v69 V0)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x128_S1x8x64x128) = _
  exact al_82 h
theorem step_11 (h : Holds V0 s j) : step_main_v23_11 V0 = (step j s).main_v23_11 := by
  unfold step_main_v23_11 Cert.ReferenceIdeal.Step.step
  show id (Host.dynamicUpdateSlice (V0 (Proc.devRef .tc main_v23_11)) (broadcastInDim S1x8x64x128 ![1, 2, 3] bcast_S8x64x128_S1x8x64x128_1_2_3 (Host.dotGeneral dot_S8x64x128_S8x128x128_S8x64x128_2_2_1_1_0_0 none (res_main_while0b_v75 V0) (res_main_while0b_v39 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x128_S1x8x64x128) = _
  exact al_87 h
theorem step_12 (h : Holds V0 s j) : step_main_v23_12 V0 = (step j s).main_v23_12 := by
  unfold step_main_v23_12 Cert.ReferenceIdeal.Step.step
  show id (Host.dynamicUpdateSlice (V0 (Proc.devRef .tc main_v23_12)) (broadcastInDim S1x8x64x64 ![1, 2, 3] bcast_S8x64x64_S1x8x64x64_1_2_3 (Host.dotGeneral dot_S8x64x128_S8x64x128_S8x64x64_2_2_1_1_0_0 none (res_main_while0b_v40 V0) (res_main_while0b_v48 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x64_S1x8x64x64) = _
  exact al_92 h
theorem step_13 (h : Holds V0 s j) : step_main_v23_13 V0 = (step j s).main_v23_13 := by
  unfold step_main_v23_13 Cert.ReferenceIdeal.Step.step
  show id (Host.dynamicUpdateSlice (V0 (Proc.devRef .tc main_v23_13)) (broadcastInDim S1x8x64x128 ![1, 2, 3] bcast_S8x64x128_S1x8x64x128_1_2_3 (Host.dotGeneral dot_S8x64x128_S8x128x128_S8x64x128_2_2_1_1_0_0 none (res_main_while0b_v40 V0) (res_main_while0b_v39 V0))) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x128_S1x8x64x128) = _
  exact al_97 h
theorem step_14 (h : Holds V0 s j) : step_main_v23_14 V0 = (step j s).main_v23_14 := by
  unfold step_main_v23_14 Cert.ReferenceIdeal.Step.step
  show id (Host.dynamicUpdateSlice (V0 (Proc.devRef .tc main_v23_14)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v23_9)) (res_main_while0b_v48 V0)) transposes_S8x128x64_S8x64x128_0_2_1)) (fun k => (((![res_main_while0b_v38 V0, constantI S_ 32 0#32, constantI S_ 32 0#32, constantI S_ 32 0#32] : Fin 4 → (⟨S_, .i32⟩ : BufTy).Contents (Elt F))) k (Shape.Idx.first h_S_)).toInt) updateFits_S32x8x64x128_S1x8x64x128) = _
  exact al_102 h
theorem step_15 (h : Holds V0 s j) : step_main_v23_15 V0 = (step j s).main_v23_15 := by
  unfold step_main_v23_15 Cert.ReferenceIdeal.Step.step
  show id (Host.dynamicUpdateSlice (V0 (Proc.devRef .tc main_v23_15)) (broadcastInDim S1x8x128 ![1, 2] bcast_S8x128_S1x8x128_1_2 (Host.reduceAdd (shapeCast S8x1x128 (Host.reduceAdd (mulf (res_main_while0b_v39 V0) (V0 (Proc.devRef .tc main_v23_9))) (constant S_ .f32 0x00000000#32) reducesTo_S8x128x128_S8x128_d1 h_S_) shapeCasts_S8x128_S8x1x128) (constant S_ .f32 0x00000000#32) reducesTo_S8x1x128_S8x128_d1 h_S_)) (fun k => (((![res_main_while0b_v38 V0, constantI S_ 32 0#32, constantI S_ 32 0#32] : Fin 3 → (⟨S_, .i32⟩ : BufTy).Contents (Elt F))) k (Shape.Idx.first h_S_)).toInt) updateFits_S32x8x128_S1x8x128) = _
  exact al_106 h
theorem step_8 (h : Holds V0 s j) : step_main_v23_8 V0 = constantI S_ 32 (BitVec.ofNat 32 (j + 1)) := by
  unfold step_main_v23_8
  rw [h.n_8]
  funext i
  show BitVec.ofNat 32 j + 1#32 = BitVec.ofNat 32 (j + 1)
  simp only [BitVec.ofNat_add]

set_option maxRecDepth 8192 in
theorem out_main_v36_holds (h : Holds V0 s j) : out_main_v36 V0 = Cert.ReferenceIdeal.Step.R_main_v36 s := by
  unfold out_main_v36 Cert.ReferenceIdeal.Step.R_main_v36
  rw [h.f_10]
  try rfl

set_option maxRecDepth 8192 in
theorem out_main_v34_holds (h : Holds V0 s j) : out_main_v34 V0 = Cert.ReferenceIdeal.Step.R_main_v34 s := by
  unfold out_main_v34 Cert.ReferenceIdeal.Step.R_main_v34
  rw [h.f_11]
  try rfl

set_option maxRecDepth 8192 in
theorem out_main_v32_holds (h : Holds V0 s j) : out_main_v32 V0 = Cert.ReferenceIdeal.Step.R_main_v32 s := by
  unfold out_main_v32 Cert.ReferenceIdeal.Step.R_main_v32
  rw [h.f_12]
  try rfl

set_option maxRecDepth 8192 in
theorem out_main_v30_holds (h : Holds V0 s j) : out_main_v30 V0 = Cert.ReferenceIdeal.Step.R_main_v30 s := by
  unfold out_main_v30 Cert.ReferenceIdeal.Step.R_main_v30
  rw [h.f_13]
  try rfl

set_option maxRecDepth 8192 in
theorem out_main_v28_holds (h : Holds V0 s j) : out_main_v28 V0 = Cert.ReferenceIdeal.Step.R_main_v28 s := by
  unfold out_main_v28 Cert.ReferenceIdeal.Step.R_main_v28
  rw [h.f_14]
  try rfl

set_option maxRecDepth 8192 in
theorem out_main_v26_holds (h : Holds V0 s j) : out_main_v26 V0 = Cert.ReferenceIdeal.Step.R_main_v26 s := by
  unfold out_main_v26 Cert.ReferenceIdeal.Step.R_main_v26
  rw [h.f_15]
  try rfl

/-- One trip keeps the valuation holding: `step` of the state, the same set-up values, the next number. -/
theorem holds_step (h : Holds V0 s j) : Holds (STEP V0) (step j s) (j + 1) where
  f_9 := (STEP_main_v23_9 V0).trans (step_9 h)
  f_10 := (STEP_main_v23_10 V0).trans (step_10 h)
  f_11 := (STEP_main_v23_11 V0).trans (step_11 h)
  f_12 := (STEP_main_v23_12 V0).trans (step_12 h)
  f_13 := (STEP_main_v23_13 V0).trans (step_13 h)
  f_14 := (STEP_main_v23_14 V0).trans (step_14 h)
  f_15 := (STEP_main_v23_15 V0).trans (step_15 h)
  n_8 := (STEP_main_v23_8 V0).trans (step_8 h)
  f_0 := (STEP_main_v23_0 V0).trans h.f_0
  f_1 := (STEP_main_v23_1 V0).trans h.f_1
  f_2 := (STEP_main_v23_2 V0).trans h.f_2
  f_3 := (STEP_main_v23_3 V0).trans h.f_3
  f_4 := (STEP_main_v23_4 V0).trans h.f_4
  f_5 := (STEP_main_v23_5 V0).trans h.f_5
  f_6 := (STEP_main_v23_6 V0).trans h.f_6
  f_7 := (STEP_main_v23_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v36) = Cert.ReferenceIdeal.Step.R_main_v36 (it c 32)
      ∧ r.2.mem ((c.tc : Thread nD τ).loc main_v34) = Cert.ReferenceIdeal.Step.R_main_v34 (it c 32)
      ∧ r.2.mem ((c.tc : Thread nD τ).loc main_v32) = Cert.ReferenceIdeal.Step.R_main_v32 (it c 32)
      ∧ r.2.mem ((c.tc : Thread nD τ).loc main_v30) = Cert.ReferenceIdeal.Step.R_main_v30 (it c 32)
      ∧ r.2.mem ((c.tc : Thread nD τ).loc main_v28) = Cert.ReferenceIdeal.Step.R_main_v28 (it c 32)
      ∧ r.2.mem ((c.tc : Thread nD τ).loc main_v26) = Cert.ReferenceIdeal.Step.R_main_v26 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 32
    ⟨(h c).1.trans (out_main_v36_holds hk), (h c).2.1.trans (out_main_v34_holds hk), (h c).2.2.1.trans (out_main_v32_holds hk), (h c).2.2.2.1.trans (out_main_v30_holds hk), (h c).2.2.2.2.1.trans (out_main_v28_holds hk), (h c).2.2.2.2.2.1.trans (out_main_v26_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.Iterated

end
-- ==== Proof.RValue.lean ====
module

public import proofs.«01_k».proof.Proof.RRun
public import proofs.«01_k».proof.Proof.Arrays

@[expose] public section

/-! What the backward scan's reference computes: after `n` trips the gradient of the state after chunk `31 − n`, and the gradients of the
operands of the chunks from `32 − n` on. -/

set_option maxRecDepth 16384
noncomputable section
namespace Cert.ReferenceIdeal.Points
open Idealize.ShloMosaic Idealize.SL Idealize.SL.Sem
open Cert.ReferenceIdeal Cert.ReferenceIdeal.Step
open Cert.Scan

/-- The chunk's number as the reversed loop computes it, read signed. -/
theorem at_eq (n : ℕ) (hn : n < 32) (s : State Ideal) (i : S_.Idx) : (b3 n s i).toInt = (rchunk n).val := by
  show ((32#32 - BitVec.ofNat 32 n) - 1#32).toInt = ((31 - n : ℕ) : ℤ)
  interval_cases n <;> rfl

/-- A stack of states (rows, squares, rows of lanes) at chunk `n`, and a state. -/
abbrev stN (x : FVec Ideal ⟨4, ![32, 8, 128, 128]⟩ .f32) (n : Fin 32) : St := fun h k v => x (ix4 n h k v)
abbrev rowsN (x : FVec Ideal ⟨4, ![32, 8, 64, 128]⟩ .f32) (n : Fin 32) : Rows := fun h c v => x (ix4 n h c v)
abbrev sqN (x : FVec Ideal ⟨4, ![32, 8, 64, 64]⟩ .f32) (n : Fin 32) : Sq := fun h c j => x (ix4 n h c j)
abbrev lnN (x : FVec Ideal ⟨3, ![32, 8, 128]⟩ .f32) (n : Fin 32) : Ln := fun h v => x (ix3 n h v)
abbrev stS (x : FVec Ideal ⟨3, ![8, 128, 128]⟩ .f32) : St := fun h k v => x (ix3 h k v)

/-- What trip `n` reads of `s`. -/
theorem read_s (n : ℕ) (hn : n < 32) (s : State Ideal) (h : Fin 8) (k v : Fin 128) :
    b8 n s (ix3 h k v) = s.main_v23_0 (ix4 (rchunk n) h k v) := by
  rw [b8]
  pointwise []
  rw [b7]
  exact slice_st _ _ (rchunk n) (at_eq n hn s _) rfl rfl rfl _ _ h k v

/-- What trip `n` reads of `o`. -/
theorem read_o (n : ℕ) (hn : n < 32) (s : State Ideal) (h : Fin 8) (c : Fin 64) (v : Fin 128) :
    b13 n s (ix3 h c v) = s.main_v23_1 (ix4 (rchunk n) h c v) := by
  rw [b13]
  pointwise []
  rw [b12]
  exact slice_rows _ _ (rchunk n) (at_eq n hn s _) rfl rfl rfl _ _ h c v

/-- What trip `n` reads of `u`. -/
theorem read_u (n : ℕ) (hn : n < 32) (s : State Ideal) (h : Fin 8) (c : Fin 64) (v : Fin 128) :
    b18 n s (ix3 h c v) = s.main_v23_2 (ix4 (rchunk n) h c v) := by
  rw [b18]
  pointwise []
  rw [b17]
  exact slice_rows _ _ (rchunk n) (at_eq n hn s _) rfl rfl rfl _ _ h c v

/-- What trip `n` reads of `w`. -/
theorem read_w (n : ℕ) (hn : n < 32) (s : State Ideal) (h : Fin 8) (c : Fin 64) (v : Fin 128) :
    b23 n s (ix3 h c v) = s.main_v23_3 (ix4 (rchunk n) h c v) := by
  rw [b23]
  pointwise []
  rw [b22]
  exact slice_rows _ _ (rchunk n) (at_eq n hn s _) rfl rfl rfl _ _ h c v

/-- What trip `n` reads of `qk`. -/
theorem read_qk (n : ℕ) (hn : n < 32) (s : State Ideal) (h : Fin 8) (c j : Fin 64) :
    b28 n s (ix3 h c j) = s.main_v23_4 (ix4 (rchunk n) h c j) := by
  rw [b28]
  pointwise []
  rw [b27]
  exact slice_sq _ _ (rchunk n) (at_eq n hn s _) rfl rfl rfl _ _ h c j

/-- What trip `n` reads of `qd`. -/
theorem read_qd (n : ℕ) (hn : n < 32) (s : State Ideal) (h : Fin 8) (c : Fin 64) (v : Fin 128) :
    b33 n s (ix3 h c v) = s.main_v23_5 (ix4 (rchunk n) h c v) := by
  rw [b33]
  pointwise []
  rw [b32]
  exact slice_rows _ _ (rchunk n) (at_eq n hn s _) rfl rfl rfl _ _ h c v

/-- What trip `n` reads of `kd`. -/
theorem read_kd (n : ℕ) (hn : n < 32) (s : State Ideal) (h : Fin 8) (c : Fin 64) (v : Fin 128) :
    b38 n s (ix3 h c v) = s.main_v23_6 (ix4 (rchunk n) h c v) := by
  rw [b38]
  pointwise []
  rw [b37]
  exact slice_rows _ _ (rchunk n) (at_eq n hn s _) rfl rfl rfl _ _ h c v

/-- What trip `n` reads of `gl`. -/
theorem read_gl (n : ℕ) (hn : n < 32) (s : State Ideal) (h : Fin 8) (v : Fin 128) :
    b42 n s (ix2 h v) = s.main_v23_7 (ix3 (rchunk n) h v) := by
  rw [b42]
  pointwise []
  rw [b41]
  exact slice_ln _ _ (rchunk n) (at_eq n hn s _) rfl rfl _ _ h v

/-- `vnew` of a trip. -/
theorem vnew_eq (n : ℕ) (hn : n < 32) (s : State Ideal) (h : Fin 8) (c : Fin 64) (v : Fin 128) :
    b44 n s (ix3 h c v) = vnew (stN s.main_v23_0 (rchunk n)) (rowsN s.main_v23_2 (rchunk n)) (rowsN s.main_v23_3 (rchunk n)) h c v := by
  pointwise! [b44, b43, vnew, read_u n hn, read_w n hn, read_s n hn]

/-- `du` of a trip. -/
theorem du_eq (n : ℕ) (hn : n < 32) (s : State Ideal) (h : Fin 8) (c : Fin 64) (v : Fin 128) :
    b67 n s (ix3 h c v) = gradU (stS s.main_v23_9) (sqN s.main_v23_4 (rchunk n)) (rowsN s.main_v23_6 (rchunk n)) (rowsN s.main_v23_1 (rchunk n)) h c v := by
  pointwise! [b67, b54, b53, b66, b65, gradU, read_qk n hn, read_kd n hn, read_o n hn]
  simp only [rowsN, sqN, stS, mul_comm]
/-- `dw` of a trip. -/
theorem dw_eq (n : ℕ) (hn : n < 32) (s : State Ideal) (h : Fin 8) (c : Fin 64) (v : Fin 128) :
    b77 n s (ix3 h c v) = gradW (stN s.main_v23_0 (rchunk n)) (stS s.main_v23_9) (sqN s.main_v23_4 (rchunk n)) (rowsN s.main_v23_6 (rchunk n)) (rowsN s.main_v23_1 (rchunk n)) h c v := by
  pointwise! [b77, b73, gradW, read_s n hn, du_eq n hn]

/-- `dqk` of a trip. -/
theorem dqk_eq (n : ℕ) (hn : n < 32) (s : State Ideal) (h : Fin 8) (c j : Fin 64) :
    b68 n s (ix3 h c j) = gradQk (stN s.main_v23_0 (rchunk n)) (rowsN s.main_v23_2 (rchunk n)) (rowsN s.main_v23_3 (rchunk n)) (rowsN s.main_v23_1 (rchunk n)) h c j := by
  pointwise! [b68, gradQk, read_o n hn, vnew_eq n hn]

/-- `dqd` of a trip. -/
theorem dqd_eq (n : ℕ) (hn : n < 32) (s : State Ideal) (h : Fin 8) (c : Fin 64) (v : Fin 128) :
    b72 n s (ix3 h c v) = gradQd (stN s.main_v23_0 (rchunk n)) (rowsN s.main_v23_1 (rchunk n)) h c v := by
  pointwise! [b72, gradQd, read_s n hn, read_o n hn]

/-- `dkd` of a trip. -/
theorem dkd_eq (n : ℕ) (hn : n < 32) (s : State Ideal) (h : Fin 8) (c : Fin 64) (v : Fin 128) :
    b56 n s (ix3 h c v) = gradKd (stN s.main_v23_0 (rchunk n)) (stS s.main_v23_9) (rowsN s.main_v23_2 (rchunk n)) (rowsN s.main_v23_3 (rchunk n)) h c v := by
  pointwise! [b56, b55, gradKd, vnew_eq n hn]

/-- `dgl` of a trip. -/
theorem dgl_eq (n : ℕ) (hn : n < 32) (s : State Ideal) (h : Fin 8) (v : Fin 128) :
    b64 n s (ix2 h v) = gradGl (stN s.main_v23_0 (rchunk n)) (stS s.main_v23_9) h v := by
  pointwise! [b64, b60, b59, b57, b63, b58, gradGl, zero_add, Finset.sum_const, Finset.univ_unique, Finset.sum_singleton, read_s n hn]
  exact (congrArg (· • _) (Finset.card_singleton _)).trans (one_smul ℕ _)
/-- `ds` of a trip. -/
theorem ds_eq (n : ℕ) (hn : n < 32) (s : State Ideal) (h : Fin 8) (k v : Fin 128) :
    b76 n s (ix3 h k v) = prev (stS s.main_v23_9) (rowsN s.main_v23_3 (rchunk n)) (sqN s.main_v23_4 (rchunk n)) (rowsN s.main_v23_5 (rchunk n)) (rowsN s.main_v23_6 (rchunk n)) (lnN s.main_v23_7 (rchunk n)) (rowsN s.main_v23_1 (rchunk n)) h k v := by
  pointwise! [b76, b71, b62, b61, b48, b70, b69, b75, b74, b73, prev, read_w n hn, read_qd n hn, read_gl n hn, read_o n hn, du_eq n hn]

/-- The stack of `du` after a trip. -/
theorem du_put (n : ℕ) (hn : n < 32) (s : State Ideal) (i : Fin 32) (h : Fin 8) (c : Fin 64) (v : Fin 128) :
    b82 n s (ix4 i h c v) = if i = rchunk n then b67 n s (ix3 h c v) else s.main_v23_10 (ix4 i h c v) := by
  rw [b82]
  refine (upd_rows _ _ _ (rchunk n) (at_eq n hn s _) rfl rfl rfl _ i h c v).trans ?_
  pointwise [b78]

/-- The stack of `dw` after a trip. -/
theorem dw_put (n : ℕ) (hn : n < 32) (s : State Ideal) (i : Fin 32) (h : Fin 8) (c : Fin 64) (v : Fin 128) :
    b87 n s (ix4 i h c v) = if i = rchunk n then b77 n s (ix3 h c v) else s.main_v23_11 (ix4 i h c v) := by
  rw [b87]
  refine (upd_rows _ _ _ (rchunk n) (at_eq n hn s _) rfl rfl rfl _ i h c v).trans ?_
  pointwise [b83]

/-- The stack of `dqk` after a trip. -/
theorem dqk_put (n : ℕ) (hn : n < 32) (s : State Ideal) (i : Fin 32) (h : Fin 8) (c j : Fin 64) :
    b92 n s (ix4 i h c j) = if i = rchunk n then b68 n s (ix3 h c j) else s.main_v23_12 (ix4 i h c j) := by
  rw [b92]
  refine (upd_sq _ _ _ (rchunk n) (at_eq n hn s _) rfl rfl rfl _ i h c j).trans ?_
  pointwise [b88]

/-- The stack of `dqd` after a trip. -/
theorem dqd_put (n : ℕ) (hn : n < 32) (s : State Ideal) (i : Fin 32) (h : Fin 8) (c : Fin 64) (v : Fin 128) :
    b97 n s (ix4 i h c v) = if i = rchunk n then b72 n s (ix3 h c v) else s.main_v23_13 (ix4 i h c v) := by
  rw [b97]
  refine (upd_rows _ _ _ (rchunk n) (at_eq n hn s _) rfl rfl rfl _ i h c v).trans ?_
  pointwise [b93]

/-- The stack of `dkd` after a trip. -/
theorem dkd_put (n : ℕ) (hn : n < 32) (s : State Ideal) (i : Fin 32) (h : Fin 8) (c : Fin 64) (v : Fin 128) :
    b102 n s (ix4 i h c v) = if i = rchunk n then b56 n s (ix3 h c v) else s.main_v23_14 (ix4 i h c v) := by
  rw [b102]
  refine (upd_rows _ _ _ (rchunk n) (at_eq n hn s _) rfl rfl rfl _ i h c v).trans ?_
  pointwise [b98]

/-- The stack of `dgl` after a trip. -/
theorem dgl_put (n : ℕ) (hn : n < 32) (s : State Ideal) (i : Fin 32) (h : Fin 8) (v : Fin 128) :
    b106 n s (ix3 i h v) = if i = rchunk n then b64 n s (ix2 h v) else s.main_v23_15 (ix3 i h v) := by
  rw [b106]
  refine (upd_ln _ _ _ (rchunk n) (at_eq n hn s _) rfl rfl _ i h v).trans ?_
  pointwise [b103]

/-- What the loop's state holds before trip `n`. -/
structure Inv (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) (n : ℕ) (t : State Ideal) : Prop where
  s_ : ∀ i, stN t.main_v23_0 i = stAt s i
  o_ : ∀ i, rowsN t.main_v23_1 i = rowsAt o i
  u_ : ∀ i, rowsN t.main_v23_2 i = rowsAt u i
  w_ : ∀ i, rowsN t.main_v23_3 i = rowsAt w i
  qk_ : ∀ i, sqN t.main_v23_4 i = sqAt qk i
  qd_ : ∀ i, rowsN t.main_v23_5 i = rowsAt qd i
  kd_ : ∀ i, rowsN t.main_v23_6 i = rowsAt kd i
  gl_ : ∀ i, lnN t.main_v23_7 i = lnAt gl i
  ds_ : stS t.main_v23_9 = dstate w qk qd kd gl o n
  du_ : ∀ i : Fin 32, 32 ≤ i.val + n → rowsN t.main_v23_10 i = gradU (dstate w qk qd kd gl o (31 - i.val)) (sqAt qk i) (rowsAt kd i) (rowsAt o i)
  dw_ : ∀ i : Fin 32, 32 ≤ i.val + n → rowsN t.main_v23_11 i = gradW (stAt s i) (dstate w qk qd kd gl o (31 - i.val)) (sqAt qk i) (rowsAt kd i) (rowsAt o i)
  dqk_ : ∀ i : Fin 32, 32 ≤ i.val + n → sqN t.main_v23_12 i = gradQk (stAt s i) (rowsAt u i) (rowsAt w i) (rowsAt o i)
  dqd_ : ∀ i : Fin 32, 32 ≤ i.val + n → rowsN t.main_v23_13 i = gradQd (stAt s i) (rowsAt o i)
  dkd_ : ∀ i : Fin 32, 32 ≤ i.val + n → rowsN t.main_v23_14 i = gradKd (stAt s i) (dstate w qk qd kd gl o (31 - i.val)) (rowsAt u i) (rowsAt w i)
  dgl_ : ∀ i : Fin 32, 32 ≤ i.val + n → lnN t.main_v23_15 i = gradGl (stAt s i) (dstate w qk qd kd gl o (31 - i.val))

/-- It holds before the first trip. -/
theorem inv_init (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) : Inv s u w qk qd kd gl o 0 (init (F := Ideal) s u w qk qd kd gl o) where
  s_ i := by
    funext h k v
    show A_main_v16 (F := Ideal) s u w qk qd kd gl o (ix4 i h k v) = _
    pointwise [A_main_v16, stAt, hd, row, row8]
    simp only [Nat.mul_comm]
  o_ i := by
    funext h c v
    show A_main_v14 (F := Ideal) s u w qk qd kd gl o (ix4 i h c v) = _
    pointwise [A_main_v14, A_main_v13, rowsAt, hd, row, row8]
    simp only [Nat.mul_comm]
  u_ i := by
    funext h c v
    show A_main_v1 (F := Ideal) s u w qk qd kd gl o (ix4 i h c v) = _
    pointwise [A_main_v1, A_main_v0, rowsAt, hd, row, row8]
    simp only [Nat.mul_comm]
  w_ i := by
    funext h c v
    show A_main_v3 (F := Ideal) s u w qk qd kd gl o (ix4 i h c v) = _
    pointwise [A_main_v3, A_main_v2, rowsAt, hd, row, row8]
    simp only [Nat.mul_comm]
  qk_ i := by
    funext h c j
    show A_main_v5 (F := Ideal) s u w qk qd kd gl o (ix4 i h c j) = _
    pointwise [A_main_v5, A_main_v4, sqAt, hd, row, row8]
    simp only [Nat.mul_comm]
  qd_ i := by
    funext h c v
    show A_main_v7 (F := Ideal) s u w qk qd kd gl o (ix4 i h c v) = _
    pointwise [A_main_v7, A_main_v6, rowsAt, hd, row, row8]
    simp only [Nat.mul_comm]
  kd_ i := by
    funext h c v
    show A_main_v9 (F := Ideal) s u w qk qd kd gl o (ix4 i h c v) = _
    pointwise [A_main_v9, A_main_v8, rowsAt, hd, row, row8]
    simp only [Nat.mul_comm]
  gl_ i := by
    funext h v
    show A_main_v12 (F := Ideal) s u w qk qd kd gl o (ix3 i h v) = _
    pointwise [A_main_v12, A_main_v11, A_main_v10, lnAt, hd, row, row8]
    simp only [Nat.mul_comm]
  ds_ := by
    funext h k v
    show K_main_v15 (F := Ideal) (ix3 h k v) = _
    pointwise [K_main_v15, K_main_cst, dstate]
  du_ i hi := absurd hi (by have := i.isLt; omega)
  dw_ i hi := absurd hi (by have := i.isLt; omega)
  dqk_ i hi := absurd hi (by have := i.isLt; omega)
  dqd_ i hi := absurd hi (by have := i.isLt; omega)
  dkd_ i hi := absurd hi (by have := i.isLt; omega)
  dgl_ i hi := absurd hi (by have := i.isLt; omega)

/-- A trip keeps it. -/
theorem inv_step (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) (n : ℕ) (hn : n < 32) (t : State Ideal) (hs : Inv s u w qk qd kd gl o n t) :
    Inv s u w qk qd kd gl o (n + 1) (step n t) where
  s_ := hs.s_
  o_ := hs.o_
  u_ := hs.u_
  w_ := hs.w_
  qk_ := hs.qk_
  qd_ := hs.qd_
  kd_ := hs.kd_
  gl_ := hs.gl_
  ds_ := by
    funext h k v
    refine (ds_eq n hn t h k v).trans ?_
    rw [hs.ds_, hs.w_, hs.qk_, hs.qd_, hs.kd_, hs.gl_, hs.o_, dstate]
  du_ i hi := by
    funext h c v
    refine (du_put n hn t i h c v).trans ?_
    by_cases e : i = rchunk n
    · subst e
      rw [if_pos rfl, du_eq n hn, hs.ds_, hs.qk_, hs.kd_, hs.o_, show 31 - (rchunk n).val = n by simp only [rchunk]; omega]
    · rw [if_neg e]
      exact (congrFun (congrFun (congrFun (hs.du_ i (by have : i.val ≠ 31 - n := fun h => e (Fin.ext h); omega)) h) c) v)
  dw_ i hi := by
    funext h c v
    refine (dw_put n hn t i h c v).trans ?_
    by_cases e : i = rchunk n
    · subst e
      rw [if_pos rfl, dw_eq n hn, hs.s_, hs.ds_, hs.qk_, hs.kd_, hs.o_, show 31 - (rchunk n).val = n by simp only [rchunk]; omega]
    · rw [if_neg e]
      exact (congrFun (congrFun (congrFun (hs.dw_ i (by have : i.val ≠ 31 - n := fun h => e (Fin.ext h); omega)) h) c) v)
  dqk_ i hi := by
    funext h c j
    refine (dqk_put n hn t i h c j).trans ?_
    by_cases e : i = rchunk n
    · subst e
      rw [if_pos rfl, dqk_eq n hn, hs.s_, hs.u_, hs.w_, hs.o_]
    · rw [if_neg e]
      exact (congrFun (congrFun (congrFun (hs.dqk_ i (by have : i.val ≠ 31 - n := fun h => e (Fin.ext h); omega)) h) c) j)
  dqd_ i hi := by
    funext h c v
    refine (dqd_put n hn t i h c v).trans ?_
    by_cases e : i = rchunk n
    · subst e
      rw [if_pos rfl, dqd_eq n hn, hs.s_, hs.o_]
    · rw [if_neg e]
      exact (congrFun (congrFun (congrFun (hs.dqd_ i (by have : i.val ≠ 31 - n := fun h => e (Fin.ext h); omega)) h) c) v)
  dkd_ i hi := by
    funext h c v
    refine (dkd_put n hn t i h c v).trans ?_
    by_cases e : i = rchunk n
    · subst e
      rw [if_pos rfl, dkd_eq n hn, hs.s_, hs.ds_, hs.u_, hs.w_, show 31 - (rchunk n).val = n by simp only [rchunk]; omega]
    · rw [if_neg e]
      exact (congrFun (congrFun (congrFun (hs.dkd_ i (by have : i.val ≠ 31 - n := fun h => e (Fin.ext h); omega)) h) c) v)
  dgl_ i hi := by
    funext h v
    refine (dgl_put n hn t i h v).trans ?_
    by_cases e : i = rchunk n
    · subst e
      rw [if_pos rfl, dgl_eq n hn, hs.s_, hs.ds_, show 31 - (rchunk n).val = n by simp only [rchunk]; omega]
    · rw [if_neg e]
      exact (congrFun (congrFun (hs.dgl_ i (by have : i.val ≠ 31 - n := fun h => e (Fin.ext h); omega)) h) v)

/-- The loop's states. -/
def iter (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) : ℕ → State Ideal
  | 0 => init s u w qk qd kd gl o
  | n + 1 => step n (iter s u w qk qd kd gl o n)

theorem inv_iter (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) : ∀ n, n ≤ 32 → Inv s u w qk qd kd gl o n (iter s u w qk qd kd gl o n)
  | 0, _ => inv_init s u w qk qd kd gl o
  | n + 1, h => inv_step s u w qk qd kd gl o n (by omega) _ (inv_iter s u w qk qd kd gl o n (by omega))

/-- The result that holds `du`. -/
theorem result_du (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) : R_main_v36 (iter s u w qk qd kd gl o 32) = rowsOf fun n => gradU (dstate w qk qd kd gl o (31 - n.val)) (sqAt qk n) (rowsAt kd n) (rowsAt o n) := by
  funext i
  idx_vars i
  obtain ⟨n, c, rfl⟩ := exists_row i0
  obtain ⟨h, v, rfl⟩ := exists_hd i1
  rw [rowsOf_at, ← (inv_iter s u w qk qd kd gl o 32 (Nat.le_refl _)).du_ n (by omega)]
  generalize iter s u w qk qd kd gl o 32 = t
  pointwise [R_main_v36, hd, row]

/-- The result that holds `dw`. -/
theorem result_dw (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) : R_main_v34 (iter s u w qk qd kd gl o 32) = rowsOf fun n => gradW (stAt s n) (dstate w qk qd kd gl o (31 - n.val)) (sqAt qk n) (rowsAt kd n) (rowsAt o n) := by
  funext i
  idx_vars i
  obtain ⟨n, c, rfl⟩ := exists_row i0
  obtain ⟨h, v, rfl⟩ := exists_hd i1
  rw [rowsOf_at, ← (inv_iter s u w qk qd kd gl o 32 (Nat.le_refl _)).dw_ n (by omega)]
  generalize iter s u w qk qd kd gl o 32 = t
  pointwise [R_main_v34, hd, row]

/-- The result that holds `dqk`. -/
theorem result_dqk (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) : R_main_v32 (iter s u w qk qd kd gl o 32) = sqOf fun n => gradQk (stAt s n) (rowsAt u n) (rowsAt w n) (rowsAt o n) := by
  funext i
  idx_vars i
  obtain ⟨n, c, rfl⟩ := exists_row i1
  rw [sqOf_at, ← (inv_iter s u w qk qd kd gl o 32 (Nat.le_refl _)).dqk_ n (by omega)]
  generalize iter s u w qk qd kd gl o 32 = t
  pointwise [R_main_v32, row]

/-- The result that holds `dqd`. -/
theorem result_dqd (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) : R_main_v30 (iter s u w qk qd kd gl o 32) = rowsOf fun n => gradQd (stAt s n) (rowsAt o n) := by
  funext i
  idx_vars i
  obtain ⟨n, c, rfl⟩ := exists_row i0
  obtain ⟨h, v, rfl⟩ := exists_hd i1
  rw [rowsOf_at, ← (inv_iter s u w qk qd kd gl o 32 (Nat.le_refl _)).dqd_ n (by omega)]
  generalize iter s u w qk qd kd gl o 32 = t
  pointwise [R_main_v30, hd, row]

/-- The result that holds `dkd`. -/
theorem result_dkd (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) : R_main_v28 (iter s u w qk qd kd gl o 32) = rowsOf fun n => gradKd (stAt s n) (dstate w qk qd kd gl o (31 - n.val)) (rowsAt u n) (rowsAt w n) := by
  funext i
  idx_vars i
  obtain ⟨n, c, rfl⟩ := exists_row i0
  obtain ⟨h, v, rfl⟩ := exists_hd i1
  rw [rowsOf_at, ← (inv_iter s u w qk qd kd gl o 32 (Nat.le_refl _)).dkd_ n (by omega)]
  generalize iter s u w qk qd kd gl o 32 = t
  pointwise [R_main_v28, hd, row]

/-- The result that holds `dgl`. -/
theorem result_dgl (s : FVec Ideal ⟨3, ![32, 1024, 128]⟩ .f32) (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (o : FVec Ideal ⟨2, ![2048, 1024]⟩ .f32) : R_main_v26 (iter s u w qk qd kd gl o 32) = lnOf fun n => gradGl (stAt s n) (dstate w qk qd kd gl o (31 - n.val)) := by
  funext i
  idx_vars i
  obtain ⟨n, r, rfl⟩ := exists_rowr i0
  obtain ⟨h, v, rfl⟩ := exists_hd i1
  rw [lnOf_at, ← (inv_iter s u w qk qd kd gl o 32 (Nat.le_refl _)).dgl_ n (by omega)]
  generalize iter s u w qk qd kd gl o 32 = t
  pointwise [R_main_v26, hd, rowr]
  by_cases e : r = 0
  · subst e; rfl
  · rw [if_neg e, dif_neg (by have : r.val ≠ 0 := fun h => e (Fin.ext h); omega)]

end Cert.ReferenceIdeal.Points
end
-- ==== Proof.Backward.lean ====
module

public import proofs.«01_k».proof.Defs
public import proofs.«01_k».proof.Proof.KValue
public import proofs.«01_k».proof.Proof.RValue

@[expose] public section

/-! The backward scan's kernel and the vector-Jacobian product of the step, folded over the chunks from the last to the first, end with the same six arrays of gradients over the reals. -/

noncomputable section
namespace Cert.Backward
open Cert.Scan Idealize.ShloMosaic Idealize.SL Idealize.SL.Sem

/-- The reference program leaves its arguments as they were and every counter at zero. -/
theorem frame : Cert.quiescent_ReferenceIdeal := fun m ρ _ =>
  (θ_run (Cert.ReferenceIdeal.defs (F := Ideal)) _ _).mono (fun r h => ⟨fun c => (h c).2.2.2.2.2.2,
      Idealize.ShloMosaic.sem_eq_zero_of_no_sems (by decide) r.2⟩)
    (Cert.ReferenceIdeal.Value.run (F := Ideal) m ρ)

/-- The backward scan's kernel and the vector-Jacobian product of the step, folded over the chunks from the last to the first, end with the same six arrays of gradients over the reals. -/
theorem algebraic : Cert.algebraic_KernelIdeal_ReferenceIdeal := by
  intro m ρ m' ρ' _ hagree
  refine ⟨fun c => rowsOf (Cert.KernelIdeal.Points.all_du m c), fun c => rowsOf (Cert.KernelIdeal.Points.all_dw m c), fun c => sqOf (Cert.KernelIdeal.Points.all_dqk m c), fun c => rowsOf (Cert.KernelIdeal.Points.all_dqd m c), fun c => rowsOf (Cert.KernelIdeal.Points.all_dkd m c), fun c => lnOf (Cert.KernelIdeal.Points.all_dgl m c),
    Cert.KernelIdeal.Points.run m ρ, (θ_run (Cert.ReferenceIdeal.defs (F := Ideal)) _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.ReferenceIdeal.Iterated.run_iter m' ρ' (fun c => Cert.ReferenceIdeal.Points.iter (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) (fun _ => rfl) (fun _ _ => rfl))⟩
  · rw [(hagree c).1, (hagree c).2.1, (hagree c).2.2.1, (hagree c).2.2.2.1, (hagree c).2.2.2.2.1, (hagree c).2.2.2.2.2.1, (hagree c).2.2.2.2.2.2.1, (hagree c).2.2.2.2.2.2.2, Cert.ReferenceIdeal.Points.result_du]
    rfl
  · rw [(hagree c).1, (hagree c).2.1, (hagree c).2.2.1, (hagree c).2.2.2.1, (hagree c).2.2.2.2.1, (hagree c).2.2.2.2.2.1, (hagree c).2.2.2.2.2.2.1, (hagree c).2.2.2.2.2.2.2, Cert.ReferenceIdeal.Points.result_dw]
    rfl
  · rw [(hagree c).1, (hagree c).2.1, (hagree c).2.2.1, (hagree c).2.2.2.1, (hagree c).2.2.2.2.1, (hagree c).2.2.2.2.2.1, (hagree c).2.2.2.2.2.2.1, (hagree c).2.2.2.2.2.2.2, Cert.ReferenceIdeal.Points.result_dqk]
    rfl
  · rw [(hagree c).1, (hagree c).2.1, (hagree c).2.2.1, (hagree c).2.2.2.1, (hagree c).2.2.2.2.1, (hagree c).2.2.2.2.2.1, (hagree c).2.2.2.2.2.2.1, (hagree c).2.2.2.2.2.2.2, Cert.ReferenceIdeal.Points.result_dqd]
    rfl
  · rw [(hagree c).1, (hagree c).2.1, (hagree c).2.2.1, (hagree c).2.2.2.1, (hagree c).2.2.2.2.1, (hagree c).2.2.2.2.2.1, (hagree c).2.2.2.2.2.2.1, (hagree c).2.2.2.2.2.2.2, Cert.ReferenceIdeal.Points.result_dkd]
    rfl
  · rw [(hagree c).1, (hagree c).2.1, (hagree c).2.2.1, (hagree c).2.2.2.1, (hagree c).2.2.2.2.1, (hagree c).2.2.2.2.2.1, (hagree c).2.2.2.2.2.2.1, (hagree c).2.2.2.2.2.2.2, Cert.ReferenceIdeal.Points.result_dgl]
    rfl

end Cert.Backward
end
-- ==== Proof.K2Points.lean ====
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise
public import proofs.«01_k».proof.Proof.Scan

@[expose] public section

/-! What one grid point of the forward scan leaves: the state's 1024 rows, the chunk's output and the state the chunk began with. -/

set_option maxRecDepth 16384
noncomputable section
namespace Cert.Kernel2Ideal.Points
open Idealize.ShloMosaic Idealize.SL Idealize.SL.Sem Idealize.ShloMosaic.Pipeline
open Cert.Kernel2Ideal Cert.Kernel2Ideal.Gen
open Cert.Scan

variable (m : (ℓ : Loc nD τ sig) → Buf (Elt Ideal) ℓ)

set_option maxHeartbeats 4000000 in
/-- The state after the first point. -/
theorem state_A (c : Dev nD) (t : Fin cfg0.N) (h0 : t.val % 32 = 0) (h : Fin 8) (k v : Fin 128) :
    (outsAt0 m c t.val t.isLt).2.2 (ix2 (hd h k) v) =
      next (fun _ _ _ => 0) (rowsB (iblk m c 0 t)) (rowsB (iblk m c 1 t)) (rowsB (iblk m c 4 t)) (lnB (iblk m c 5 t)) h k v := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 4 t = X4
  generalize iblk m c 5 t = X5
  refine (canon_drop [_] _ [_, _, _, _, _, _, _, _] (View.cover_of_tiledL _ ![128, 128] (by sl_kernel_rfl) _)).trans ?_
  canon_tiles x hx
  all_goals
    idx_vars x
    first | obtain ⟨rfl, rfl⟩ := of_hd_zero hx0 | obtain ⟨hlt, rfl, rfl⟩ := of_hd hx0 (by rfl)
    obtain rfl : v = _ := Fin.ext hx1
    unfold_payloads
    pointwise [k0_pay3, zero_mul, mul_zero, Finset.sum_const_zero, zero_add, sub_zero, next, vnew, stB, rowsB, lnB]
    first | rfl | (simp only [hd, Fin.val_zero, Nat.mul_zero, Nat.zero_add])

set_option maxHeartbeats 4000000 in
/-- The output of the first point. -/
theorem out_A (c : Dev nD) (t : Fin cfg0.N) (h0 : t.val % 32 = 0) (k : Fin 64) (h : Fin 8) (v : Fin 128) :
    (outsAt0 m c t.val t.isLt).1 (ix2 k (hd h v)) =
      outp (fun _ _ _ => 0) (rowsB (iblk m c 0 t)) (rowsB (iblk m c 1 t)) (sqB (iblk m c 2 t)) (rowsB (iblk m c 3 t)) h k v := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  rw [k0_pay2]
  refine concat_rows ?_ ?_ ?_ ?_ ?_ ?_ ?_ ?_
  all_goals
    rintro rfl
    unfold_payloads
    pointwise [k0_pay3, zero_mul, mul_zero, Finset.sum_const_zero, zero_add, sub_zero, outp, vnew, stB, rowsB, sqB]
    first | rfl | (simp only [hd, Fin.val_zero, Nat.mul_zero, Nat.zero_add])

set_option maxHeartbeats 4000000 in
/-- The state that the first point begins with, as it stores it. -/
theorem began_A (c : Dev nD) (t : Fin cfg0.N) (h0 : t.val % 32 = 0) (h : Fin 8) (k v : Fin 128) :
    (outsAt0 m c t.val t.isLt).2.1 (ix3 0 (hd h k) v) = (fun _ _ _ => 0) h k v := by
  rw [outsAt0_A m c t h0]
  frame_open
  simp (disch := decide) only [↓ View.readCov_skip, ↓ View.readCov_cons_toLoadRect, ↓ View.readCov_fill]
  frame_out
  unfold_payloads
  pointwise [stB]

set_option maxHeartbeats 4000000 in
/-- The state after a later point. -/
theorem state_B (c : Dev nD) (t : Fin cfg0.N) (h0 : ¬ t.val % 32 = 0) (h : Fin 8) (k v : Fin 128) :
    (outsAt0 m c t.val t.isLt).2.2 (ix2 (hd h k) v) =
      next (stB (outsAt0 m c (t.val - 1) (Nat.lt_of_le_of_lt (Nat.sub_le _ _) t.isLt)).2.2) (rowsB (iblk m c 0 t)) (rowsB (iblk m c 1 t)) (rowsB (iblk m c 4 t)) (lnB (iblk m c 5 t)) h k v := by
  rw [outsAt0_B m c t h0]
  frame_open
  simp (disch := decide) only [↓ View.readCov_skip, ↓ View.readCov_cons_toLoadRect, ↓ View.readCov_fill]
  frame_out
  simp only [read_unread_whole]
  generalize (outsAt0 m c (t.val - 1) _).2.2 = S
  generalize iblk m c 0 t = X0
  generalize iblk m c 1 t = X1
  generalize iblk m c 4 t = X4
  generalize iblk m c 5 t = X5
  canon_tiles x hx
  all_goals
    idx_vars x
    first | obtain ⟨rfl, rfl⟩ := of_hd_zero hx0 | obtain ⟨hlt, rfl, rfl⟩ := of_hd hx0 (by rfl)
    obtain rfl : v = _ := Fin.ext hx1
    unfold_payloads
    pointwise [next, vnew, stB, rowsB, lnB]
    first | rfl | (simp only [hd, Fin.val_zero, Nat.mul_zero, Nat.zero_add])

set_option maxHeartbeats 4000000 in
/-- The output of a later point. -/
theorem out_B (c : Dev nD) (t : Fin cfg0.N) (h0 : ¬ t.val % 32 = 0) (k : Fin 64) (h : Fin 8) (v : Fin 128) :
    (outsAt0 m c t.val t.isLt).1 (ix2 k (hd h v)) =
      outp (stB (outsAt0 m c (t.val - 1) (Nat.lt_of_le_of_lt (Nat.sub_le _ _) t.isLt)).2.2) (rowsB (iblk m c 0 t)) (rowsB (iblk m c 1 t)) (sqB (iblk m c 2 t)) (rowsB (iblk m c 3 t)) h k v := by
  rw [outsAt0_B m c t h0]
  frame_open
  simp (disch := decide) only [↓ View.readCov_skip, ↓ View.readCov_cons_toLoadRect, ↓ View.readCov_fill]
  frame_out
  simp only [read_unread_whole]
  generalize (outsAt0 m c (t.val - 1) _).2.2 = S
  generalize iblk m c 0 t = X0
  generalize iblk m c 1 t = X1
  generalize iblk m c 2 t = X2
  generalize iblk m c 3 t = X3
  rw [k0_pay2]
  refine concat_rows ?_ ?_ ?_ ?_ ?_ ?_ ?_ ?_
  all_goals
    rintro rfl
    unfold_payloads
    pointwise [outp, vnew, stB, rowsB, sqB]
    first | rfl | (simp only [hd, Fin.val_zero, Nat.mul_zero, Nat.zero_add])

set_option maxHeartbeats 4000000 in
/-- The state that a later point begins with, as it stores it. -/
theorem began_B (c : Dev nD) (t : Fin cfg0.N) (h0 : ¬ t.val % 32 = 0) (h : Fin 8) (k v : Fin 128) :
    (outsAt0 m c t.val t.isLt).2.1 (ix3 0 (hd h k) v) = (stB (outsAt0 m c (t.val - 1) (Nat.lt_of_le_of_lt (Nat.sub_le _ _) t.isLt)).2.2) h k v := by
  rw [outsAt0_B m c t h0]
  frame_open
  simp (disch := decide) only [↓ View.readCov_skip, ↓ View.readCov_cons_toLoadRect, ↓ View.readCov_fill]
  frame_out
  simp only [read_unread_whole]
  generalize (outsAt0 m c (t.val - 1) _).2.2 = S
  unfold_payloads
  pointwise [stB]

end Cert.Kernel2Ideal.Points
end
-- ==== Proof.K2Value.lean ====
module

public import proofs.«01_k».proof.Proof.Gen.Kernel2Ideal.Value
public import proofs.«01_k».proof.Proof.K2Points

@[expose] public section

/-! What the forward scan's two arrays hold after the run: the chunks' outputs and the states the chunks begin with. -/

set_option maxRecDepth 16384
noncomputable section
namespace Cert.Kernel2Ideal.Points
open Idealize.ShloMosaic Idealize.SL Idealize.SL.Sem Idealize.ShloMosaic.Pipeline
open Cert.Kernel2Ideal Cert.Kernel2Ideal.Gen
open Cert.Scan

variable (m : (ℓ : Loc nD τ sig) → Buf (Elt Ideal) ℓ)

/-- Which block of each array point `t` reads and writes. -/
theorem idx : ∀ t : Fin cfg0.N, (win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0, 0]) :=
  (by decide +kernel : ∀ t : Fin grid0.N, _)

/-- The arguments, by name. -/
abbrev arg_u (c : Dev nD) : FVec Ideal ⟨2, ![2048, 1024]⟩ .f32 := m ((c.tc : Thread nD τ).loc main_arg0)
abbrev arg_w (c : Dev nD) : FVec Ideal ⟨2, ![2048, 1024]⟩ .f32 := m ((c.tc : Thread nD τ).loc main_arg1)
abbrev arg_qk (c : Dev nD) : FVec Ideal ⟨3, ![8, 2048, 64]⟩ .f32 := m ((c.tc : Thread nD τ).loc main_arg2)
abbrev arg_qd (c : Dev nD) : FVec Ideal ⟨2, ![2048, 1024]⟩ .f32 := m ((c.tc : Thread nD τ).loc main_arg3)
abbrev arg_kd (c : Dev nD) : FVec Ideal ⟨2, ![2048, 1024]⟩ .f32 := m ((c.tc : Thread nD τ).loc main_arg4)
abbrev arg_gl (c : Dev nD) : FVec Ideal ⟨2, ![256, 1024]⟩ .f32 := m ((c.tc : Thread nD τ).loc main_arg5)

/-- Point `t` reads chunk `t` of `u`. -/
theorem blk0 (c : Dev nD) (t : Fin cfg0.N) : rowsB (iblk m c 0 t) = rowsAt (arg_u m c) (chunk t.val) := by
  have ht : t.val < 32 := t.isLt
  funext h k v
  obtain ⟨e0, e1, e2, e3, e4, e5, -, -⟩ := idx t
  simp only [rowsB, rowsAt, hd]
  blk_ext [iblk, V, e0, row, row8, chunk]

/-- Point `t` reads chunk `t` of `w`. -/
theorem blk1 (c : Dev nD) (t : Fin cfg0.N) : rowsB (iblk m c 1 t) = rowsAt (arg_w m c) (chunk t.val) := by
  have ht : t.val < 32 := t.isLt
  funext h k v
  obtain ⟨e0, e1, e2, e3, e4, e5, -, -⟩ := idx t
  simp only [rowsB, rowsAt, hd]
  blk_ext [iblk, V, e1, row, row8, chunk]

/-- Point `t` reads chunk `t` of `qk`. -/
theorem blk2 (c : Dev nD) (t : Fin cfg0.N) : sqB (iblk m c 2 t) = sqAt (arg_qk m c) (chunk t.val) := by
  have ht : t.val < 32 := t.isLt
  funext h k v
  obtain ⟨e0, e1, e2, e3, e4, e5, -, -⟩ := idx t
  simp only [sqB, sqAt, hd]
  blk_ext [iblk, V, e2, row, row8, chunk]

/-- Point `t` reads chunk `t` of `qd`. -/
theorem blk3 (c : Dev nD) (t : Fin cfg0.N) : rowsB (iblk m c 3 t) = rowsAt (arg_qd m c) (chunk t.val) := by
  have ht : t.val < 32 := t.isLt
  funext h k v
  obtain ⟨e0, e1, e2, e3, e4, e5, -, -⟩ := idx t
  simp only [rowsB, rowsAt, hd]
  blk_ext [iblk, V, e3, row, row8, chunk]

/-- Point `t` reads chunk `t` of `kd`. -/
theorem blk4 (c : Dev nD) (t : Fin cfg0.N) : rowsB (iblk m c 4 t) = rowsAt (arg_kd m c) (chunk t.val) := by
  have ht : t.val < 32 := t.isLt
  funext h k v
  obtain ⟨e0, e1, e2, e3, e4, e5, -, -⟩ := idx t
  simp only [rowsB, rowsAt, hd]
  blk_ext [iblk, V, e4, row, row8, chunk]

/-- Point `t` reads chunk `t` of `gl`. -/
theorem blk5 (c : Dev nD) (t : Fin cfg0.N) : lnB (iblk m c 5 t) = lnAt (arg_gl m c) (chunk t.val) := by
  have ht : t.val < 32 := t.isLt
  funext h v
  obtain ⟨e0, e1, e2, e3, e4, e5, -, -⟩ := idx t
  simp only [lnB, lnAt, hd]
  blk_ext [iblk, V, e5, row, row8, chunk]

/-- The state after point `n` is the state before chunk `n + 1`. -/
theorem state_eq (c : Dev nD) : ∀ (n : ℕ) (hn : n < cfg0.N),
    stB (outsAt0 m c n hn).2.2 = state (arg_u m c) (arg_w m c) (arg_kd m c) (arg_gl m c) (n + 1)
  | 0, hn => by
    funext h k v
    rw [stB, state_A m c ⟨0, hn⟩ rfl h k v, blk0, blk1, blk4, blk5, state, state]
  | n + 1, hn => by
    have hn' : n + 1 < 32 := hn
    funext h k v
    rw [stB, state_B m c ⟨n + 1, hn⟩ (by show ¬ (n + 1) % 32 = 0; omega) h k v, blk0, blk1, blk4, blk5, state]
    exact congrArg (fun S => next S _ _ _ _ h k v) (state_eq c n (by omega))

/-- The chunk's output, and the state it begins with. -/
theorem out_eq (c : Dev nD) (t : Fin cfg0.N) (k : Fin 64) (h : Fin 8) (v : Fin 128) :
    (outsAt0 m c t.val t.isLt).1 (ix2 k (hd h v)) = outp (state (arg_u m c) (arg_w m c) (arg_kd m c) (arg_gl m c) t.val)
      (rowsAt (arg_u m c) (chunk t.val)) (rowsAt (arg_w m c) (chunk t.val)) (sqAt (arg_qk m c) (chunk t.val)) (rowsAt (arg_qd m c) (chunk t.val)) h k v := by
  have ht : t.val < 32 := t.isLt
  by_cases h0 : t.val % 32 = 0
  · have e : t.val = 0 := by omega
    rw [out_A m c t h0, blk0, blk1, blk2, blk3, e, state]
  · obtain ⟨n, e⟩ : ∃ n, t.val = n + 1 := ⟨t.val - 1, by omega⟩
    rw [out_B m c t h0, blk0, blk1, blk2, blk3, state_eq, show t.val - 1 + 1 = t.val by omega]

theorem began_eq (c : Dev nD) (t : Fin cfg0.N) (h : Fin 8) (k v : Fin 128) :
    (outsAt0 m c t.val t.isLt).2.1 (ix3 0 (hd h k) v) = state (arg_u m c) (arg_w m c) (arg_kd m c) (arg_gl m c) t.val h k v := by
  have ht : t.val < 32 := t.isLt
  by_cases h0 : t.val % 32 = 0
  · have e : t.val = 0 := by omega
    rw [began_A m c t h0, e, state]
  · rw [began_B m c t h0, state_eq, show t.val - 1 + 1 = t.val by omega]

/-- The outputs of all chunks. -/
def outs (c : Dev nD) : Fin 32 → Rows := fun n => outp (state (arg_u m c) (arg_w m c) (arg_kd m c) (arg_gl m c) n.val)
      (rowsAt (arg_u m c) n) (rowsAt (arg_w m c) n) (sqAt (arg_qk m c) n) (rowsAt (arg_qd m c) n)
/-- The states that all chunks begin with. -/
def begans (c : Dev nD) : Fin 32 → St := fun n => state (arg_u m c) (arg_w m c) (arg_kd m c) (arg_gl m c) n.val

/-- The array of outputs after the run. -/
theorem arr6 (c : Dev nD) : (dats m 0 c).arrAt 6 cfg0.N = rowsOf (outs m c) := by
  refine (dats m 0 c).arrAt_eq_of_covers 6 _ (by decide +kernel) fun t hf y => ?_
  have ht : t.val < 32 := t.isLt
  obtain ⟨-, -, -, -, -, -, e6, -⟩ := idx t
  blk_simp
  rw [after0_6]
  idx_vars y
  obtain ⟨h, v, rfl⟩ := exists_hd y1
  refine (out_eq m c t y0 h v).trans ?_
  have e : ((cfg0.win 6).blk t).view.emb (ix2 y0 (hd h v)) = ix2 (row (chunk t.val) y0) (hd h v) := by
    blk_ext [e6, row, chunk]
  rw [e, rowsOf_at]
  rw [outs, show (chunk t.val).val = t.val from Nat.mod_eq_of_lt ht]

/-- The array of states after the run. -/
theorem arr7 (c : Dev nD) : (dats m 0 c).arrAt 7 cfg0.N = statesOf (begans m c) := by
  refine (dats m 0 c).arrAt_eq_of_covers 7 _ (by decide +kernel) fun t hf y => ?_
  have ht : t.val < 32 := t.isLt
  obtain ⟨-, -, -, -, -, -, -, e7⟩ := idx t
  blk_simp
  rw [after0_7]
  idx_vars y
  obtain ⟨h, k, rfl⟩ := exists_hd y1
  obtain rfl : y0 = 0 := Fin.ext (by omega)
  refine (began_eq m c t h k y2).trans ?_
  have e : ((cfg0.win 7).blk t).view.emb (ix3 0 (hd h k) y2) = ix3 (chunk t.val) (hd h k) y2 := by
    blk_ext [e7, chunk]
  rw [e, statesOf_at]
  rw [begans, show (chunk t.val).val = t.val from Nat.mod_eq_of_lt ht]

/-- The run: the two arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = rowsOf (outs m c)
      ∧ r.2.mem ((c.tc : Thread nD τ).loc main_v0_1) = statesOf (begans m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans ((Value.final6 m c).symm.trans (arr6 m c)), (h c).2.1.trans ((Value.final7 m c).symm.trans (arr7 m c)), (h c).2.2⟩)
    (Value.run m ρ)

end Cert.Kernel2Ideal.Points
end
-- ==== Proof.R2Run.lean ====
module

public import proofs.«01_k».proof.Proof.Gen.Reference2Ideal.Run
public import proofs.«01_k».proof.Proof.Gen.Reference2Ideal.Step

@[expose] public section

/-! The reference's loop as one step function iterated from a first state: the generated run of the loop, read at a state. The lemmas are the
generated ones; a trip's step is compared with the step function by definition. -/

noncomputable section

namespace Cert.Reference2Ideal.Iterated

open Idealize.ShloMosaic Idealize.ShloMosaic.TcCoe Idealize.SL.Sem Idealize.ShloMosaic.StableHlo
open Cert.Reference2Ideal Cert.Reference2Ideal.Gen Cert.Reference2Ideal.Value
open Cert.Reference2Ideal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v16_7) = s.main_v16_7
  f_8 : V0 (Proc.devRef .tc main_v16_8) = s.main_v16_8
  f_9 : V0 (Proc.devRef .tc main_v16_9) = s.main_v16_9
  f_0 : V0 (Proc.devRef .tc main_v16_0) = s.main_v16_0
  f_1 : V0 (Proc.devRef .tc main_v16_1) = s.main_v16_1
  f_2 : V0 (Proc.devRef .tc main_v16_2) = s.main_v16_2
  f_3 : V0 (Proc.devRef .tc main_v16_3) = s.main_v16_3
  f_4 : V0 (Proc.devRef .tc main_v16_4) = s.main_v16_4
  f_5 : V0 (Proc.devRef .tc main_v16_5) = s.main_v16_5
  n_6 : V0 (Proc.devRef .tc main_v16_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.Reference2Ideal.Step.b0 j s := by
  unfold Cert.Reference2Ideal.Step.b0
  rfl
set_option maxRecDepth 8192 in
theorem al_1 (h : Holds V0 s j) : (constantI S_ 32 0#32 : (Proc.devRef .tc main_while0b_call0_c_0 : DevRef τ sig).ty.Contents (Elt F)) = Cert.Reference2Ideal.Step.b1 j s := by
  unfold Cert.Reference2Ideal.Step.b1
  rfl
set_option maxRecDepth 8192 in
theorem al_2 (h : Holds V0 s j) : (constantI S_ 32 0#32 : (Proc.devRef .tc main_while0b_call0_c_1 : DevRef τ sig).ty.Contents (Elt F)) = Cert.Reference2Ideal.Step.b2 j s := by
  unfold Cert.Reference2Ideal.Step.b2
  rfl
set_option maxRecDepth 8192 in
theorem al_3 (h : Holds V0 s j) : (Host.dynamicSlice S1x8x64x128 (V0 (Proc.devRef .tc main_v16_0)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128 : (Proc.devRef .tc main_while0b_call0_v0 : DevRef τ sig).ty.Contents (Elt F)) = Cert.Reference2Ideal.Step.b3 j s := by
  unfold Cert.Reference2Ideal.Step.b3
  rw [← al_0 h, ← al_1 h, ← al_2 h, h.f_0, h.n_6]
  try rfl
set_option maxRecDepth 8192 in
theorem al_4 (h : Holds V0 s j) : (shapeCast S8x64x128 (Host.dynamicSlice S1x8x64x128 (V0 (Proc.devRef .tc main_v16_0)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128 : (Proc.devRef .tc main_while0b_v20 : DevRef τ sig).ty.Contents (Elt F)) = Cert.Reference2Ideal.Step.b4 j s := by
  unfold Cert.Reference2Ideal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.Reference2Ideal.Step.b5 j s := by
  unfold Cert.Reference2Ideal.Step.b5
  rfl
set_option maxRecDepth 8192 in
theorem al_6 (h : Holds V0 s j) : (constantI S_ 32 0#32 : (Proc.devRef .tc main_while0b_call1_c_0 : DevRef τ sig).ty.Contents (Elt F)) = Cert.Reference2Ideal.Step.b6 j s := by
  unfold Cert.Reference2Ideal.Step.b6
  rfl
set_option maxRecDepth 8192 in
theorem al_7 (h : Holds V0 s j) : (constantI S_ 32 0#32 : (Proc.devRef .tc main_while0b_call1_c_1 : DevRef τ sig).ty.Contents (Elt F)) = Cert.Reference2Ideal.Step.b7 j s := by
  unfold Cert.Reference2Ideal.Step.b7
  rfl
set_option maxRecDepth 8192 in
theorem al_8 (h : Holds V0 s j) : (Host.dynamicSlice S1x8x64x128 (V0 (Proc.devRef .tc main_v16_1)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128 : (Proc.devRef .tc main_while0b_call1_v0 : DevRef τ sig).ty.Contents (Elt F)) = Cert.Reference2Ideal.Step.b8 j s := by
  unfold Cert.Reference2Ideal.Step.b8
  rw [← al_5 h, ← al_6 h, ← al_7 h, h.f_1, h.n_6]
  try rfl
set_option maxRecDepth 8192 in
theorem al_9 (h : Holds V0 s j) : (shapeCast S8x64x128 (Host.dynamicSlice S1x8x64x128 (V0 (Proc.devRef .tc main_v16_1)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128 : (Proc.devRef .tc main_while0b_v21 : DevRef τ sig).ty.Contents (Elt F)) = Cert.Reference2Ideal.Step.b9 j s := by
  unfold Cert.Reference2Ideal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.Reference2Ideal.Step.b10 j s := by
  unfold Cert.Reference2Ideal.Step.b10
  rfl
set_option maxRecDepth 8192 in
theorem al_11 (h : Holds V0 s j) : (constantI S_ 32 0#32 : (Proc.devRef .tc main_while0b_call2_c_0 : DevRef τ sig).ty.Contents (Elt F)) = Cert.Reference2Ideal.Step.b11 j s := by
  unfold Cert.Reference2Ideal.Step.b11
  rfl
set_option maxRecDepth 8192 in
theorem al_12 (h : Holds V0 s j) : (constantI S_ 32 0#32 : (Proc.devRef .tc main_while0b_call2_c_1 : DevRef τ sig).ty.Contents (Elt F)) = Cert.Reference2Ideal.Step.b12 j s := by
  unfold Cert.Reference2Ideal.Step.b12
  rfl
set_option maxRecDepth 8192 in
theorem al_13 (h : Holds V0 s j) : (Host.dynamicSlice S1x8x64x64 (V0 (Proc.devRef .tc main_v16_2)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x64_S1x8x64x64 : (Proc.devRef .tc main_while0b_call2_v0 : DevRef τ sig).ty.Contents (Elt F)) = Cert.Reference2Ideal.Step.b13 j s := by
  unfold Cert.Reference2Ideal.Step.b13
  rw [← al_10 h, ← al_11 h, ← al_12 h, h.f_2, h.n_6]
  try rfl
set_option maxRecDepth 8192 in
theorem al_14 (h : Holds V0 s j) : (shapeCast S8x64x64 (Host.dynamicSlice S1x8x64x64 (V0 (Proc.devRef .tc main_v16_2)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x64_S1x8x64x64) shapeCasts_S1x8x64x64_S8x64x64 : (Proc.devRef .tc main_while0b_v22 : DevRef τ sig).ty.Contents (Elt F)) = Cert.Reference2Ideal.Step.b14 j s := by
  unfold Cert.Reference2Ideal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.Reference2Ideal.Step.b15 j s := by
  unfold Cert.Reference2Ideal.Step.b15
  rfl
set_option maxRecDepth 8192 in
theorem al_16 (h : Holds V0 s j) : (constantI S_ 32 0#32 : (Proc.devRef .tc main_while0b_call3_c_0 : DevRef τ sig).ty.Contents (Elt F)) = Cert.Reference2Ideal.Step.b16 j s := by
  unfold Cert.Reference2Ideal.Step.b16
  rfl
set_option maxRecDepth 8192 in
theorem al_17 (h : Holds V0 s j) : (constantI S_ 32 0#32 : (Proc.devRef .tc main_while0b_call3_c_1 : DevRef τ sig).ty.Contents (Elt F)) = Cert.Reference2Ideal.Step.b17 j s := by
  unfold Cert.Reference2Ideal.Step.b17
  rfl
set_option maxRecDepth 8192 in
theorem al_18 (h : Holds V0 s j) : (Host.dynamicSlice S1x8x64x128 (V0 (Proc.devRef .tc main_v16_3)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128 : (Proc.devRef .tc main_while0b_call3_v0 : DevRef τ sig).ty.Contents (Elt F)) = Cert.Reference2Ideal.Step.b18 j s := by
  unfold Cert.Reference2Ideal.Step.b18
  rw [← al_15 h, ← al_16 h, ← al_17 h, h.f_3, h.n_6]
  try rfl
set_option maxRecDepth 8192 in
theorem al_19 (h : Holds V0 s j) : (shapeCast S8x64x128 (Host.dynamicSlice S1x8x64x128 (V0 (Proc.devRef .tc main_v16_3)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128 : (Proc.devRef .tc main_while0b_v23 : DevRef τ sig).ty.Contents (Elt F)) = Cert.Reference2Ideal.Step.b19 j s := by
  unfold Cert.Reference2Ideal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.Reference2Ideal.Step.b20 j s := by
  unfold Cert.Reference2Ideal.Step.b20
  rfl
set_option maxRecDepth 8192 in
theorem al_21 (h : Holds V0 s j) : (constantI S_ 32 0#32 : (Proc.devRef .tc main_while0b_call4_c_0 : DevRef τ sig).ty.Contents (Elt F)) = Cert.Reference2Ideal.Step.b21 j s := by
  unfold Cert.Reference2Ideal.Step.b21
  rfl
set_option maxRecDepth 8192 in
theorem al_22 (h : Holds V0 s j) : (constantI S_ 32 0#32 : (Proc.devRef .tc main_while0b_call4_c_1 : DevRef τ sig).ty.Contents (Elt F)) = Cert.Reference2Ideal.Step.b22 j s := by
  unfold Cert.Reference2Ideal.Step.b22
  rfl
set_option maxRecDepth 8192 in
theorem al_23 (h : Holds V0 s j) : (Host.dynamicSlice S1x8x64x128 (V0 (Proc.devRef .tc main_v16_4)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128 : (Proc.devRef .tc main_while0b_call4_v0 : DevRef τ sig).ty.Contents (Elt F)) = Cert.Reference2Ideal.Step.b23 j s := by
  unfold Cert.Reference2Ideal.Step.b23
  rw [← al_20 h, ← al_21 h, ← al_22 h, h.f_4, h.n_6]
  try rfl
set_option maxRecDepth 8192 in
theorem al_24 (h : Holds V0 s j) : (shapeCast S8x64x128 (Host.dynamicSlice S1x8x64x128 (V0 (Proc.devRef .tc main_v16_4)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128 : (Proc.devRef .tc main_while0b_v24 : DevRef τ sig).ty.Contents (Elt F)) = Cert.Reference2Ideal.Step.b24 j s := by
  unfold Cert.Reference2Ideal.Step.b24
  rw [← al_23 h]
  try rfl
set_option maxRecDepth 8192 in
theorem al_25 (h : Holds V0 s j) : (constantI S_ 32 0#32 : (Proc.devRef .tc main_while0b_call5_c : DevRef τ sig).ty.Contents (Elt F)) = Cert.Reference2Ideal.Step.b25 j s := by
  unfold Cert.Reference2Ideal.Step.b25
  rfl
set_option maxRecDepth 8192 in
theorem al_26 (h : Holds V0 s j) : (constantI S_ 32 0#32 : (Proc.devRef .tc main_while0b_call5_c_0 : DevRef τ sig).ty.Contents (Elt F)) = Cert.Reference2Ideal.Step.b26 j s := by
  unfold Cert.Reference2Ideal.Step.b26
  rfl
set_option maxRecDepth 8192 in
theorem al_27 (h : Holds V0 s j) : (Host.dynamicSlice S1x8x128 (V0 (Proc.devRef .tc main_v16_5)) (fun k => (((![V0 (Proc.devRef .tc main_v16_6), constantI S_ 32 0#32, constantI S_ 32 0#32] : Fin 3 → (⟨S_, .i32⟩ : BufTy).Contents (Elt F))) k (Shape.Idx.first h_S_)).toInt) sliceFits_S32x8x128_S1x8x128 : (Proc.devRef .tc main_while0b_call5_v0 : DevRef τ sig).ty.Contents (Elt F)) = Cert.Reference2Ideal.Step.b27 j s := by
  unfold Cert.Reference2Ideal.Step.b27
  rw [← al_25 h, ← al_26 h, h.f_5, h.n_6]
  try rfl
set_option maxRecDepth 8192 in
theorem al_28 (h : Holds V0 s j) : (shapeCast S8x128 (Host.dynamicSlice S1x8x128 (V0 (Proc.devRef .tc main_v16_5)) (fun k => (((![V0 (Proc.devRef .tc main_v16_6), constantI S_ 32 0#32, constantI S_ 32 0#32] : Fin 3 → (⟨S_, .i32⟩ : BufTy).Contents (Elt F))) k (Shape.Idx.first h_S_)).toInt) sliceFits_S32x8x128_S1x8x128) shapeCasts_S1x8x128_S8x128 : (Proc.devRef .tc main_while0b_v25 : DevRef τ sig).ty.Contents (Elt F)) = Cert.Reference2Ideal.Step.b28 j s := by
  unfold Cert.Reference2Ideal.Step.b28
  rw [← al_27 h]
  try rfl
set_option maxRecDepth 8192 in
theorem al_29 (h : Holds V0 s j) : (Host.dotGeneral dot_S8x64x128_S8x128x128_S8x64x128_2_1_1_2_0_0 none (shapeCast S8x64x128 (Host.dynamicSlice S1x8x64x128 (V0 (Proc.devRef .tc main_v16_1)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128) (V0 (Proc.devRef .tc main_v16_7)) : (Proc.devRef .tc main_while0b_v26 : DevRef τ sig).ty.Contents (Elt F)) = Cert.Reference2Ideal.Step.b29 j s := by
  unfold Cert.Reference2Ideal.Step.b29
  rw [← al_9 h, h.f_7]
  try rfl
set_option maxRecDepth 8192 in
theorem al_30 (h : Holds V0 s j) : (res_main_while0b_v27 V0 : (Proc.devRef .tc main_while0b_v27 : DevRef τ sig).ty.Contents (Elt F)) = Cert.Reference2Ideal.Step.b30 j s := by
  unfold res_main_while0b_v27 Cert.Reference2Ideal.Step.b30
  rw [← al_4 h, ← al_29 h]
  try rfl
set_option maxRecDepth 8192 in
theorem al_31 (h : Holds V0 s j) : (Host.dotGeneral dot_S8x64x128_S8x128x128_S8x64x128_2_1_1_2_0_0 none (shapeCast S8x64x128 (Host.dynamicSlice S1x8x64x128 (V0 (Proc.devRef .tc main_v16_3)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128) (V0 (Proc.devRef .tc main_v16_7)) : (Proc.devRef .tc main_while0b_v28 : DevRef τ sig).ty.Contents (Elt F)) = Cert.Reference2Ideal.Step.b31 j s := by
  unfold Cert.Reference2Ideal.Step.b31
  rw [← al_19 h, h.f_7]
  try rfl
set_option maxRecDepth 8192 in
theorem al_32 (h : Holds V0 s j) : (Host.dotGeneral dot_S8x64x64_S8x64x128_S8x64x128_2_1_1_2_0_0 none (shapeCast S8x64x64 (Host.dynamicSlice S1x8x64x64 (V0 (Proc.devRef .tc main_v16_2)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x64_S1x8x64x64) shapeCasts_S1x8x64x64_S8x64x64) (res_main_while0b_v27 V0) : (Proc.devRef .tc main_while0b_v29 : DevRef τ sig).ty.Contents (Elt F)) = Cert.Reference2Ideal.Step.b32 j s := by
  unfold Cert.Reference2Ideal.Step.b32
  rw [← al_14 h, ← al_30 h]
  try rfl
set_option maxRecDepth 8192 in
theorem al_33 (h : Holds V0 s j) : (addf (Host.dotGeneral dot_S8x64x128_S8x128x128_S8x64x128_2_1_1_2_0_0 none (shapeCast S8x64x128 (Host.dynamicSlice S1x8x64x128 (V0 (Proc.devRef .tc main_v16_3)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128) (V0 (Proc.devRef .tc main_v16_7))) (Host.dotGeneral dot_S8x64x64_S8x64x128_S8x64x128_2_1_1_2_0_0 none (shapeCast S8x64x64 (Host.dynamicSlice S1x8x64x64 (V0 (Proc.devRef .tc main_v16_2)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x64_S1x8x64x64) shapeCasts_S1x8x64x64_S8x64x64) (res_main_while0b_v27 V0)) : (Proc.devRef .tc main_while0b_v30 : DevRef τ sig).ty.Contents (Elt F)) = Cert.Reference2Ideal.Step.b33 j s := by
  unfold Cert.Reference2Ideal.Step.b33
  rw [← al_31 h, ← al_32 h]
  try rfl
set_option maxRecDepth 8192 in
theorem al_34 (h : Holds V0 s j) : (broadcastInDim S8x1x128 ![0, 2] bcast_S8x128_S8x1x128_0_2 (shapeCast S8x128 (Host.dynamicSlice S1x8x128 (V0 (Proc.devRef .tc main_v16_5)) (fun k => (((![V0 (Proc.devRef .tc main_v16_6), constantI S_ 32 0#32, constantI S_ 32 0#32] : Fin 3 → (⟨S_, .i32⟩ : BufTy).Contents (Elt F))) k (Shape.Idx.first h_S_)).toInt) sliceFits_S32x8x128_S1x8x128) shapeCasts_S1x8x128_S8x128) : (Proc.devRef .tc main_while0b_v31 : DevRef τ sig).ty.Contents (Elt F)) = Cert.Reference2Ideal.Step.b34 j s := by
  unfold Cert.Reference2Ideal.Step.b34
  rw [← al_28 h]
  try rfl
set_option maxRecDepth 8192 in
theorem al_35 (h : Holds V0 s j) : (broadcastInDim S8x128x128 ![0, 1, 2] bcast_S8x1x128_S8x128x128_0_1_2 (broadcastInDim S8x1x128 ![0, 2] bcast_S8x128_S8x1x128_0_2 (shapeCast S8x128 (Host.dynamicSlice S1x8x128 (V0 (Proc.devRef .tc main_v16_5)) (fun k => (((![V0 (Proc.devRef .tc main_v16_6), constantI S_ 32 0#32, constantI S_ 32 0#32] : Fin 3 → (⟨S_, .i32⟩ : BufTy).Contents (Elt F))) k (Shape.Idx.first h_S_)).toInt) sliceFits_S32x8x128_S1x8x128) shapeCasts_S1x8x128_S8x128)) : (Proc.devRef .tc main_while0b_v32 : DevRef τ sig).ty.Contents (Elt F)) = Cert.Reference2Ideal.Step.b35 j s := by
  unfold Cert.Reference2Ideal.Step.b35
  rw [← al_34 h]
  try rfl
set_option maxRecDepth 8192 in
theorem al_36 (h : Holds V0 s j) : (mulf (V0 (Proc.devRef .tc main_v16_7)) (broadcastInDim S8x128x128 ![0, 1, 2] bcast_S8x1x128_S8x128x128_0_1_2 (broadcastInDim S8x1x128 ![0, 2] bcast_S8x128_S8x1x128_0_2 (shapeCast S8x128 (Host.dynamicSlice S1x8x128 (V0 (Proc.devRef .tc main_v16_5)) (fun k => (((![V0 (Proc.devRef .tc main_v16_6), constantI S_ 32 0#32, constantI S_ 32 0#32] : Fin 3 → (⟨S_, .i32⟩ : BufTy).Contents (Elt F))) k (Shape.Idx.first h_S_)).toInt) sliceFits_S32x8x128_S1x8x128) shapeCasts_S1x8x128_S8x128))) : (Proc.devRef .tc main_while0b_v33 : DevRef τ sig).ty.Contents (Elt F)) = Cert.Reference2Ideal.Step.b36 j s := by
  unfold Cert.Reference2Ideal.Step.b36
  rw [← al_35 h, h.f_7]
  try rfl
set_option maxRecDepth 8192 in
theorem al_37 (h : Holds V0 s j) : (Host.dotGeneral dot_S8x64x128_S8x64x128_S8x128x128_1_1_2_2_0_0 none (shapeCast S8x64x128 (Host.dynamicSlice S1x8x64x128 (V0 (Proc.devRef .tc main_v16_4)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128) (res_main_while0b_v27 V0) : (Proc.devRef .tc main_while0b_v34 : DevRef τ sig).ty.Contents (Elt F)) = Cert.Reference2Ideal.Step.b37 j s := by
  unfold Cert.Reference2Ideal.Step.b37
  rw [← al_24 h, ← al_30 h]
  try rfl
set_option maxRecDepth 8192 in
theorem al_38 (h : Holds V0 s j) : (addf (mulf (V0 (Proc.devRef .tc main_v16_7)) (broadcastInDim S8x128x128 ![0, 1, 2] bcast_S8x1x128_S8x128x128_0_1_2 (broadcastInDim S8x1x128 ![0, 2] bcast_S8x128_S8x1x128_0_2 (shapeCast S8x128 (Host.dynamicSlice S1x8x128 (V0 (Proc.devRef .tc main_v16_5)) (fun k => (((![V0 (Proc.devRef .tc main_v16_6), constantI S_ 32 0#32, constantI S_ 32 0#32] : Fin 3 → (⟨S_, .i32⟩ : BufTy).Contents (Elt F))) k (Shape.Idx.first h_S_)).toInt) sliceFits_S32x8x128_S1x8x128) shapeCasts_S1x8x128_S8x128)))) (Host.dotGeneral dot_S8x64x128_S8x64x128_S8x128x128_1_1_2_2_0_0 none (shapeCast S8x64x128 (Host.dynamicSlice S1x8x64x128 (V0 (Proc.devRef .tc main_v16_4)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128) (res_main_while0b_v27 V0)) : (Proc.devRef .tc main_while0b_v35 : DevRef τ sig).ty.Contents (Elt F)) = Cert.Reference2Ideal.Step.b38 j s := by
  unfold Cert.Reference2Ideal.Step.b38
  rw [← al_36 h, ← al_37 h]
  try rfl
set_option maxRecDepth 8192 in
theorem al_39 (h : Holds V0 s j) : (broadcastInDim S1x8x64x128 ![1, 2, 3] bcast_S8x64x128_S1x8x64x128_1_2_3 (addf (Host.dotGeneral dot_S8x64x128_S8x128x128_S8x64x128_2_1_1_2_0_0 none (shapeCast S8x64x128 (Host.dynamicSlice S1x8x64x128 (V0 (Proc.devRef .tc main_v16_3)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128) (V0 (Proc.devRef .tc main_v16_7))) (Host.dotGeneral dot_S8x64x64_S8x64x128_S8x64x128_2_1_1_2_0_0 none (shapeCast S8x64x64 (Host.dynamicSlice S1x8x64x64 (V0 (Proc.devRef .tc main_v16_2)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x64_S1x8x64x64) shapeCasts_S1x8x64x64_S8x64x64) (res_main_while0b_v27 V0))) : (Proc.devRef .tc main_while0b_call6_v0 : DevRef τ sig).ty.Contents (Elt F)) = Cert.Reference2Ideal.Step.b39 j s := by
  unfold Cert.Reference2Ideal.Step.b39
  rw [← al_33 h]
  try rfl
set_option maxRecDepth 8192 in
theorem al_40 (h : Holds V0 s j) : (constantI S_ 32 0#32 : (Proc.devRef .tc main_while0b_call6_c : DevRef τ sig).ty.Contents (Elt F)) = Cert.Reference2Ideal.Step.b40 j s := by
  unfold Cert.Reference2Ideal.Step.b40
  rfl
set_option maxRecDepth 8192 in
theorem al_41 (h : Holds V0 s j) : (constantI S_ 32 0#32 : (Proc.devRef .tc main_while0b_call6_c_0 : DevRef τ sig).ty.Contents (Elt F)) = Cert.Reference2Ideal.Step.b41 j s := by
  unfold Cert.Reference2Ideal.Step.b41
  rfl
set_option maxRecDepth 8192 in
theorem al_42 (h : Holds V0 s j) : (constantI S_ 32 0#32 : (Proc.devRef .tc main_while0b_call6_c_1 : DevRef τ sig).ty.Contents (Elt F)) = Cert.Reference2Ideal.Step.b42 j s := by
  unfold Cert.Reference2Ideal.Step.b42
  rfl
set_option maxRecDepth 8192 in
theorem al_43 (h : Holds V0 s j) : (Host.dynamicUpdateSlice (V0 (Proc.devRef .tc main_v16_8)) (broadcastInDim S1x8x64x128 ![1, 2, 3] bcast_S8x64x128_S1x8x64x128_1_2_3 (addf (Host.dotGeneral dot_S8x64x128_S8x128x128_S8x64x128_2_1_1_2_0_0 none (shapeCast S8x64x128 (Host.dynamicSlice S1x8x64x128 (V0 (Proc.devRef .tc main_v16_3)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128) (V0 (Proc.devRef .tc main_v16_7))) (Host.dotGeneral dot_S8x64x64_S8x64x128_S8x64x128_2_1_1_2_0_0 none (shapeCast S8x64x64 (Host.dynamicSlice S1x8x64x64 (V0 (Proc.devRef .tc main_v16_2)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x64_S1x8x64x64) shapeCasts_S1x8x64x64_S8x64x64) (res_main_while0b_v27 V0)))) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) updateFits_S32x8x64x128_S1x8x64x128 : (Proc.devRef .tc main_while0b_v36 : DevRef τ sig).ty.Contents (Elt F)) = Cert.Reference2Ideal.Step.b43 j s := by
  unfold Cert.Reference2Ideal.Step.b43
  rw [← al_39 h, ← al_40 h, ← al_41 h, ← al_42 h, h.f_8, h.n_6]
  try rfl
set_option maxRecDepth 8192 in
theorem al_44 (h : Holds V0 s j) : (broadcastInDim S1x8x128x128 ![1, 2, 3] bcast_S8x128x128_S1x8x128x128_1_2_3 (V0 (Proc.devRef .tc main_v16_7)) : (Proc.devRef .tc main_while0b_call7_v0 : DevRef τ sig).ty.Contents (Elt F)) = Cert.Reference2Ideal.Step.b44 j s := by
  unfold Cert.Reference2Ideal.Step.b44
  rw [h.f_7]
  try rfl
set_option maxRecDepth 8192 in
theorem al_45 (h : Holds V0 s j) : (constantI S_ 32 0#32 : (Proc.devRef .tc main_while0b_call7_c : DevRef τ sig).ty.Contents (Elt F)) = Cert.Reference2Ideal.Step.b45 j s := by
  unfold Cert.Reference2Ideal.Step.b45
  rfl
set_option maxRecDepth 8192 in
theorem al_46 (h : Holds V0 s j) : (constantI S_ 32 0#32 : (Proc.devRef .tc main_while0b_call7_c_0 : DevRef τ sig).ty.Contents (Elt F)) = Cert.Reference2Ideal.Step.b46 j s := by
  unfold Cert.Reference2Ideal.Step.b46
  rfl
set_option maxRecDepth 8192 in
theorem al_47 (h : Holds V0 s j) : (constantI S_ 32 0#32 : (Proc.devRef .tc main_while0b_call7_c_1 : DevRef τ sig).ty.Contents (Elt F)) = Cert.Reference2Ideal.Step.b47 j s := by
  unfold Cert.Reference2Ideal.Step.b47
  rfl
set_option maxRecDepth 8192 in
theorem al_48 (h : Holds V0 s j) : (Host.dynamicUpdateSlice (V0 (Proc.devRef .tc main_v16_9)) (broadcastInDim S1x8x128x128 ![1, 2, 3] bcast_S8x128x128_S1x8x128x128_1_2_3 (V0 (Proc.devRef .tc main_v16_7))) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) updateFits_S32x8x128x128_S1x8x128x128 : (Proc.devRef .tc main_while0b_v37 : DevRef τ sig).ty.Contents (Elt F)) = Cert.Reference2Ideal.Step.b48 j s := by
  unfold Cert.Reference2Ideal.Step.b48
  rw [← al_44 h, ← al_45 h, ← al_46 h, ← al_47 h, h.f_9, h.n_6]
  try rfl

/-! One trip's step of the carried values is `step`, field by field; a counter steps to the next number. -/

theorem step_7 (h : Holds V0 s j) : step_main_v16_7 V0 = (step j s).main_v16_7 := by
  unfold step_main_v16_7 Cert.Reference2Ideal.Step.step
  show id (addf (mulf (V0 (Proc.devRef .tc main_v16_7)) (broadcastInDim S8x128x128 ![0, 1, 2] bcast_S8x1x128_S8x128x128_0_1_2 (broadcastInDim S8x1x128 ![0, 2] bcast_S8x128_S8x1x128_0_2 (shapeCast S8x128 (Host.dynamicSlice S1x8x128 (V0 (Proc.devRef .tc main_v16_5)) (fun k => (((![V0 (Proc.devRef .tc main_v16_6), constantI S_ 32 0#32, constantI S_ 32 0#32] : Fin 3 → (⟨S_, .i32⟩ : BufTy).Contents (Elt F))) k (Shape.Idx.first h_S_)).toInt) sliceFits_S32x8x128_S1x8x128) shapeCasts_S1x8x128_S8x128)))) (Host.dotGeneral dot_S8x64x128_S8x64x128_S8x128x128_1_1_2_2_0_0 none (shapeCast S8x64x128 (Host.dynamicSlice S1x8x64x128 (V0 (Proc.devRef .tc main_v16_4)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128) (res_main_while0b_v27 V0))) = _
  exact al_38 h
theorem step_8 (h : Holds V0 s j) : step_main_v16_8 V0 = (step j s).main_v16_8 := by
  unfold step_main_v16_8 Cert.Reference2Ideal.Step.step
  show id (Host.dynamicUpdateSlice (V0 (Proc.devRef .tc main_v16_8)) (broadcastInDim S1x8x64x128 ![1, 2, 3] bcast_S8x64x128_S1x8x64x128_1_2_3 (addf (Host.dotGeneral dot_S8x64x128_S8x128x128_S8x64x128_2_1_1_2_0_0 none (shapeCast S8x64x128 (Host.dynamicSlice S1x8x64x128 (V0 (Proc.devRef .tc main_v16_3)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x128_S1x8x64x128) shapeCasts_S1x8x64x128_S8x64x128) (V0 (Proc.devRef .tc main_v16_7))) (Host.dotGeneral dot_S8x64x64_S8x64x128_S8x64x128_2_1_1_2_0_0 none (shapeCast S8x64x64 (Host.dynamicSlice S1x8x64x64 (V0 (Proc.devRef .tc main_v16_2)) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) sliceFits_S32x8x64x64_S1x8x64x64) shapeCasts_S1x8x64x64_S8x64x64) (res_main_while0b_v27 V0)))) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) updateFits_S32x8x64x128_S1x8x64x128) = _
  exact al_43 h
theorem step_9 (h : Holds V0 s j) : step_main_v16_9 V0 = (step j s).main_v16_9 := by
  unfold step_main_v16_9 Cert.Reference2Ideal.Step.step
  show id (Host.dynamicUpdateSlice (V0 (Proc.devRef .tc main_v16_9)) (broadcastInDim S1x8x128x128 ![1, 2, 3] bcast_S8x128x128_S1x8x128x128_1_2_3 (V0 (Proc.devRef .tc main_v16_7))) (fun k => (((![V0 (Proc.devRef .tc main_v16_6), constantI S_ 32 0#32, constantI S_ 32 0#32, constantI S_ 32 0#32] : Fin 4 → (⟨S_, .i32⟩ : BufTy).Contents (Elt F))) k (Shape.Idx.first h_S_)).toInt) updateFits_S32x8x128x128_S1x8x128x128) = _
  exact al_48 h
theorem step_6 (h : Holds V0 s j) : step_main_v16_6 V0 = constantI S_ 32 (BitVec.ofNat 32 (j + 1)) := by
  unfold step_main_v16_6
  rw [h.n_6]
  funext i
  show BitVec.ofNat 32 j + 1#32 = BitVec.ofNat 32 (j + 1)
  simp only [BitVec.ofNat_add]

set_option maxRecDepth 8192 in
theorem out_main_v18_holds (h : Holds V0 s j) : out_main_v18 V0 = Cert.Reference2Ideal.Step.R_main_v18 s := by
  unfold out_main_v18 Cert.Reference2Ideal.Step.R_main_v18
  rw [h.f_8]
  try rfl

set_option maxRecDepth 8192 in
theorem out_main_v19_holds (h : Holds V0 s j) : out_main_v19 V0 = Cert.Reference2Ideal.Step.R_main_v19 s := by
  unfold out_main_v19 Cert.Reference2Ideal.Step.R_main_v19
  rw [h.f_9]
  try rfl

/-- One trip keeps the valuation holding: `step` of the state, the same set-up values, the next number. -/
theorem holds_step (h : Holds V0 s j) : Holds (STEP V0) (step j s) (j + 1) where
  f_7 := (STEP_main_v16_7 V0).trans (step_7 h)
  f_8 := (STEP_main_v16_8 V0).trans (step_8 h)
  f_9 := (STEP_main_v16_9 V0).trans (step_9 h)
  n_6 := (STEP_main_v16_6 V0).trans (step_6 h)
  f_0 := (STEP_main_v16_0 V0).trans h.f_0
  f_1 := (STEP_main_v16_1 V0).trans h.f_1
  f_2 := (STEP_main_v16_2 V0).trans h.f_2
  f_3 := (STEP_main_v16_3 V0).trans h.f_3
  f_4 := (STEP_main_v16_4 V0).trans h.f_4
  f_5 := (STEP_main_v16_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference2Ideal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v18) = Cert.Reference2Ideal.Step.R_main_v18 (it c 32)
      ∧ r.2.mem ((c.tc : Thread nD τ).loc main_v19) = Cert.Reference2Ideal.Step.R_main_v19 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 32
    ⟨(h c).1.trans (out_main_v18_holds hk), (h c).2.1.trans (out_main_v19_holds hk), (h c).2.2.1, (h c).2.2.2.1, (h c).2.2.2.2.1, (h c).2.2.2.2.2.1, (h c).2.2.2.2.2.2.1, (h c).2.2.2.2.2.2.2⟩) (Value.run m ρ)

end Cert.Reference2Ideal.Iterated

end
-- ==== Proof.R2Value.lean ====
module

public import proofs.«01_k».proof.Proof.R2Run
public import proofs.«01_k».proof.Proof.Seq

@[expose] public section

/-! What the forward scan's reference computes: after `n` trips the state before chunk `n`, and the outputs and states of the chunks before it. -/

set_option maxRecDepth 16384
noncomputable section
namespace Cert.Reference2Ideal.Points
open Idealize.ShloMosaic Idealize.SL Idealize.SL.Sem
open Cert.Reference2Ideal Cert.Reference2Ideal.Step
open Cert.Scan

/-- What trip `n` reads of `u`. -/
theorem read_u (n : Fin 32) (s : State Ideal) (h : Fin 8) (c : Fin 64) (v : Fin 128) :
    b4 n.val s (ix3 h c v) = s.main_v16_0 (ix4 n h c v) := by
  rw [b4]
  pointwise []
  rw [b3]
  exact slice_rows _ _ n (toInt_ofNat n.val n.isLt) rfl rfl rfl _ _ h c v

/-- What trip `n` reads of `w`. -/
theorem read_w (n : Fin 32) (s : State Ideal) (h : Fin 8) (c : Fin 64) (v : Fin 128) :
    b9 n.val s (ix3 h c v) = s.main_v16_1 (ix4 n h c v) := by
  rw [b9]
  pointwise []
  rw [b8]
  exact slice_rows _ _ n (toInt_ofNat n.val n.isLt) rfl rfl rfl _ _ h c v

/-- What trip `n` reads of `qk`. -/
theorem read_qk (n : Fin 32) (s : State Ideal) (h : Fin 8) (c j : Fin 64) :
    b14 n.val s (ix3 h c j) = s.main_v16_2 (ix4 n h c j) := by
  rw [b14]
  pointwise []
  rw [b13]
  exact slice_sq _ _ n (toInt_ofNat n.val n.isLt) rfl rfl rfl _ _ h c j

/-- What trip `n` reads of `qd`. -/
theorem read_qd (n : Fin 32) (s : State Ideal) (h : Fin 8) (c : Fin 64) (v : Fin 128) :
    b19 n.val s (ix3 h c v) = s.main_v16_3 (ix4 n h c v) := by
  rw [b19]
  pointwise []
  rw [b18]
  exact slice_rows _ _ n (toInt_ofNat n.val n.isLt) rfl rfl rfl _ _ h c v

/-- What trip `n` reads of `kd`. -/
theorem read_kd (n : Fin 32) (s : State Ideal) (h : Fin 8) (c : Fin 64) (v : Fin 128) :
    b24 n.val s (ix3 h c v) = s.main_v16_4 (ix4 n h c v) := by
  rw [b24]
  pointwise []
  rw [b23]
  exact slice_rows _ _ n (toInt_ofNat n.val n.isLt) rfl rfl rfl _ _ h c v

/-- What trip `n` reads of `gl`. -/
theorem read_gl (n : Fin 32) (s : State Ideal) (h : Fin 8) (v : Fin 128) :
    b28 n.val s (ix2 h v) = s.main_v16_5 (ix3 n h v) := by
  rw [b28]
  pointwise []
  rw [b27]
  exact slice_ln _ _ n (toInt_ofNat n.val n.isLt) rfl rfl _ _ h v

/-- A stack of rows (squares, rows of lanes) at chunk `n`, and a state. -/
abbrev rowsS (x : FVec Ideal ⟨4, ![32, 8, 64, 128]⟩ .f32) (n : Fin 32) : Rows := fun h c v => x (ix4 n h c v)
abbrev sqS (x : FVec Ideal ⟨4, ![32, 8, 64, 64]⟩ .f32) (n : Fin 32) : Sq := fun h c j => x (ix4 n h c j)
abbrev lnS (x : FVec Ideal ⟨3, ![32, 8, 128]⟩ .f32) (n : Fin 32) : Ln := fun h v => x (ix3 n h v)
abbrev stS (x : FVec Ideal ⟨3, ![8, 128, 128]⟩ .f32) : St := fun h k v => x (ix3 h k v)

/-- A trip's corrected values, output and next state. -/
theorem vnew_eq (n : Fin 32) (s : State Ideal) (h : Fin 8) (c : Fin 64) (v : Fin 128) :
    b30 n.val s (ix3 h c v) = vnew (stS s.main_v16_7) (rowsS s.main_v16_0 n) (rowsS s.main_v16_1 n) h c v := by
  pointwise [b30, b29, vnew, read_u, read_w]

theorem out_eq (n : Fin 32) (s : State Ideal) (h : Fin 8) (c : Fin 64) (v : Fin 128) :
    b33 n.val s (ix3 h c v) = outp (stS s.main_v16_7) (rowsS s.main_v16_0 n) (rowsS s.main_v16_1 n) (sqS s.main_v16_2 n) (rowsS s.main_v16_3 n) h c v := by
  pointwise [b33, b31, b32, outp, read_qd, read_qk, vnew_eq]

theorem next_eq (n : Fin 32) (s : State Ideal) (h : Fin 8) (k v : Fin 128) :
    b38 n.val s (ix3 h k v) = next (stS s.main_v16_7) (rowsS s.main_v16_0 n) (rowsS s.main_v16_1 n) (rowsS s.main_v16_4 n) (lnS s.main_v16_5 n) h k v := by
  pointwise [b38, b36, b37, b35, b34, next, read_kd, read_gl, vnew_eq]

theorem outs_eq (n : Fin 32) (s : State Ideal) (i : Fin 32) (h : Fin 8) (c : Fin 64) (v : Fin 128) :
    b43 n.val s (ix4 i h c v) = if i = n then b33 n.val s (ix3 h c v) else s.main_v16_8 (ix4 i h c v) := by
  rw [b43]
  refine (upd_rows _ _ _ n (toInt_ofNat n.val n.isLt) rfl rfl rfl _ i h c v).trans ?_
  pointwise [b39]

theorem begans_eq (n : Fin 32) (s : State Ideal) (i : Fin 32) (h : Fin 8) (k v : Fin 128) :
    b48 n.val s (ix4 i h k v) = if i = n then s.main_v16_7 (ix3 h k v) else s.main_v16_9 (ix4 i h k v) := by
  rw [b48]
  refine (upd_st _ _ _ n (toInt_ofNat n.val n.isLt) rfl rfl rfl _ i h k v).trans ?_
  pointwise [b44]

/-- What the loop's state holds before trip `n`. -/
structure Inv (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (n : ℕ) (s : State Ideal) : Prop where
  u_ : ∀ n, rowsS s.main_v16_0 n = rowsAt u n
  w_ : ∀ n, rowsS s.main_v16_1 n = rowsAt w n
  qk_ : ∀ n, sqS s.main_v16_2 n = sqAt qk n
  qd_ : ∀ n, rowsS s.main_v16_3 n = rowsAt qd n
  kd_ : ∀ n, rowsS s.main_v16_4 n = rowsAt kd n
  gl_ : ∀ n, lnS s.main_v16_5 n = lnAt gl n
  state_ : stS s.main_v16_7 = state u w kd gl n
  outs_ : ∀ i : Fin 32, i.val < n → rowsS s.main_v16_8 i = outp (state u w kd gl i.val) (rowsAt u i) (rowsAt w i) (sqAt qk i) (rowsAt qd i)
  begans_ : ∀ i : Fin 32, i.val < n → ∀ h k v, s.main_v16_9 (ix4 i h k v) = state u w kd gl i.val h k v

/-- It holds before the first trip. -/
theorem inv_init (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) : Inv u w qk qd kd gl 0 (init (F := Ideal) u w qk qd kd gl) where
  u_ n := by
    funext h c v
    show A_main_v2 (F := Ideal) u w qk qd kd gl (ix4 n h c v) = _
    pointwise [A_main_v2, A_main_v1, rowsAt, hd, row, row8]
    simp only [Nat.mul_comm]
  w_ n := by
    funext h c v
    show A_main_v4 (F := Ideal) u w qk qd kd gl (ix4 n h c v) = _
    pointwise [A_main_v4, A_main_v3, rowsAt, hd, row, row8]
    simp only [Nat.mul_comm]
  qk_ n := by
    funext h c j
    show A_main_v6 (F := Ideal) u w qk qd kd gl (ix4 n h c j) = _
    pointwise [A_main_v6, A_main_v5, sqAt, hd, row, row8]
    simp only [Nat.mul_comm]
  qd_ n := by
    funext h c v
    show A_main_v8 (F := Ideal) u w qk qd kd gl (ix4 n h c v) = _
    pointwise [A_main_v8, A_main_v7, rowsAt, hd, row, row8]
    simp only [Nat.mul_comm]
  kd_ n := by
    funext h c v
    show A_main_v10 (F := Ideal) u w qk qd kd gl (ix4 n h c v) = _
    pointwise [A_main_v10, A_main_v9, rowsAt, hd, row, row8]
    simp only [Nat.mul_comm]
  gl_ n := by
    funext h v
    show A_main_v13 (F := Ideal) u w qk qd kd gl (ix3 n h v) = _
    pointwise [A_main_v13, A_main_v12, A_main_v11, lnAt, hd, row, row8]
    simp only [Nat.mul_comm]
  state_ := by
    funext h k v
    show K_main_v0 (F := Ideal) (ix3 h k v) = _
    pointwise [K_main_v0, K_main_cst, state]
  outs_ i hi := absurd hi (Nat.not_lt_zero _)
  begans_ i hi := absurd hi (Nat.not_lt_zero _)

/-- A trip keeps it. -/
theorem inv_step (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) (n : ℕ) (hn : n < 32) (s : State Ideal) (hs : Inv u w qk qd kd gl n s) :
    Inv u w qk qd kd gl (n + 1) (step n s) where
  u_ := hs.u_
  w_ := hs.w_
  qk_ := hs.qk_
  qd_ := hs.qd_
  kd_ := hs.kd_
  gl_ := hs.gl_
  state_ := by
    funext h k v
    refine (next_eq ⟨n, hn⟩ s h k v).trans ?_
    rw [hs.state_, hs.u_, hs.w_, hs.kd_, hs.gl_, state, show chunk n = ⟨n, hn⟩ from Fin.ext (Nat.mod_eq_of_lt hn)]
  outs_ i hi := by
    funext h c v
    refine (outs_eq ⟨n, hn⟩ s i h c v).trans ?_
    by_cases e : i = ⟨n, hn⟩
    · subst e
      rw [if_pos rfl, out_eq ⟨n, hn⟩, hs.state_, hs.u_, hs.w_, hs.qk_, hs.qd_]
    · rw [if_neg e]
      exact congrFun (congrFun (congrFun (hs.outs_ i (by have : i.val ≠ n := fun h => e (Fin.ext h); omega)) h) c) v
  begans_ i hi h k v := by
    refine (begans_eq ⟨n, hn⟩ s i h k v).trans ?_
    by_cases e : i = ⟨n, hn⟩
    · subst e
      rw [if_pos rfl]
      exact congrFun (congrFun (congrFun hs.state_ h) k) v
    · rw [if_neg e]
      exact hs.begans_ i (by have : i.val ≠ n := fun h => e (Fin.ext h); omega) h k v

/-- The loop's states. -/
def iter (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) : ℕ → State Ideal
  | 0 => init u w qk qd kd gl
  | n + 1 => step n (iter u w qk qd kd gl n)

theorem inv_iter (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) : ∀ n, n ≤ 32 → Inv u w qk qd kd gl n (iter u w qk qd kd gl n)
  | 0, _ => inv_init u w qk qd kd gl
  | n + 1, h => inv_step u w qk qd kd gl n (by omega) _ (inv_iter u w qk qd kd gl n (by omega))

/-- The result that holds the outputs. -/
theorem result_outs (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) : R_main_v18 (iter u w qk qd kd gl 32) = rowsOf fun n => outp (state u w kd gl n.val) (rowsAt u n) (rowsAt w n) (sqAt qk n) (rowsAt qd n) := by
  funext i
  idx_vars i
  obtain ⟨n, c, rfl⟩ := exists_row i0
  obtain ⟨h, v, rfl⟩ := exists_hd i1
  rw [rowsOf_at, ← (inv_iter u w qk qd kd gl 32 (Nat.le_refl _)).outs_ n n.isLt]
  generalize iter u w qk qd kd gl 32 = s
  pointwise [R_main_v18, hd, row]

/-- The result that holds the states. -/
theorem result_begans (u : FVec Ideal ⟨2, ![2048, 1024]⟩ .f32) (w : FVec Ideal ⟨2, ![2048, 1024]⟩ .f32) (qk : FVec Ideal ⟨3, ![8, 2048, 64]⟩ .f32) (qd : FVec Ideal ⟨2, ![2048, 1024]⟩ .f32) (kd : FVec Ideal ⟨2, ![2048, 1024]⟩ .f32) (gl : FVec Ideal ⟨2, ![256, 1024]⟩ .f32) : R_main_v19 (iter u w qk qd kd gl 32) = statesOf fun n => state u w kd gl n.val := by
  funext i
  idx_vars i
  obtain ⟨h, k, rfl⟩ := exists_hd i1
  rw [statesOf_at, ← (inv_iter u w qk qd kd gl 32 (Nat.le_refl _)).begans_ i0 i0.isLt]
  generalize iter u w qk qd kd gl 32 = s
  pointwise [R_main_v19, hd]

end Cert.Reference2Ideal.Points
end
-- ==== Proof.Forward.lean ====
module

public import proofs.«01_k».proof.Defs
public import proofs.«01_k».proof.Proof.K2Value
public import proofs.«01_k».proof.Proof.R2Value

@[expose] public section

/-! The forward scan's kernel and the recurrence folded over the chunks end with the same outputs and the same states over the reals. -/

noncomputable section
namespace Cert.Forward
open Cert.Scan Idealize.ShloMosaic Idealize.SL Idealize.SL.Sem

/-- The reference program leaves its arguments as they were and every counter at zero. -/
theorem frame : Cert.quiescent_Reference2Ideal := fun m ρ _ =>
  (θ_run (Cert.Reference2Ideal.defs (F := Ideal)) _ _).mono (fun r h => ⟨fun c => (h c).2.2,
      Idealize.ShloMosaic.sem_eq_zero_of_no_sems (by decide) r.2⟩)
    (Cert.Reference2Ideal.Value.run (F := Ideal) m ρ)

/-- The forward scan's kernel and the recurrence folded over the chunks end with the same outputs and the same states over the reals. -/
theorem algebraic : Cert.algebraic_Kernel2Ideal_Reference2Ideal := by
  intro m ρ m' ρ' _ hagree
  refine ⟨fun c => rowsOf (Cert.Kernel2Ideal.Points.outs m c), fun c => statesOf (Cert.Kernel2Ideal.Points.begans m c),
    Cert.Kernel2Ideal.Points.run m ρ, (θ_run (Cert.Reference2Ideal.defs (F := Ideal)) _ _).mono (fun r h c => ⟨(h c).1.trans ?_, (h c).2.1.trans ?_, (h c).2.2⟩)
      (Cert.Reference2Ideal.Iterated.run_iter m' ρ' (fun c => Cert.Reference2Ideal.Points.iter (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))) (fun _ => rfl) (fun _ _ => rfl))⟩
  · rw [(hagree c).1, (hagree c).2.1, (hagree c).2.2.1, (hagree c).2.2.2.1, (hagree c).2.2.2.2.1, (hagree c).2.2.2.2.2, Cert.Reference2Ideal.Points.result_outs]
    rfl
  · rw [(hagree c).1, (hagree c).2.1, (hagree c).2.2.1, (hagree c).2.2.2.1, (hagree c).2.2.2.2.1, (hagree c).2.2.2.2.2, Cert.Reference2Ideal.Points.result_begans]
    rfl

end Cert.Forward
end
-- ==== Proof.Ffn.lean ====
module

public import Idealize.ShloMosaic.Lib.Pointwise
public import Idealize.ShloMosaic.Lib.Pipeline.ValueKit

@[expose] public section

/-! The feed-forward layer's arrays: 2048 tokens, width 2048, and 5632 hidden columns that lie in four shards of 1408. -/

noncomputable section
namespace Cert.Ffn
open Idealize.ShloMosaic

/-- Column `f` of shard `j`, among all 5632. -/
def col (j : Fin 4) (f : Fin 1408) : Fin 5632 := ⟨j.val * 1408 + f.val, by omega⟩
theorem col_div (j : Fin 4) (f : Fin 1408) : (col j f).val / 1408 = j.val := by simp only [col]; omega
theorem col_mod (j : Fin 4) (f : Fin 1408) : (col j f).val % 1408 = f.val := by simp only [col]; omega
theorem exists_col (i : Fin 5632) : ∃ j f, i = col j f :=
  ⟨⟨i.val / 1408, by omega⟩, ⟨i.val % 1408, by omega⟩, Fin.ext (by simp only [col]; omega)⟩

/-- A sum over all columns is the sum over the shards of the sums over their columns. -/
theorem sum_col (g : Fin 5632 → EReal) : ∑ i, g i = ∑ j, ∑ f, g (col j f) := by
  rw [← Finset.sum_product', Finset.univ_product_univ]
  refine (Fintype.sum_equiv (finProdFinEquiv (m := 4) (n := 1408)) _ _ fun p => ?_).symm
  exact congrArg g (Fin.ext (by simp only [col, finProdFinEquiv_apply_val]; omega))

/-- Shapes: tokens by width, tokens by hidden columns, the two kinds of weights. -/
abbrev Act (φ : FTy) := FVec Ideal ⟨2, ![2048, 2048]⟩ φ
abbrev Hid (φ : FTy) := FVec Ideal ⟨2, ![2048, 5632]⟩ φ
abbrev WIn (φ : FTy) := FVec Ideal ⟨3, ![4, 2048, 1408]⟩ φ
abbrev WOut (φ : FTy) := FVec Ideal ⟨3, ![4, 1408, 2048]⟩ φ

/-- The gradient of a first product's weight: the input's transpose times the hidden gradient. -/
def gradIn (xn : Act .bf16) (d : Hid .bf16) : WIn .f32 := fun i =>
  ∑ t : Fin 2048, xn (ix2 t (i 1)) * d (ix2 t (col (i 0) (i 2)))

/-- One half. -/
abbrev half : EReal := Ideal.ofBits .f32 0x3F000000#32

theorem half_eq : half = (((1 : ℝ) / 2 : ℝ) : EReal) := by
  simp [half, Ideal.ofBits, Ideal.ieee, -EReal.coe_mul]; norm_num

/-- Half of a sum is the sum of the halves. -/
theorem half_sum {n : ℕ} (g : Fin n → EReal) : half * ∑ i, g i = ∑ i, half * g i := by
  have h0 : (0 : EReal) ≤ half := by rw [half_eq]; exact EReal.coe_nonneg.mpr (by norm_num)
  have h1 : half ≠ ⊤ := by rw [half_eq]; exact EReal.coe_ne_top _
  induction n with
  | zero => simp
  | succ n ih => rw [Fin.sum_univ_succ, Fin.sum_univ_succ, EReal.left_distrib_of_nonneg_of_ne_top h0 h1, ih]

/-- The gradient of the last product's weight: half the activation's transpose times the output gradient. -/
def gradOut (act : Hid .bf16) (d : Act .bf16) : WOut .f32 := fun i =>
  half * ∑ t : Fin 2048, act (ix2 t (col (i 0) (i 1))) * d (ix2 t (i 2))

/-- The gradient of the first products' input: both hidden gradients times their weights' transposes. -/
def gradX (wg wu : WIn .bf16) (dg du : Hid .bf16) : Act .f32 := fun i =>
  ∑ j : Fin 4, (∑ f : Fin 1408, dg (ix2 (i 0) (col j f)) * wg (ix3 j (i 1) f) + ∑ f : Fin 1408, du (ix2 (i 0) (col j f)) * wu (ix3 j (i 1) f))

/-- The shard of a hidden column, and its place there. -/
abbrev shardOf (i : Fin 5632) : Fin 4 := ⟨i.val / 1408, by omega⟩
abbrev laneOf (i : Fin 5632) : Fin 1408 := ⟨i.val % 1408, by omega⟩
theorem shardOf_col (j : Fin 4) (f : Fin 1408) : shardOf (col j f) = j := Fin.ext (col_div j f)
theorem laneOf_col (j : Fin 4) (f : Fin 1408) : laneOf (col j f) = f := Fin.ext (col_mod j f)

/-- A first product: the input times one of the two weights. -/
def proj (xn : Act .bf16) (w : WIn .bf16) : Hid .f32 := fun i =>
  ∑ d : Fin 2048, xn (ix2 (i 0) d) * w (ix3 (shardOf (i 1)) d (laneOf (i 1)))

theorem neg_one : (-1 : EReal) = ((-1 : ℝ) : EReal) := by rw [EReal.coe_neg, EReal.coe_one]

/-- The logistic function at a hyperbolic tangent of half the argument, and as one over one plus an exponential. -/
theorem sigmoid_eq (x : EReal) : half * (Ideal.tanh (half * x) + 1) = Ideal.div 1 (1 + Ideal.exp (-x)) := by
  change _ = Ideal.logistic x
  rw [half_eq]
  have hp : (0 : ℝ) < 1 / 2 := by norm_num
  induction x using EReal.rec with
  | bot =>
    rw [EReal.coe_mul_bot_of_pos hp, Ideal.tanh_bot, Ideal.logistic_bot, neg_one, ← EReal.coe_one, ← EReal.coe_add, ← EReal.coe_mul]
    norm_num
  | top =>
    rw [EReal.coe_mul_top_of_pos hp, Ideal.tanh_top, Ideal.logistic_top, ← EReal.coe_one, ← EReal.coe_add, ← EReal.coe_mul]
    norm_num
  | coe r =>
    rw [← EReal.coe_mul, Ideal.tanh_coe, Ideal.logistic_coe, ← EReal.coe_one, ← EReal.coe_add, ← EReal.coe_mul]
    congr 1
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; ring_nf; exact Real.exp_zero
    have h3 := Real.exp_pos (1 / 2 * r)
    have h4 := Real.exp_pos (-(1 / 2 * r))
    rw [Real.tanh_eq_sinh_div_cosh, Real.sinh_eq, Real.cosh_eq, h1]
    generalize Real.exp (1 / 2 * r) = p at *
    generalize Real.exp (-(1 / 2 * r)) = q at *
    field_simp
    nlinarith

/-- The logistic function. -/
def sigm (x : EReal) : EReal := Ideal.div 1 (1 + Ideal.exp (-x))

/-- The activation: the gate times its logistic function, times the other product. -/
def actOf (xn : Act .bf16) (wg wu : WIn .bf16) : Hid .bf16 := fun i => proj xn wg i * sigm (proj xn wg i) * proj xn wu i

/-- The output: the input and half the last product. -/
def stepOut (x : Act .f32) (act : Hid .bf16) (wd : WOut .bf16) : Act .f32 := fun i =>
  x i + half * ∑ j : Fin 4, ∑ f : Fin 1408, act (ix2 (i 0) (col j f)) * wd (ix3 j f (i 1))

/-- The slope of the logistic function at a hyperbolic tangent of half the argument. -/
theorem slope_eq (x : EReal) : half * (half * ((1 + Ideal.tanh (half * x)) * (1 - Ideal.tanh (half * x)))) = sigm x * (1 - sigm x) := by
  unfold sigm
  rw [← sigmoid_eq, half_eq]
  have hp : (0 : ℝ) < 1 / 2 := by norm_num
  have real : ∀ t : ℝ, (((1 : ℝ) / 2 : ℝ) : EReal) * ((((1 : ℝ) / 2 : ℝ) : EReal) * ((1 + (t : EReal)) * (1 - (t : EReal))))
      = (((1 : ℝ) / 2 : ℝ) : EReal) * ((t : EReal) + 1) * (1 - (((1 : ℝ) / 2 : ℝ) : EReal) * ((t : EReal) + 1)) := fun t => by
    rw [← EReal.coe_one]
    simp only [← EReal.coe_add, ← EReal.coe_sub, ← EReal.coe_mul]
    congr 1
    ring
  induction x using EReal.rec with
  | bot => rw [EReal.coe_mul_bot_of_pos hp, Ideal.tanh_bot, neg_one]; exact real (-1)
  | top => rw [EReal.coe_mul_top_of_pos hp, Ideal.tanh_top]; exact real 1
  | coe r => rw [← EReal.coe_mul, Ideal.tanh_coe]; exact real _

/-- The activation's gradient: half the output gradient times the last weight's transpose. -/
def dact (wd : WOut .bf16) (d : Act .bf16) (i : Fin 2048) (k : Fin 5632) : EReal :=
  half * ∑ e : Fin 2048, d (ix2 i e) * wd (ix3 (shardOf k) (laneOf k) e)

/-- The gradients of the two first products. -/
def dGate (g u : Hid .f32) (wd : WOut .bf16) (d : Act .bf16) : Hid .bf16 := fun i =>
  dact wd d (i 0) (i 1) * u i * sigm (g i) + g i * (dact wd d (i 0) (i 1) * u i) * (sigm (g i) * (1 - sigm (g i)))
def dUp (g : Hid .f32) (wd : WOut .bf16) (d : Act .bf16) : Hid .bf16 := fun i =>
  g i * sigm (g i) * dact wd d (i 0) (i 1)

end Cert.Ffn
end
-- ==== Proof.K3Value.lean ====
module

public import proofs.«01_k».proof.Proof.Gen.Kernel3Ideal.Value
public import Idealize.ShloMosaic.Lib.Pipeline.ValueKit
public import Idealize.ShloMosaic.Lib.Pipeline.ReadBack
public import proofs.«01_k».proof.Proof.Ffn

@[expose] public section

/-! What the call that makes the gradients of the two first products' weights leaves. -/

set_option maxRecDepth 16384
noncomputable section
namespace Cert.Kernel3Ideal.Points
open Idealize.ShloMosaic Idealize.SL Idealize.SL.Sem Idealize.ShloMosaic.Pipeline
open Cert.Kernel3Ideal Cert.Kernel3Ideal.Gen
open Cert.Ffn

variable (m : (ℓ : Loc nD τ sig) → Buf (Elt Ideal) ℓ)

/-- Which block of each array point `t` reads and writes. -/
theorem idx : ∀ t : Fin cfg0.N, (win0_0.index t = ![0, t.val % 4] ∧ win0_1.index t = ![0, t.val / 4] ∧ win0_2.index t = ![0, t.val / 4]
    ∧ win0_3.index t = ![t.val / 4, t.val % 4, 0] ∧ win0_4.index t = ![t.val / 4, t.val % 4, 0]) :=
  (by decide +kernel : ∀ t : Fin grid0.N, _)

/-- The arguments, by name. -/
abbrev arg_xn (c : Dev nD) : Act .bf16 := m ((c.tc : Thread nD τ).loc main_arg0)
abbrev arg_dgate (c : Dev nD) : Hid .bf16 := m ((c.tc : Thread nD τ).loc main_arg1)
abbrev arg_dup (c : Dev nD) : Hid .bf16 := m ((c.tc : Thread nD τ).loc main_arg2)

/-- The shard and the tile of rows of point `t`. -/
abbrev shard (t : Fin cfg0.N) : Fin 4 := ⟨t.val / 4, by have : t.val < 16 := t.isLt; omega⟩
abbrev tile (t : Fin cfg0.N) (a : Fin 512) : Fin 2048 := ⟨512 * (t.val % 4) + a.val, by omega⟩

theorem blk0 (c : Dev nD) (t : Fin cfg0.N) (r : Fin 2048) (a : Fin 512) : iblk m c 0 t (ix2 r a) = arg_xn m c (ix2 r (tile t a)) := by
  obtain ⟨e0, e1, e2, -, -⟩ := idx t
  blk_ext [iblk, V, e0, tile]

theorem blk1 (c : Dev nD) (t : Fin cfg0.N) (r : Fin 2048) (f : Fin 1408) : iblk m c 1 t (ix2 r f) = arg_dgate m c (ix2 r (col (shard t) f)) := by
  obtain ⟨e0, e1, e2, -, -⟩ := idx t
  blk_ext [iblk, V, e1, col, shard]

theorem blk2 (c : Dev nD) (t : Fin cfg0.N) (r : Fin 2048) (f : Fin 1408) : iblk m c 2 t (ix2 r f) = arg_dup m c (ix2 r (col (shard t) f)) := by
  obtain ⟨e0, e1, e2, -, -⟩ := idx t
  blk_ext [iblk, V, e2, col, shard]

/-- What the body leaves, from the blocks. -/
theorem out3 (X0 : Vec Ideal S2048x512 .bf16) (X1 X2 : Vec Ideal S2048x1408 .bf16) (a : Fin 512) (f : Fin 1408) :
    out0_3 X0 X1 X2 (ix3 0 a f) = ∑ r : Fin 2048, X0 (ix2 r a) * X1 (ix2 r f) := by
  rw [out0_3]
  frame_out
  unfold_payloads
  pointwise [zero_add]

theorem out4 (X0 : Vec Ideal S2048x512 .bf16) (X1 X2 : Vec Ideal S2048x1408 .bf16) (a : Fin 512) (f : Fin 1408) :
    out0_4 X0 X1 X2 (ix3 0 a f) = ∑ r : Fin 2048, X0 (ix2 r a) * X2 (ix2 r f) := by
  rw [out0_4]
  frame_out
  unfold_payloads
  pointwise [zero_add]

/-- The array of the gate weight's gradient after the run. -/
theorem arr3 (c : Dev nD) : (dats m 0 c).arrAt 3 cfg0.N = gradIn (arg_xn m c) (arg_dgate m c) := by
  refine (dats m 0 c).arrAt_eq_of_covers 3 _ (by decide +kernel) fun t hf y => ?_
  obtain ⟨-, -, -, e3, -⟩ := idx t
  blk_simp
  rw [after0_3]
  idx_vars y
  obtain rfl : y0 = 0 := Fin.ext (by omega)
  have e : ((cfg0.win 3).blk t).view.emb (ix3 0 y1 y2) = ix3 (shard t) (tile t y1) y2 := by
    blk_ext [e3, shard, tile]
  rw [e]
  exact (out3 _ _ _ y1 y2).trans (Finset.sum_congr rfl fun r _ => congrArg₂ (· * ·) (blk0 m c t r y1) (blk1 m c t r y2))

theorem arr4 (c : Dev nD) : (dats m 0 c).arrAt 4 cfg0.N = gradIn (arg_xn m c) (arg_dup m c) := by
  refine (dats m 0 c).arrAt_eq_of_covers 4 _ (by decide +kernel) fun t hf y => ?_
  obtain ⟨-, -, -, -, e4⟩ := idx t
  blk_simp
  rw [after0_4]
  idx_vars y
  obtain rfl : y0 = 0 := Fin.ext (by omega)
  have e : ((cfg0.win 4).blk t).view.emb (ix3 0 y1 y2) = ix3 (shard t) (tile t y1) y2 := by
    blk_ext [e4, shard, tile]
  rw [e]
  exact (out4 _ _ _ y1 y2).trans (Finset.sum_congr rfl fun r _ => congrArg₂ (· * ·) (blk0 m c t r y1) (blk2 m c t r y2))

/-- The run: the two arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = gradIn (arg_xn m c) (arg_dgate m c)
      ∧ r.2.mem ((c.tc : Thread nD τ).loc main_v0_1) = gradIn (arg_xn m c) (arg_dup m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (arr3 m c), (h c).2.1.trans (arr4 m c), (h c).2.2⟩) (Value.run_blocks m ρ)

end Cert.Kernel3Ideal.Points
end
-- ==== Proof.R3Value.lean ====
module

public import proofs.«01_k».proof.Proof.Gen.Reference3Ideal.Run
public import Idealize.ShloMosaic.Lib.Pipeline.ValueKit
public import proofs.«01_k».proof.Proof.Ffn

@[expose] public section

/-! The reference's gradient of a first product's weight, entry by entry. -/

set_option maxRecDepth 16384
noncomputable section
namespace Cert.Reference3Ideal.Value
open Idealize.ShloMosaic Idealize.SL.Sem
open Cert.Reference3Ideal Cert.Reference3Ideal.Facts₀ Cert.Reference3Ideal.Facts
open Cert.Ffn

/-- The reference's gradient is `gradIn`. -/
theorem result (xn : Act .bf16) (d : Hid .bf16) :
    transpose S4x2048x1408 [1, 0, 2] (shapeCast _ (transpose S2048x5632 [1, 0] (Host.dotGeneral dot_S2048x5632_S2048x2048_S5632x2048_0_0_1_1_n_n none (extf .f32 d bitsLt_bf16_f32) (extf .f32 xn bitsLt_bf16_f32)) transposes_S5632x2048_S2048x5632_1_0) shapeCasts_S2048x5632_S2048x4x1408) transposes_S2048x4x1408_S4x2048x1408_1_0_2 = gradIn xn d := by
  funext i
  idx_vars i

  pointwise [gradIn]
  exact Finset.sum_congr rfl fun t _ => mul_comm _ _

end Cert.Reference3Ideal.Value
end
-- ==== Proof.Ffn3.lean ====
module

public import proofs.«01_k».proof.Defs
public import proofs.«01_k».proof.Proof.K3Value
public import proofs.«01_k».proof.Proof.R3Value

@[expose] public section

/-! The gradients of the two first products' weights are the same over the reals. -/

noncomputable section
namespace Cert.Ffn3
open Cert.Ffn Idealize.ShloMosaic Idealize.SL Idealize.SL.Sem

/-- The reference program leaves its arguments as they were and every counter at zero. -/
theorem frame : Cert.quiescent_Reference3Ideal := fun m ρ _ =>
  (θ_run (Cert.Reference3Ideal.defs (F := Ideal)) _ _).mono (fun r h => ⟨fun c => (h c).2.2,
      Idealize.ShloMosaic.sem_eq_zero_of_no_sems (by decide) r.2⟩)
    (Cert.Reference3Ideal.Value.run (F := Ideal) m ρ)

/-- The gradients of the two first products' weights are the same over the reals. -/
theorem algebraic : Cert.algebraic_Kernel3Ideal_Reference3Ideal := by
  intro m ρ m' ρ' _ hagree
  refine ⟨fun c => gradIn (Cert.Kernel3Ideal.Points.arg_xn m c) (Cert.Kernel3Ideal.Points.arg_dgate m c), fun c => gradIn (Cert.Kernel3Ideal.Points.arg_xn m c) (Cert.Kernel3Ideal.Points.arg_dup m c),
    Cert.Kernel3Ideal.Points.run m ρ, (θ_run (Cert.Reference3Ideal.defs (F := Ideal)) _ _).mono (fun r h c => ⟨(h c).1.trans ?_, (h c).2.1.trans ?_, (h c).2.2⟩)
      (Cert.Reference3Ideal.Value.run (F := Ideal) m' ρ')⟩
  · rw [(hagree c).1, (hagree c).2.1]
    exact Cert.Reference3Ideal.Value.result _ _
  · rw [(hagree c).1, (hagree c).2.2]
    exact Cert.Reference3Ideal.Value.result _ _

end Cert.Ffn3
end
-- ==== Proof.K4Value.lean ====
module

public import proofs.«01_k».proof.Proof.Gen.Kernel4Ideal.Value
public import Idealize.ShloMosaic.Lib.Pipeline.ValueKit
public import Idealize.ShloMosaic.Lib.Pipeline.ReadBack
public import proofs.«01_k».proof.Proof.Ffn

@[expose] public section

/-! What the call that makes the gradient of the first products' input leaves. -/

set_option maxRecDepth 16384
noncomputable section
namespace Cert.Kernel4Ideal.Points
open Idealize.ShloMosaic Idealize.SL Idealize.SL.Sem Idealize.ShloMosaic.Pipeline
open Cert.Kernel4Ideal Cert.Kernel4Ideal.Gen
open Cert.Ffn

variable (m : (ℓ : Loc nD τ sig) → Buf (Elt Ideal) ℓ)

/-- Which block of each array point `t` reads and writes. -/
theorem idx : ∀ t : Fin cfg0.N, (win0_0.index t = ![t.val / 8, t.val % 4] ∧ win0_1.index t = ![t.val % 4, t.val / 4 % 2, 0]
    ∧ win0_2.index t = ![t.val / 8, t.val % 4] ∧ win0_3.index t = ![t.val % 4, t.val / 4 % 2, 0] ∧ win0_4.index t = ![t.val / 8, t.val / 4 % 2]) :=
  (by decide +kernel : ∀ t : Fin grid0.N, _)

/-- The arguments, by name. -/
abbrev arg_wg (c : Dev nD) : WIn .bf16 := m ((c.tc : Thread nD τ).loc main_arg0)
abbrev arg_wu (c : Dev nD) : WIn .bf16 := m ((c.tc : Thread nD τ).loc main_arg1)
abbrev arg_dg (c : Dev nD) : Hid .bf16 := m ((c.tc : Thread nD τ).loc main_arg2)
abbrev arg_du (c : Dev nD) : Hid .bf16 := m ((c.tc : Thread nD τ).loc main_arg3)

/-- The tile of rows, the tile of columns and the shard of point `t`. -/
abbrev row (t : Fin cfg0.N) (a : Fin 1024) : Fin 2048 := ⟨1024 * (t.val / 8) + a.val, by have : t.val < 16 := t.isLt; omega⟩
abbrev tile (t : Fin cfg0.N) (a : Fin 1024) : Fin 2048 := ⟨1024 * (t.val / 4 % 2) + a.val, by omega⟩
abbrev shard (t : Fin cfg0.N) : Fin 4 := ⟨t.val % 4, by omega⟩

theorem blk0 (c : Dev nD) (t : Fin cfg0.N) (r : Fin 1024) (f : Fin 1408) : iblk m c 0 t (ix2 r f) = arg_dg m c (ix2 (row t r) (col (shard t) f)) := by
  obtain ⟨e0, e1, e2, e3, -⟩ := idx t
  blk_ext [iblk, V, e0, col, shard, row]

theorem blk1 (c : Dev nD) (t : Fin cfg0.N) (a : Fin 1024) (f : Fin 1408) : iblk m c 1 t (ix3 0 a f) = arg_wg m c (ix3 (shard t) (tile t a) f) := by
  obtain ⟨e0, e1, e2, e3, -⟩ := idx t
  blk_ext [iblk, V, e1, shard, tile]

theorem blk2 (c : Dev nD) (t : Fin cfg0.N) (r : Fin 1024) (f : Fin 1408) : iblk m c 2 t (ix2 r f) = arg_du m c (ix2 (row t r) (col (shard t) f)) := by
  obtain ⟨e0, e1, e2, e3, -⟩ := idx t
  blk_ext [iblk, V, e2, col, shard, row]

theorem blk3 (c : Dev nD) (t : Fin cfg0.N) (a : Fin 1024) (f : Fin 1408) : iblk m c 3 t (ix3 0 a f) = arg_wu m c (ix3 (shard t) (tile t a) f) := by
  obtain ⟨e0, e1, e2, e3, -⟩ := idx t
  blk_ext [iblk, V, e3, shard, tile]

/-- What a point adds to the entry `(r, a)` of its tile, from its blocks. -/
def term (X0 X2 : Vec Ideal S1024x1408 .bf16) (X1 X3 : Vec Ideal S1x1024x1408 .bf16) (r a : Fin 1024) : EReal :=
  ∑ f : Fin 1408, X0 (ix2 r f) * X1 (ix3 0 a f) + ∑ f : Fin 1408, X2 (ix2 r f) * X3 (ix3 0 a f)

/-- The sums so far, as point `n` leaves them. -/
abbrev acc (c : Dev nD) (n : ℕ) (h : n < cfg0.N) : FVec Ideal S1024x1024 .f32 := (outsAt0 m c n h).2

set_option maxHeartbeats 4000000 in
/-- The first point of a tile starts from nothing. -/
theorem acc_first (c : Dev nD) (t : Fin cfg0.N) (h0 : t.val % 4 = 0) (r a : Fin 1024) : acc m c t.val t.isLt (ix2 r a) = term (iblk m c 0 t) (iblk m c 2 t) (iblk m c 1 t) (iblk m c 3 t) r a := by
  unfold acc
  rw [outsAt0_A m c t h0 (by omega)]
  frame_open
  simp (disch := decide) only [↓ View.readCov_skip, ↓ View.readCov_cons_toLoadRect, ↓ View.readCov_fill]
  frame_out
  unfold term
  generalize iblk m c 0 t = X0
  generalize iblk m c 1 t = X1
  generalize iblk m c 2 t = X2
  generalize iblk m c 3 t = X3
  unfold_payloads
  pointwise [zero_add]

set_option maxHeartbeats 4000000 in
/-- The other points add to what the point before left. -/
theorem acc_next (c : Dev nD) (t : Fin cfg0.N) (h0 : ¬t.val % 4 = 0) (r a : Fin 1024) :
    acc m c t.val t.isLt (ix2 r a) = acc m c (t.val - 1) (Nat.lt_of_le_of_lt (Nat.sub_le _ _) t.isLt) (ix2 r a) + term (iblk m c 0 t) (iblk m c 2 t) (iblk m c 1 t) (iblk m c 3 t) r a := by
  unfold acc
  by_cases h1 : t.val % 4 = 3
  · rw [outsAt0_C m c t h0 h1]
    frame_open
    simp (disch := decide) only [↓ View.readCov_skip, ↓ View.readCov_cons_toLoadRect, ↓ View.readCov_fill]
    frame_out
    simp only [read_unread_whole]
    unfold term
    generalize iblk m c 0 t = X0
    generalize iblk m c 1 t = X1
    generalize iblk m c 2 t = X2
    generalize iblk m c 3 t = X3
    unfold_payloads
    pointwise [zero_add, add_assoc]
  · rw [outsAt0_B m c t h0 h1]
    frame_open
    simp (disch := decide) only [↓ View.readCov_skip, ↓ View.readCov_cons_toLoadRect, ↓ View.readCov_fill]
    frame_out
    simp only [read_unread_whole]
    unfold term
    generalize iblk m c 0 t = X0
    generalize iblk m c 1 t = X1
    generalize iblk m c 2 t = X2
    generalize iblk m c 3 t = X3
    unfold_payloads
    pointwise [zero_add, add_assoc]

set_option maxHeartbeats 4000000 in
/-- The last point of a tile copies the sums out. -/
theorem out_last (c : Dev nD) (t : Fin cfg0.N) (h1 : t.val % 4 = 3) : (outsAt0 m c t.val t.isLt).1 = acc m c t.val t.isLt := by
  unfold acc
  rw [outsAt0_C m c t (by omega) h1]
  frame_open
  simp (disch := decide) only [↓ View.readCov_skip, ↓ View.readCov_cons_toLoadRect, ↓ View.readCov_fill]
  frame_out

/-- The array after the run. -/
theorem arr4 (c : Dev nD) : (dats m 0 c).arrAt 4 cfg0.N = gradX (arg_wg m c) (arg_wu m c) (arg_dg m c) (arg_du m c) := by
  refine (dats m 0 c).arrAt_eq_of_covers 4 _ (by decide +kernel) fun t hf y => ?_
  obtain ⟨-, -, -, -, e4⟩ := idx t
  have hr : t.val % 4 = 4 - 1 := (flush0_4 t).mp hf
  blk_simp
  rw [after0_4, out_last m c t hr]
  idx_vars y
  have e : ((cfg0.win 4).blk t).view.emb (ix2 y0 y1) = ix2 (row t y0) (tile t y1) := by
    blk_ext [e4, row, tile]
  rw [e]
  have key := eq_sum_fin_of_reset_step_apply_of_flush (N := cfg0.N) (M := EReal) (ι := Fin 1024 × Fin 1024) (fun n h p => acc m c n h (ix2 p.1 p.2)) 4 (fun _ => 0)
    (fun t p => term (iblk m c 0 t) (iblk m c 2 t) (iblk m c 1 t) (iblk m c 3 t) p.1 p.2) (fun t h p => (acc_first m c t h p.1 p.2).trans (zero_add _).symm) (fun t h p => acc_next m c t h p.1 p.2) t hr (y0, y1)
  refine key.trans ((zero_add _).trans (Finset.sum_congr rfl fun s _ => ?_))
  have ht : t.val < 16 := t.isLt
  have hs : s.val < 4 := s.isLt
  have hu : 4 * (t.val / 4) + s.val < cfg0.N := run_point_lt_of_flush t hr s
  have er : row ⟨4 * (t.val / 4) + s.val, hu⟩ y0 = row t y0 := Fin.ext (by simp only [row]; omega)
  have et : tile ⟨4 * (t.val / 4) + s.val, hu⟩ y1 = tile t y1 := Fin.ext (by simp only [tile]; omega)
  have es : shard ⟨4 * (t.val / 4) + s.val, hu⟩ = s := Fin.ext (by simp only [shard]; omega)
  refine congrArg₂ (· + ·) (Finset.sum_congr rfl fun f _ => ?_) (Finset.sum_congr rfl fun f _ => ?_)
  · refine congrArg₂ (· * ·) ((blk0 m c _ y0 f).trans ?_) ((blk1 m c _ y1 f).trans ?_)
    · rw [er, es]; rfl
    · rw [et, es]; rfl
  · refine congrArg₂ (· * ·) ((blk2 m c _ y0 f).trans ?_) ((blk3 m c _ y1 f).trans ?_)
    · rw [er, es]; rfl
    · rw [et, es]; rfl

/-- The run: the array it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = gradX (arg_wg m c) (arg_wu m c) (arg_dg m c) (arg_du m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2⟩) (Value.run_blocks m ρ)

end Cert.Kernel4Ideal.Points
end
-- ==== Proof.R4Value.lean ====
module

public import proofs.«01_k».proof.Proof.Gen.Reference4Ideal.Run
public import Idealize.ShloMosaic.Lib.Pipeline.ValueKit
public import proofs.«01_k».proof.Proof.Ffn

@[expose] public section

/-! The reference's gradient of the first products' input, entry by entry. -/

set_option maxRecDepth 16384
noncomputable section
namespace Cert.Reference4Ideal.Value
open Idealize.ShloMosaic Idealize.SL.Sem
open Cert.Reference4Ideal Cert.Reference4Ideal.Facts₀ Cert.Reference4Ideal.Facts
open Cert.Ffn

/-- The reference's gradient is `gradX`. -/
theorem result (wg wu : WIn .bf16) (dg du : Hid .bf16) :
    addf (Host.dotGeneral dot_S2048x5632_S2048x5632_S2048x2048_1_1_0_0_n_n none (extf .f32 du bitsLt_bf16_f32) (extf .f32 (shapeCast _ (transpose S2048x4x1408 [1, 0, 2] wu transposes_S4x2048x1408_S2048x4x1408_1_0_2) shapeCasts_S2048x4x1408_S2048x5632) bitsLt_bf16_f32)) (Host.dotGeneral dot_S2048x5632_S2048x5632_S2048x2048_1_1_0_0_n_n none (extf .f32 dg bitsLt_bf16_f32) (extf .f32 (shapeCast _ (transpose S2048x4x1408 [1, 0, 2] wg transposes_S4x2048x1408_S2048x4x1408_1_0_2) shapeCasts_S2048x4x1408_S2048x5632) bitsLt_bf16_f32)) = gradX wg wu dg du := by
  funext i
  idx_vars i
  pointwise [gradX]
  rw [sum_col, sum_col, Finset.sum_add_distrib, add_comm]
  refine congrArg₂ (· + ·) (Finset.sum_congr rfl fun j _ => Finset.sum_congr rfl fun f _ => ?_) (Finset.sum_congr rfl fun j _ => Finset.sum_congr rfl fun f _ => ?_)
  · exact congrArg₂ (fun p q => dg (ix2 i0 (col j f)) * wg (ix3 p i1 q)) (Fin.ext (col_div j f)) (Fin.ext (col_mod j f))
  · exact congrArg₂ (fun p q => du (ix2 i0 (col j f)) * wu (ix3 p i1 q)) (Fin.ext (col_div j f)) (Fin.ext (col_mod j f))

end Cert.Reference4Ideal.Value
end
-- ==== Proof.Ffn4.lean ====
module

public import proofs.«01_k».proof.Defs
public import proofs.«01_k».proof.Proof.K4Value
public import proofs.«01_k».proof.Proof.R4Value

@[expose] public section

/-! The gradient of the first products' input is the same over the reals. -/

noncomputable section
namespace Cert.Ffn4
open Cert.Ffn Idealize.ShloMosaic Idealize.SL Idealize.SL.Sem

/-- The reference program leaves its arguments as they were and every counter at zero. -/
theorem frame : Cert.quiescent_Reference4Ideal := fun m ρ _ =>
  (θ_run (Cert.Reference4Ideal.defs (F := Ideal)) _ _).mono (fun r h => ⟨fun c => (h c).2,
      Idealize.ShloMosaic.sem_eq_zero_of_no_sems (by decide) r.2⟩)
    (Cert.Reference4Ideal.Value.run (F := Ideal) m ρ)

/-- The gradient of the first products' input is the same over the reals. -/
theorem algebraic : Cert.algebraic_Kernel4Ideal_Reference4Ideal := by
  intro m ρ m' ρ' _ hagree
  refine ⟨fun c => gradX (Cert.Kernel4Ideal.Points.arg_wg m c) (Cert.Kernel4Ideal.Points.arg_wu m c) (Cert.Kernel4Ideal.Points.arg_dg m c) (Cert.Kernel4Ideal.Points.arg_du m c),
    Cert.Kernel4Ideal.Points.run m ρ, (θ_run (Cert.Reference4Ideal.defs (F := Ideal)) _ _).mono (fun r h c => ⟨(h c).1.trans ?_, (h c).2⟩)
      (Cert.Reference4Ideal.Value.run (F := Ideal) m' ρ')⟩
  · rw [(hagree c).1, (hagree c).2.1, (hagree c).2.2.1, (hagree c).2.2.2]
    exact Cert.Reference4Ideal.Value.result _ _ _ _

end Cert.Ffn4
end
-- ==== Proof.K5Value.lean ====
module

public import proofs.«01_k».proof.Proof.Gen.Kernel5Ideal.Value
public import Idealize.ShloMosaic.Lib.Pipeline.ValueKit
public import Idealize.ShloMosaic.Lib.Pipeline.ReadBack
public import proofs.«01_k».proof.Proof.Ffn

@[expose] public section

/-! What the call that makes the gradient of the last product's weight leaves. -/

set_option maxRecDepth 16384
noncomputable section
namespace Cert.Kernel5Ideal.Points
open Idealize.ShloMosaic Idealize.SL Idealize.SL.Sem Idealize.ShloMosaic.Pipeline
open Cert.Kernel5Ideal Cert.Kernel5Ideal.Gen
open Cert.Ffn

variable (m : (ℓ : Loc nD τ sig) → Buf (Elt Ideal) ℓ)

/-- Which block of each array point `t` reads and writes. -/
theorem idx : ∀ t : Fin cfg0.N, (win0_0.index t = ![0, t.val / 2] ∧ win0_1.index t = ![0, t.val % 2] ∧ win0_2.index t = ![t.val / 2, 0, t.val % 2]) :=
  (by decide +kernel : ∀ t : Fin grid0.N, _)

/-- The arguments, by name. -/
abbrev arg_act (c : Dev nD) : Hid .bf16 := m ((c.tc : Thread nD τ).loc main_arg0)
abbrev arg_dout (c : Dev nD) : Act .bf16 := m ((c.tc : Thread nD τ).loc main_arg1)

/-- The shard and the tile of columns of point `t`. -/
abbrev shard (t : Fin cfg0.N) : Fin 4 := ⟨t.val / 2, by have : t.val < 8 := t.isLt; omega⟩
abbrev tile (t : Fin cfg0.N) (a : Fin 1024) : Fin 2048 := ⟨1024 * (t.val % 2) + a.val, by omega⟩

theorem blk0 (c : Dev nD) (t : Fin cfg0.N) (r : Fin 2048) (f : Fin 1408) : iblk m c 0 t (ix2 r f) = arg_act m c (ix2 r (col (shard t) f)) := by
  obtain ⟨e0, e1, e2⟩ := idx t
  blk_ext [iblk, V, e0, col, shard]

theorem blk1 (c : Dev nD) (t : Fin cfg0.N) (r : Fin 2048) (a : Fin 1024) : iblk m c 1 t (ix2 r a) = arg_dout m c (ix2 r (tile t a)) := by
  obtain ⟨e0, e1, e2⟩ := idx t
  blk_ext [iblk, V, e1, tile]

/-- What the body leaves, from the blocks. -/
theorem out2 (X0 : Vec Ideal S2048x1408 .bf16) (X1 : Vec Ideal S2048x1024 .bf16) (f : Fin 1408) (a : Fin 1024) :
    out0_2 X0 X1 (ix3 0 f a) = half * ∑ r : Fin 2048, X0 (ix2 r f) * X1 (ix2 r a) := by
  rw [out0_2]
  frame_out
  unfold_payloads
  pointwise [zero_add]

/-- The array after the run. -/
theorem arr2 (c : Dev nD) : (dats m 0 c).arrAt 2 cfg0.N = gradOut (arg_act m c) (arg_dout m c) := by
  refine (dats m 0 c).arrAt_eq_of_covers 2 _ (by decide +kernel) fun t hf y => ?_
  obtain ⟨-, -, e2⟩ := idx t
  blk_simp
  rw [after0_2]
  idx_vars y
  obtain rfl : y0 = 0 := Fin.ext (by omega)
  have e : ((cfg0.win 2).blk t).view.emb (ix3 0 y1 y2) = ix3 (shard t) y1 (tile t y2) := by
    blk_ext [e2, shard, tile]
  rw [e]
  exact (out2 _ _ y1 y2).trans (congrArg (half * ·) (Finset.sum_congr rfl fun r _ => congrArg₂ (· * ·) (blk0 m c t r y1) (blk1 m c t r y2)))

/-- The run: the array it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = gradOut (arg_act m c) (arg_dout m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (arr2 m c), (h c).2⟩) (Value.run_blocks m ρ)

end Cert.Kernel5Ideal.Points
end
-- ==== Proof.R5Value.lean ====
module

public import proofs.«01_k».proof.Proof.Gen.Reference5Ideal.Run
public import Idealize.ShloMosaic.Lib.Pipeline.ValueKit
public import proofs.«01_k».proof.Proof.Ffn

@[expose] public section

/-! The reference's gradient of the last product's weight, entry by entry. -/

set_option maxRecDepth 16384
noncomputable section
namespace Cert.Reference5Ideal.Value
open Idealize.ShloMosaic Idealize.SL.Sem
open Cert.Reference5Ideal Cert.Reference5Ideal.Facts₀ Cert.Reference5Ideal.Facts
open Cert.Ffn

/-- The reference's gradient is `gradOut`. -/
theorem result (act : Hid .bf16) (d : Act .bf16) :
    shapeCast _ (transpose S5632x2048 [1, 0] (Host.dotGeneral dot_S2048x2048_S2048x5632_S2048x5632_0_0_1_1_n_n none (mulf (broadcastInDim S2048x2048 ![] bcast_S_S2048x2048 (constant S_ .f32 0x3F000000#32)) (extf .f32 d bitsLt_bf16_f32)) (extf .f32 act bitsLt_bf16_f32)) transposes_S2048x5632_S5632x2048_1_0) shapeCasts_S5632x2048_S4x1408x2048 = gradOut act d := by
  funext i
  idx_vars i
  pointwise [gradOut]
  rw [half_sum]
  exact Finset.sum_congr rfl fun t _ => by rw [mul_assoc, mul_comm (d _)]; rfl

end Cert.Reference5Ideal.Value
end
-- ==== Proof.Ffn5.lean ====
module

public import proofs.«01_k».proof.Defs
public import proofs.«01_k».proof.Proof.K5Value
public import proofs.«01_k».proof.Proof.R5Value

@[expose] public section

/-! The gradient of the last product's weight is the same over the reals. -/

noncomputable section
namespace Cert.Ffn5
open Cert.Ffn Idealize.ShloMosaic Idealize.SL Idealize.SL.Sem

/-- The reference program leaves its arguments as they were and every counter at zero. -/
theorem frame : Cert.quiescent_Reference5Ideal := fun m ρ _ =>
  (θ_run (Cert.Reference5Ideal.defs (F := Ideal)) _ _).mono (fun r h => ⟨fun c => (h c).2,
      Idealize.ShloMosaic.sem_eq_zero_of_no_sems (by decide) r.2⟩)
    (Cert.Reference5Ideal.Value.run (F := Ideal) m ρ)

/-- The gradient of the last product's weight is the same over the reals. -/
theorem algebraic : Cert.algebraic_Kernel5Ideal_Reference5Ideal := by
  intro m ρ m' ρ' _ hagree
  refine ⟨fun c => gradOut (Cert.Kernel5Ideal.Points.arg_act m c) (Cert.Kernel5Ideal.Points.arg_dout m c),
    Cert.Kernel5Ideal.Points.run m ρ, (θ_run (Cert.Reference5Ideal.defs (F := Ideal)) _ _).mono (fun r h c => ⟨(h c).1.trans ?_, (h c).2⟩)
      (Cert.Reference5Ideal.Value.run (F := Ideal) m' ρ')⟩
  · rw [(hagree c).1, (hagree c).2]
    exact Cert.Reference5Ideal.Value.result _ _

end Cert.Ffn5
end
-- ==== Proof.K6Value.lean ====
module

public import proofs.«01_k».proof.Proof.Gen.Kernel6Ideal.Value
public import Idealize.ShloMosaic.Lib.Pipeline.ValueKit
public import Idealize.ShloMosaic.Lib.Pipeline.ReadBack
public import proofs.«01_k».proof.Proof.Ffn

@[expose] public section

/-! What the call that makes the two first products and the activation leaves. -/

set_option maxRecDepth 16384
noncomputable section
namespace Cert.Kernel6Ideal.Points
open Idealize.ShloMosaic Idealize.SL Idealize.SL.Sem Idealize.ShloMosaic.Pipeline
open Cert.Kernel6Ideal Cert.Kernel6Ideal.Gen
open Cert.Ffn

variable (m : (ℓ : Loc nD τ sig) → Buf (Elt Ideal) ℓ)

/-- Which block of each array point `t` reads and writes. -/
theorem idx : ∀ t : Fin cfg0.N, (win0_0.index t = ![t.val % 8, 0] ∧ win0_1.index t = ![t.val / 8, 0, 0] ∧ win0_2.index t = ![t.val / 8, 0, 0]
    ∧ win0_3.index t = ![t.val % 8, t.val / 8] ∧ win0_4.index t = ![t.val % 8, t.val / 8] ∧ win0_5.index t = ![t.val % 8, t.val / 8]) :=
  (by decide +kernel : ∀ t : Fin grid0.N, _)

/-- The arguments, by name. -/
abbrev arg_xn (c : Dev nD) : Act .bf16 := m ((c.tc : Thread nD τ).loc main_arg0)
abbrev arg_wg (c : Dev nD) : WIn .bf16 := m ((c.tc : Thread nD τ).loc main_arg1)
abbrev arg_wu (c : Dev nD) : WIn .bf16 := m ((c.tc : Thread nD τ).loc main_arg2)

/-- The tile of rows and the shard of point `t`. -/
abbrev row (t : Fin cfg0.N) (a : Fin 256) : Fin 2048 := ⟨256 * (t.val % 8) + a.val, by omega⟩
abbrev shard (t : Fin cfg0.N) : Fin 4 := ⟨t.val / 8, by have : t.val < 32 := t.isLt; omega⟩

theorem blk0 (c : Dev nD) (t : Fin cfg0.N) (r : Fin 256) (d : Fin 2048) : iblk m c 0 t (ix2 r d) = arg_xn m c (ix2 (row t r) d) := by
  obtain ⟨e0, e1, e2, -⟩ := idx t
  blk_ext [iblk, V, e0, row]

theorem blk1 (c : Dev nD) (t : Fin cfg0.N) (d : Fin 2048) (f : Fin 1408) : iblk m c 1 t (ix3 0 d f) = arg_wg m c (ix3 (shard t) d f) := by
  obtain ⟨e0, e1, e2, -⟩ := idx t
  blk_ext [iblk, V, e1, shard]

theorem blk2 (c : Dev nD) (t : Fin cfg0.N) (d : Fin 2048) (f : Fin 1408) : iblk m c 2 t (ix3 0 d f) = arg_wu m c (ix3 (shard t) d f) := by
  obtain ⟨e0, e1, e2, -⟩ := idx t
  blk_ext [iblk, V, e2, shard]

/-- An entry of the product of two blocks. -/
def dot (X0 : Vec Ideal S256x2048 .bf16) (X1 : Vec Ideal S1x2048x1408 .bf16) (r : Fin 256) (f : Fin 1408) : EReal :=
  ∑ d : Fin 2048, X0 (ix2 r d) * X1 (ix3 0 d f)

theorem dot_g (c : Dev nD) (t : Fin cfg0.N) (r : Fin 256) (f : Fin 1408) :
    dot (iblk m c 0 t) (iblk m c 1 t) r f = proj (arg_xn m c) (arg_wg m c) (ix2 (row t r) (col (shard t) f)) := by
  refine Finset.sum_congr rfl fun d _ => congrArg₂ (· * ·) (blk0 m c t r d) ((blk1 m c t d f).trans ?_)
  exact congrArg₂ (fun p q => arg_wg m c (ix3 p d q)) (shardOf_col _ _).symm (laneOf_col _ _).symm

theorem dot_u (c : Dev nD) (t : Fin cfg0.N) (r : Fin 256) (f : Fin 1408) :
    dot (iblk m c 0 t) (iblk m c 2 t) r f = proj (arg_xn m c) (arg_wu m c) (ix2 (row t r) (col (shard t) f)) := by
  refine Finset.sum_congr rfl fun d _ => congrArg₂ (· * ·) (blk0 m c t r d) ((blk2 m c t d f).trans ?_)
  exact congrArg₂ (fun p q => arg_wu m c (ix3 p d q)) (shardOf_col _ _).symm (laneOf_col _ _).symm

/-- What the body leaves, from the blocks. -/
theorem pay1 (X0 : Vec Ideal S256x2048 .bf16) (X1 : Vec Ideal S1x2048x1408 .bf16) (r : Fin 256) (f : Fin 1408) :
    k0_pay1 X0 X1 (ix2 r f) = dot X0 X1 r f := by
  unfold_payloads
  pointwise [dot, zero_add]

theorem pay2 (X0 : Vec Ideal S256x2048 .bf16) (X1 : Vec Ideal S1x2048x1408 .bf16) (r : Fin 256) (f : Fin 1408) :
    k0_pay2 X0 X1 (ix2 r f) = dot X0 X1 r f := by
  unfold_payloads
  pointwise [dot, zero_add]

theorem out3 (X0 : Vec Ideal S256x2048 .bf16) (X1 X2 : Vec Ideal S1x2048x1408 .bf16) (r : Fin 256) (f : Fin 1408) :
    out0_3 X0 X1 X2 (ix2 r f) = dot X0 X1 r f := by
  rw [out0_3]
  frame_out
  exact pay1 X0 X1 r f

theorem out4 (X0 : Vec Ideal S256x2048 .bf16) (X1 X2 : Vec Ideal S1x2048x1408 .bf16) (r : Fin 256) (f : Fin 1408) :
    out0_4 X0 X1 X2 (ix2 r f) = dot X0 X2 r f := by
  rw [out0_4]
  frame_out
  exact pay2 X0 X2 r f

theorem out5 (X0 : Vec Ideal S256x2048 .bf16) (X1 X2 : Vec Ideal S1x2048x1408 .bf16) (r : Fin 256) (f : Fin 1408) :
    out0_5 X0 X1 X2 (ix2 r f) = dot X0 X1 r f * sigm (dot X0 X1 r f) * dot X0 X2 r f := by
  rw [out0_5]
  frame_out
  unfold k0_pay3
  have h1 := pay1 X0 X1 r f
  have h2 := pay2 X0 X2 r f
  generalize k0_pay1 X0 X1 = P1 at *
  generalize k0_pay2 X0 X2 = P2 at *
  pointwise
  rw [h1, h2, sigm, ← sigmoid_eq]

/-- The array 1 of three after the run. -/
theorem arr3 (c : Dev nD) : (dats m 0 c).arrAt 3 cfg0.N = proj (arg_xn m c) (arg_wg m c) := by
  refine (dats m 0 c).arrAt_eq_of_covers 3 _ (by decide +kernel) fun t hf y => ?_
  obtain ⟨-, -, -, e3, e4, e5⟩ := idx t
  blk_simp
  rw [after0_3]
  idx_vars y
  have e : ((cfg0.win 3).blk t).view.emb (ix2 y0 y1) = ix2 (row t y0) (col (shard t) y1) := by
    blk_ext [e3, row, col, shard]
  rw [e]
  exact (out3 _ _ _ y0 y1).trans (dot_g m c t y0 y1)

/-- The array 2 of three after the run. -/
theorem arr4 (c : Dev nD) : (dats m 0 c).arrAt 4 cfg0.N = proj (arg_xn m c) (arg_wu m c) := by
  refine (dats m 0 c).arrAt_eq_of_covers 4 _ (by decide +kernel) fun t hf y => ?_
  obtain ⟨-, -, -, e3, e4, e5⟩ := idx t
  blk_simp
  rw [after0_4]
  idx_vars y
  have e : ((cfg0.win 4).blk t).view.emb (ix2 y0 y1) = ix2 (row t y0) (col (shard t) y1) := by
    blk_ext [e4, row, col, shard]
  rw [e]
  exact (out4 _ _ _ y0 y1).trans (dot_u m c t y0 y1)

/-- The array 3 of three after the run. -/
theorem arr5 (c : Dev nD) : (dats m 0 c).arrAt 5 cfg0.N = actOf (arg_xn m c) (arg_wg m c) (arg_wu m c) := by
  refine (dats m 0 c).arrAt_eq_of_covers 5 _ (by decide +kernel) fun t hf y => ?_
  obtain ⟨-, -, -, e3, e4, e5⟩ := idx t
  blk_simp
  rw [after0_5]
  idx_vars y
  have e : ((cfg0.win 5).blk t).view.emb (ix2 y0 y1) = ix2 (row t y0) (col (shard t) y1) := by
    blk_ext [e5, row, col, shard]
  rw [e]
  exact (out5 _ _ _ y0 y1).trans (congrArg₂ (fun g u : EReal => g * sigm g * u) (dot_g m c t y0 y1) (dot_u m c t y0 y1))

/-- The run: the arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = proj (arg_xn m c) (arg_wg m c)
      ∧ r.2.mem ((c.tc : Thread nD τ).loc main_v0_1) = proj (arg_xn m c) (arg_wu m c)
      ∧ r.2.mem ((c.tc : Thread nD τ).loc main_v0_2) = actOf (arg_xn m c) (arg_wg m c) (arg_wu m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (arr3 m c), (h c).2.1.trans (arr4 m c), (h c).2.2.1.trans (arr5 m c), (h c).2.2.2⟩) (Value.run_blocks m ρ)

end Cert.Kernel6Ideal.Points
end
-- ==== Proof.R6Value.lean ====
module

public import proofs.«01_k».proof.Proof.Gen.Reference6Ideal.Run
public import Idealize.ShloMosaic.Lib.Pipeline.ValueKit
public import proofs.«01_k».proof.Proof.Ffn

@[expose] public section

/-! The reference's first products and activation, entry by entry. -/

set_option maxRecDepth 16384
noncomputable section
namespace Cert.Reference6Ideal.Value
open Idealize.ShloMosaic Idealize.SL.Sem
open Cert.Reference6Ideal Cert.Reference6Ideal.Facts₀ Cert.Reference6Ideal.Facts
open Cert.Ffn

/-- A first product of the reference is `proj`. -/
theorem result (xn : Act .bf16) (w : WIn .bf16) :
    Host.dotGeneral (F := Ideal) dot_S2048x2048_S2048x5632_S2048x5632_1_0_0_1_n_n none (extf .f32 xn bitsLt_bf16_f32) (extf .f32 (shapeCast _ (transpose S2048x4x1408 [1, 0, 2] w transposes_S4x2048x1408_S2048x4x1408_1_0_2) shapeCasts_S2048x4x1408_S2048x5632) bitsLt_bf16_f32) = proj xn w := by
  funext i
  idx_vars i
  pointwise [proj]

/-- The reference's activation is `actOf`. -/
theorem result_act (xn : Act .bf16) (wg wu : WIn .bf16) :
    truncf .bf16 (mulf (mulf (Host.dotGeneral dot_S2048x2048_S2048x5632_S2048x5632_1_0_0_1_n_n none (extf .f32 xn bitsLt_bf16_f32) (extf .f32 (shapeCast _ (transpose S2048x4x1408 [1, 0, 2] wg transposes_S4x2048x1408_S2048x4x1408_1_0_2) shapeCasts_S2048x4x1408_S2048x5632) bitsLt_bf16_f32)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none (extf .f32 xn bitsLt_bf16_f32) (extf .f32 (shapeCast _ (transpose S2048x4x1408 [1, 0, 2] wg transposes_S4x2048x1408_S2048x4x1408_1_0_2) shapeCasts_S2048x4x1408_S2048x5632) bitsLt_bf16_f32))))))) (Host.dotGeneral dot_S2048x2048_S2048x5632_S2048x5632_1_0_0_1_n_n none (extf .f32 xn bitsLt_bf16_f32) (extf .f32 (shapeCast _ (transpose S2048x4x1408 [1, 0, 2] wu transposes_S4x2048x1408_S2048x4x1408_1_0_2) shapeCasts_S2048x4x1408_S2048x5632) bitsLt_bf16_f32))) bitsLt_bf16_f32 = actOf xn wg wu := by
  rw [result, result]
  funext i
  idx_vars i
  generalize hg : proj xn wg = G
  generalize hu : proj xn wu = U
  pointwise [actOf, sigm, hg, hu]

end Cert.Reference6Ideal.Value
end
-- ==== Proof.Ffn6.lean ====
module

public import proofs.«01_k».proof.Defs
public import proofs.«01_k».proof.Proof.K6Value
public import proofs.«01_k».proof.Proof.R6Value

@[expose] public section

/-! The two first products and the activation are the same over the reals. -/

noncomputable section
namespace Cert.Ffn6
open Cert.Ffn Idealize.ShloMosaic Idealize.SL Idealize.SL.Sem

/-- The reference program leaves its arguments as they were and every counter at zero. -/
theorem frame : Cert.quiescent_Reference6Ideal := fun m ρ _ =>
  (θ_run (Cert.Reference6Ideal.defs (F := Ideal)) _ _).mono (fun r h => ⟨fun c => (h c).2.2.2,
      Idealize.ShloMosaic.sem_eq_zero_of_no_sems (by decide) r.2⟩)
    (Cert.Reference6Ideal.Value.run (F := Ideal) m ρ)

/-- The two first products and the activation are the same over the reals. -/
theorem algebraic : Cert.algebraic_Kernel6Ideal_Reference6Ideal := by
  intro m ρ m' ρ' _ hagree
  refine ⟨fun c => proj (Cert.Kernel6Ideal.Points.arg_xn m c) (Cert.Kernel6Ideal.Points.arg_wg m c), fun c => proj (Cert.Kernel6Ideal.Points.arg_xn m c) (Cert.Kernel6Ideal.Points.arg_wu m c), fun c => actOf (Cert.Kernel6Ideal.Points.arg_xn m c) (Cert.Kernel6Ideal.Points.arg_wg m c) (Cert.Kernel6Ideal.Points.arg_wu m c),
    Cert.Kernel6Ideal.Points.run m ρ, (θ_run (Cert.Reference6Ideal.defs (F := Ideal)) _ _).mono (fun r h c => ⟨(h c).1.trans ?_, (h c).2.1.trans ?_, (h c).2.2.1.trans ?_, (h c).2.2.2⟩)
      (Cert.Reference6Ideal.Value.run (F := Ideal) m' ρ')⟩
  · rw [(hagree c).1, (hagree c).2.1]
    exact Cert.Reference6Ideal.Value.result _ _
  · rw [(hagree c).1, (hagree c).2.2]
    exact Cert.Reference6Ideal.Value.result _ _
  · rw [(hagree c).1, (hagree c).2.1, (hagree c).2.2]
    exact Cert.Reference6Ideal.Value.result_act _ _ _

end Cert.Ffn6
end
-- ==== Proof.K7Value.lean ====
module

public import proofs.«01_k».proof.Proof.Gen.Kernel7Ideal.Value
public import Idealize.ShloMosaic.Lib.Pipeline.ValueKit
public import Idealize.ShloMosaic.Lib.Pipeline.ReadBack
public import proofs.«01_k».proof.Proof.Ffn

@[expose] public section

/-! What the call that makes the last product and adds half of it to the input leaves. -/

set_option maxRecDepth 16384
noncomputable section
namespace Cert.Kernel7Ideal.Points
open Idealize.ShloMosaic Idealize.SL Idealize.SL.Sem Idealize.ShloMosaic.Pipeline
open Cert.Kernel7Ideal Cert.Kernel7Ideal.Gen
open Cert.Ffn

variable (m : (ℓ : Loc nD τ sig) → Buf (Elt Ideal) ℓ)

/-- Which block of each array point `t` reads and writes. -/
theorem idx : ∀ t : Fin cfg0.N, (win0_0.index t = ![t.val / 8, t.val % 4] ∧ win0_1.index t = ![t.val % 4, 0, t.val / 4 % 2]
    ∧ win0_2.index t = ![t.val / 8, t.val / 4 % 2] ∧ win0_3.index t = ![t.val / 8, t.val / 4 % 2]) :=
  (by decide +kernel : ∀ t : Fin grid0.N, _)

/-- The arguments, by name. -/
abbrev arg_x (c : Dev nD) : Act .f32 := m ((c.tc : Thread nD τ).loc main_arg0)
abbrev arg_act (c : Dev nD) : Hid .bf16 := m ((c.tc : Thread nD τ).loc main_arg1)
abbrev arg_wd (c : Dev nD) : WOut .bf16 := m ((c.tc : Thread nD τ).loc main_arg2)

/-- The tile of rows, the tile of columns and the shard of point `t`. -/
abbrev row (t : Fin cfg0.N) (a : Fin 1024) : Fin 2048 := ⟨1024 * (t.val / 8) + a.val, by have : t.val < 16 := t.isLt; omega⟩
abbrev tile (t : Fin cfg0.N) (a : Fin 1024) : Fin 2048 := ⟨1024 * (t.val / 4 % 2) + a.val, by omega⟩
abbrev shard (t : Fin cfg0.N) : Fin 4 := ⟨t.val % 4, by omega⟩

theorem blk0 (c : Dev nD) (t : Fin cfg0.N) (r : Fin 1024) (f : Fin 1408) : iblk m c 0 t (ix2 r f) = arg_act m c (ix2 (row t r) (col (shard t) f)) := by
  obtain ⟨e0, e1, e2, -⟩ := idx t
  blk_ext [iblk, V, e0, col, shard, row]

theorem blk1 (c : Dev nD) (t : Fin cfg0.N) (f : Fin 1408) (a : Fin 1024) : iblk m c 1 t (ix3 0 f a) = arg_wd m c (ix3 (shard t) f (tile t a)) := by
  obtain ⟨e0, e1, e2, -⟩ := idx t
  blk_ext [iblk, V, e1, shard, tile]

theorem blk2 (c : Dev nD) (t : Fin cfg0.N) (r a : Fin 1024) : iblk m c 2 t (ix2 r a) = arg_x m c (ix2 (row t r) (tile t a)) := by
  obtain ⟨e0, e1, e2, -⟩ := idx t
  blk_ext [iblk, V, e2, tile, row]

/-- What a point adds to the entry `(r, a)` of its tile, from its blocks. -/
def term (X0 : Vec Ideal S1024x1408 .bf16) (X1 : Vec Ideal S1x1408x1024 .bf16) (r a : Fin 1024) : EReal :=
  ∑ f : Fin 1408, X0 (ix2 r f) * X1 (ix3 0 f a)

/-- The sums so far, as point `n` leaves them. -/
abbrev acc (c : Dev nD) (n : ℕ) (h : n < cfg0.N) : FVec Ideal S1024x1024 .f32 := (outsAt0 m c n h).2

set_option maxHeartbeats 4000000 in
/-- The first point of a tile starts from nothing. -/
theorem acc_first (c : Dev nD) (t : Fin cfg0.N) (h0 : t.val % 4 = 0) (r a : Fin 1024) : acc m c t.val t.isLt (ix2 r a) = term (iblk m c 0 t) (iblk m c 1 t) r a := by
  unfold acc
  rw [outsAt0_A m c t h0 (by omega)]
  frame_open
  simp (disch := decide) only [↓ View.readCov_skip, ↓ View.readCov_cons_toLoadRect, ↓ View.readCov_fill]
  frame_out
  unfold term
  generalize iblk m c 0 t = X0
  generalize iblk m c 1 t = X1
  unfold_payloads
  pointwise [zero_add]

set_option maxHeartbeats 4000000 in
/-- The other points add to what the point before left. -/
theorem acc_next (c : Dev nD) (t : Fin cfg0.N) (h0 : ¬t.val % 4 = 0) (r a : Fin 1024) :
    acc m c t.val t.isLt (ix2 r a) = acc m c (t.val - 1) (Nat.lt_of_le_of_lt (Nat.sub_le _ _) t.isLt) (ix2 r a) + term (iblk m c 0 t) (iblk m c 1 t) r a := by
  unfold acc
  by_cases h1 : t.val % 4 = 3
  · rw [outsAt0_C m c t h0 h1]
    frame_open
    simp (disch := decide) only [↓ View.readCov_skip, ↓ View.readCov_cons_toLoadRect, ↓ View.readCov_fill]
    frame_out
    simp only [read_unread_whole]
    unfold term
    generalize iblk m c 0 t = X0
    generalize iblk m c 1 t = X1
    unfold_payloads
    pointwise [zero_add]
  · rw [outsAt0_B m c t h0 h1]
    frame_open
    simp (disch := decide) only [↓ View.readCov_skip, ↓ View.readCov_cons_toLoadRect, ↓ View.readCov_fill]
    frame_out
    simp only [read_unread_whole]
    unfold term
    generalize iblk m c 0 t = X0
    generalize iblk m c 1 t = X1
    unfold_payloads
    pointwise [zero_add]

set_option maxHeartbeats 4000000 in
/-- The last point of a tile writes the input and half the sums. -/
theorem out_last (c : Dev nD) (t : Fin cfg0.N) (h1 : t.val % 4 = 3) (r a : Fin 1024) :
    ((outsAt0 m c t.val t.isLt).1 : FVec Ideal S1024x1024 .f32) (ix2 r a) = arg_x m c (ix2 (row t r) (tile t a)) + half * acc m c t.val t.isLt (ix2 r a) := by
  rw [← blk2 m c t r a]
  unfold acc
  rw [outsAt0_C m c t (by omega) h1]
  frame_open
  simp (disch := decide) only [↓ View.readCov_skip, ↓ View.readCov_cons_toLoadRect, ↓ View.readCov_fill]
  frame_out
  generalize iblk m c 2 t = X2
  generalize k0_pay2 (F := Ideal) _ _ _ = P
  unfold_payloads
  pointwise

/-- The array after the run. -/
theorem arr3 (c : Dev nD) : (dats m 0 c).arrAt 3 cfg0.N = stepOut (arg_x m c) (arg_act m c) (arg_wd m c) := by
  refine (dats m 0 c).arrAt_eq_of_covers 3 _ (by decide +kernel) fun t hf y => ?_
  obtain ⟨-, -, -, e3⟩ := idx t
  have hr : t.val % 4 = 4 - 1 := (flush0_3 t).mp hf
  blk_simp
  rw [after0_3]
  idx_vars y
  have e : ((cfg0.win 3).blk t).view.emb (ix2 y0 y1) = ix2 (row t y0) (tile t y1) := by
    blk_ext [e3, row, tile]
  rw [e]
  have key := eq_sum_fin_of_reset_step_apply_of_flush (N := cfg0.N) (M := EReal) (ι := Fin 1024 × Fin 1024) (fun n h p => acc m c n h (ix2 p.1 p.2)) 4 (fun _ => 0)
    (fun t p => term (iblk m c 0 t) (iblk m c 1 t) p.1 p.2) (fun t h p => (acc_first m c t h p.1 p.2).trans (zero_add _).symm) (fun t h p => acc_next m c t h p.1 p.2) t hr (y0, y1)
  refine (out_last m c t hr y0 y1).trans (congrArg (fun s : EReal => arg_x m c (ix2 (row t y0) (tile t y1)) + half * s) ?_)
  refine key.trans ((zero_add _).trans (Finset.sum_congr rfl fun s _ => Finset.sum_congr rfl fun f _ => ?_))
  have ht : t.val < 16 := t.isLt
  have hs : s.val < 4 := s.isLt
  have hu : 4 * (t.val / 4) + s.val < cfg0.N := run_point_lt_of_flush t hr s
  have er : row ⟨4 * (t.val / 4) + s.val, hu⟩ y0 = row t y0 := Fin.ext (by simp only [row]; omega)
  have et : tile ⟨4 * (t.val / 4) + s.val, hu⟩ y1 = tile t y1 := Fin.ext (by simp only [tile]; omega)
  have es : shard ⟨4 * (t.val / 4) + s.val, hu⟩ = s := Fin.ext (by simp only [shard]; omega)
  refine congrArg₂ (· * ·) ((blk0 m c _ y0 f).trans ?_) ((blk1 m c _ f y1).trans ?_)
  · rw [er, es]; rfl
  · rw [et, es]; rfl

/-- The run: the arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = stepOut (arg_x m c) (arg_act m c) (arg_wd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (arr3 m c), (h c).2⟩) (Value.run_blocks m ρ)

end Cert.Kernel7Ideal.Points
end
-- ==== Proof.R7Value.lean ====
module

public import proofs.«01_k».proof.Proof.Gen.Reference7Ideal.Run
public import Idealize.ShloMosaic.Lib.Pipeline.ValueKit
public import proofs.«01_k».proof.Proof.Ffn

@[expose] public section

/-! The reference's output, entry by entry. -/

set_option maxRecDepth 16384
noncomputable section
namespace Cert.Reference7Ideal.Value
open Idealize.ShloMosaic Idealize.SL.Sem
open Cert.Reference7Ideal Cert.Reference7Ideal.Facts₀ Cert.Reference7Ideal.Facts
open Cert.Ffn

/-- The reference's output is `stepOut`. -/
theorem result (x : Act .f32) (act : Hid .bf16) (wd : WOut .bf16) :
    addf x (mulf (broadcastInDim S2048x2048 ![] bcast_S_S2048x2048 (constant S_ .f32 0x3F000000#32)) (Host.dotGeneral dot_S2048x5632_S5632x2048_S2048x2048_1_0_0_1_n_n none (extf .f32 act bitsLt_bf16_f32) (extf .f32 (shapeCast _ wd shapeCasts_S4x1408x2048_S5632x2048) bitsLt_bf16_f32))) = stepOut x act wd := by
  funext i
  idx_vars i
  pointwise [stepOut]
  rw [sum_col]
  refine congrArg (fun s : EReal => x (ix2 i0 i1) + half * s) (Finset.sum_congr rfl fun j _ => Finset.sum_congr rfl fun f _ => ?_)
  exact congrArg₂ (fun p q => act (ix2 i0 (col j f)) * wd (ix3 p q i1)) (Fin.ext (col_div j f)) (Fin.ext (col_mod j f))

end Cert.Reference7Ideal.Value
end
-- ==== Proof.Ffn7.lean ====
module

public import proofs.«01_k».proof.Defs
public import proofs.«01_k».proof.Proof.K7Value
public import proofs.«01_k».proof.Proof.R7Value

@[expose] public section

/-! The output is the same over the reals. -/

noncomputable section
namespace Cert.Ffn7
open Cert.Ffn Idealize.ShloMosaic Idealize.SL Idealize.SL.Sem

/-- The reference program leaves its arguments as they were and every counter at zero. -/
theorem frame : Cert.quiescent_Reference7Ideal := fun m ρ _ =>
  (θ_run (Cert.Reference7Ideal.defs (F := Ideal)) _ _).mono (fun r h => ⟨fun c => (h c).2,
      Idealize.ShloMosaic.sem_eq_zero_of_no_sems (by decide) r.2⟩)
    (Cert.Reference7Ideal.Value.run (F := Ideal) m ρ)

/-- The output is the same over the reals. -/
theorem algebraic : Cert.algebraic_Kernel7Ideal_Reference7Ideal := by
  intro m ρ m' ρ' _ hagree
  refine ⟨fun c => stepOut (Cert.Kernel7Ideal.Points.arg_x m c) (Cert.Kernel7Ideal.Points.arg_act m c) (Cert.Kernel7Ideal.Points.arg_wd m c),
    Cert.Kernel7Ideal.Points.run m ρ, (θ_run (Cert.Reference7Ideal.defs (F := Ideal)) _ _).mono (fun r h c => ⟨(h c).1.trans ?_, (h c).2⟩)
      (Cert.Reference7Ideal.Value.run (F := Ideal) m' ρ')⟩
  · rw [(hagree c).1, (hagree c).2.1, (hagree c).2.2]
    exact Cert.Reference7Ideal.Value.result _ _ _

end Cert.Ffn7
end
-- ==== Proof.K8Value.lean ====
module

public import proofs.«01_k».proof.Proof.Gen.Kernel8Ideal.Value
public import Idealize.ShloMosaic.Lib.Pipeline.ValueKit
public import Idealize.ShloMosaic.Lib.Pipeline.ReadBack
public import proofs.«01_k».proof.Proof.Ffn

@[expose] public section

/-! What the call that makes the gradients of the two first products leaves. -/

set_option maxRecDepth 16384
noncomputable section
namespace Cert.Kernel8Ideal.Points
open Idealize.ShloMosaic Idealize.SL Idealize.SL.Sem Idealize.ShloMosaic.Pipeline
open Cert.Kernel8Ideal Cert.Kernel8Ideal.Gen
open Cert.Ffn

variable (m : (ℓ : Loc nD τ sig) → Buf (Elt Ideal) ℓ)

/-- Which block of each array point `t` reads and writes. -/
theorem idx : ∀ t : Fin cfg0.N, (win0_0.index t = ![t.val % 4, 0] ∧ win0_1.index t = ![t.val / 4, 0, 0] ∧ win0_2.index t = ![t.val % 4, t.val / 4]
    ∧ win0_3.index t = ![t.val % 4, t.val / 4] ∧ win0_4.index t = ![t.val % 4, t.val / 4] ∧ win0_5.index t = ![t.val % 4, t.val / 4]) :=
  (by decide +kernel : ∀ t : Fin grid0.N, _)

/-- The arguments, by name. -/
abbrev arg_gate (c : Dev nD) : Hid .f32 := m ((c.tc : Thread nD τ).loc main_arg0)
abbrev arg_up (c : Dev nD) : Hid .f32 := m ((c.tc : Thread nD τ).loc main_arg1)
abbrev arg_wd (c : Dev nD) : WOut .bf16 := m ((c.tc : Thread nD τ).loc main_arg2)
abbrev arg_dout (c : Dev nD) : Act .bf16 := m ((c.tc : Thread nD τ).loc main_arg3)

/-- The tile of rows and the shard of point `t`. -/
abbrev row (t : Fin cfg0.N) (a : Fin 512) : Fin 2048 := ⟨512 * (t.val % 4) + a.val, by omega⟩
abbrev shard (t : Fin cfg0.N) : Fin 4 := ⟨t.val / 4, by have : t.val < 16 := t.isLt; omega⟩

theorem blk0 (c : Dev nD) (t : Fin cfg0.N) (r : Fin 512) (d : Fin 2048) : iblk m c 0 t (ix2 r d) = arg_dout m c (ix2 (row t r) d) := by
  obtain ⟨e0, e1, e2, e3, -⟩ := idx t
  blk_ext [iblk, V, e0, row]

theorem blk1 (c : Dev nD) (t : Fin cfg0.N) (f : Fin 1408) (d : Fin 2048) : iblk m c 1 t (ix3 0 f d) = arg_wd m c (ix3 (shard t) f d) := by
  obtain ⟨e0, e1, e2, e3, -⟩ := idx t
  blk_ext [iblk, V, e1, shard]

theorem blk2 (c : Dev nD) (t : Fin cfg0.N) (r : Fin 512) (f : Fin 1408) : iblk m c 2 t (ix2 r f) = arg_gate m c (ix2 (row t r) (col (shard t) f)) := by
  obtain ⟨e0, e1, e2, e3, -⟩ := idx t
  blk_ext [iblk, V, e2, shard, row, col]

theorem blk3 (c : Dev nD) (t : Fin cfg0.N) (r : Fin 512) (f : Fin 1408) : iblk m c 3 t (ix2 r f) = arg_up m c (ix2 (row t r) (col (shard t) f)) := by
  obtain ⟨e0, e1, e2, e3, -⟩ := idx t
  blk_ext [iblk, V, e3, shard, row, col]

/-- An entry of the activation's gradient, from the blocks. -/
def dot (X0 : Vec Ideal S512x2048 .bf16) (X1 : Vec Ideal S1x1408x2048 .bf16) (r : Fin 512) (f : Fin 1408) : EReal :=
  half * ∑ d : Fin 2048, X0 (ix2 r d) * X1 (ix3 0 f d)

theorem dot_eq (c : Dev nD) (t : Fin cfg0.N) (r : Fin 512) (f : Fin 1408) :
    dot (iblk m c 0 t) (iblk m c 1 t) r f = dact (arg_wd m c) (arg_dout m c) (row t r) (col (shard t) f) := by
  refine congrArg (half * ·) (Finset.sum_congr rfl fun d _ => congrArg₂ (· * ·) (blk0 m c t r d) ((blk1 m c t f d).trans ?_))
  exact congrArg₂ (fun p q => arg_wd m c (ix3 p q d)) (shardOf_col _ _).symm (laneOf_col _ _).symm

theorem pay1 (X0 : Vec Ideal S512x2048 .bf16) (X1 : Vec Ideal S1x1408x2048 .bf16) (r : Fin 512) (f : Fin 1408) :
    k0_pay1 X0 X1 (ix2 r f) = dot X0 X1 r f := by
  unfold_payloads
  pointwise [dot, zero_add]

theorem pay2 (X2 : Vec Ideal S512x1408 .f32) (r : Fin 512) (f : Fin 1408) : k0_pay2 X2 (ix2 r f) = Ideal.tanh (half * X2 (ix2 r f)) := by
  unfold_payloads
  pointwise

theorem pay3 (X2 : Vec Ideal S512x1408 .f32) (r : Fin 512) (f : Fin 1408) : k0_pay3 X2 (ix2 r f) = sigm (X2 (ix2 r f)) := by
  have h := pay2 X2 r f
  unfold k0_pay3
  generalize k0_pay2 X2 = P2 at *
  pointwise
  rw [h, sigm, ← sigmoid_eq]

/-- What the body leaves, from the blocks. -/
theorem out4 (X0 : Vec Ideal S512x2048 .bf16) (X1 : Vec Ideal S1x1408x2048 .bf16) (X2 X3 : Vec Ideal S512x1408 .f32) (r : Fin 512) (f : Fin 1408) :
    out0_4 X0 X1 X2 X3 (ix2 r f) = (fun y g u : EReal => y * u * sigm g + g * (y * u) * (sigm g * (1 - sigm g))) (dot X0 X1 r f) (X2 (ix2 r f)) (X3 (ix2 r f)) := by
  rw [out0_4]
  frame_out
  have h1 := pay1 X0 X1 r f
  have h2 := pay2 X2 r f
  have h3 := pay3 X2 r f
  unfold k0_pay4
  generalize k0_pay1 X0 X1 = P1 at *
  generalize k0_pay2 X2 = P2 at *
  generalize k0_pay3 X2 = P3 at *
  pointwise
  rw [h1, h2, h3, ← slope_eq]
  refine congrArg₂ (· + ·) rfl ?_
  unfold half
  ac_rfl

theorem out5 (X0 : Vec Ideal S512x2048 .bf16) (X1 : Vec Ideal S1x1408x2048 .bf16) (X2 X3 : Vec Ideal S512x1408 .f32) (r : Fin 512) (f : Fin 1408) :
    out0_5 X0 X1 X2 X3 (ix2 r f) = (fun y g : EReal => g * sigm g * y) (dot X0 X1 r f) (X2 (ix2 r f)) := by
  rw [out0_5]
  frame_out
  have h1 := pay1 X0 X1 r f
  have h3 := pay3 X2 r f
  unfold k0_pay5
  generalize k0_pay1 X0 X1 = P1 at *
  generalize k0_pay3 X2 = P3 at *
  pointwise
  rw [h1, h3]

/-- The gate's gradient after the run. -/
theorem arr4 (c : Dev nD) : (dats m 0 c).arrAt 4 cfg0.N = dGate (arg_gate m c) (arg_up m c) (arg_wd m c) (arg_dout m c) := by
  refine (dats m 0 c).arrAt_eq_of_covers 4 _ (by decide +kernel) fun t hf y => ?_
  obtain ⟨-, -, -, -, e4, e5⟩ := idx t
  blk_simp
  rw [after0_4]
  idx_vars y
  have e : ((cfg0.win 4).blk t).view.emb (ix2 y0 y1) = ix2 (row t y0) (col (shard t) y1) := by
    blk_ext [e4, row, col, shard]
  rw [e]
  refine (out4 _ _ _ _ y0 y1).trans ?_
  rw [dot_eq, blk2, blk3]
  rfl

/-- The other product's gradient after the run. -/
theorem arr5 (c : Dev nD) : (dats m 0 c).arrAt 5 cfg0.N = dUp (arg_gate m c) (arg_wd m c) (arg_dout m c) := by
  refine (dats m 0 c).arrAt_eq_of_covers 5 _ (by decide +kernel) fun t hf y => ?_
  obtain ⟨-, -, -, -, e4, e5⟩ := idx t
  blk_simp
  rw [after0_5]
  idx_vars y
  have e : ((cfg0.win 5).blk t).view.emb (ix2 y0 y1) = ix2 (row t y0) (col (shard t) y1) := by
    blk_ext [e5, row, col, shard]
  rw [e]
  refine (out5 _ _ _ _ y0 y1).trans ?_
  rw [dot_eq, blk2]
  rfl

/-- The run: the arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = dGate (arg_gate m c) (arg_up m c) (arg_wd m c) (arg_dout m c)
      ∧ r.2.mem ((c.tc : Thread nD τ).loc main_v0_1) = dUp (arg_gate m c) (arg_wd m c) (arg_dout m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2⟩) (Value.run_blocks m ρ)

end Cert.Kernel8Ideal.Points
end
-- ==== Proof.R8Value.lean ====
module

public import proofs.«01_k».proof.Proof.Gen.Reference8Ideal.Run
public import Idealize.ShloMosaic.Lib.Pipeline.ValueKit
public import proofs.«01_k».proof.Proof.Ffn

@[expose] public section

/-! The reference's gradients of the two first products, entry by entry. -/

set_option maxRecDepth 16384
noncomputable section
namespace Cert.Reference8Ideal.Value
open Idealize.ShloMosaic Idealize.SL.Sem
open Cert.Reference8Ideal Cert.Reference8Ideal.Facts₀ Cert.Reference8Ideal.Facts
open Cert.Ffn

/-- The reference's gradient of the activation is `dact`. -/
theorem result_dact (wd : WOut .bf16) (d : Act .bf16) :
    Host.dotGeneral (F := Ideal) dot_S2048x2048_S5632x2048_S2048x5632_1_1_0_0_n_n none (mulf (broadcastInDim S2048x2048 ![] bcast_S_S2048x2048 (constant S_ .f32 0x3F000000#32)) (extf .f32 d bitsLt_bf16_f32)) (extf .f32 (shapeCast _ wd shapeCasts_S4x1408x2048_S5632x2048) bitsLt_bf16_f32) = fun i => dact wd d (i 0) (i 1) := by
  funext i
  idx_vars i
  pointwise [dact]
  rw [half_sum]
  exact Finset.sum_congr rfl fun e _ => mul_assoc _ _ _

/-- The reference's gradient of the gate is `dGate`. -/
theorem result_gate (g u : Hid .f32) (wd : WOut .bf16) (d : Act .bf16) :
    truncf .bf16 (addf (mulf (mulf (Host.dotGeneral dot_S2048x2048_S5632x2048_S2048x5632_1_1_0_0_n_n none (mulf (broadcastInDim S2048x2048 ![] bcast_S_S2048x2048 (constant S_ .f32 0x3F000000#32)) (extf .f32 d bitsLt_bf16_f32)) (extf .f32 (shapeCast _ wd shapeCasts_S4x1408x2048_S5632x2048) bitsLt_bf16_f32)) u) (Host.divf (broadcastInDim S2048x5632 ![] bcast_S_S2048x5632 (constant S_ .f32 0x3F800000#32)) (addf (broadcastInDim S2048x5632 ![] bcast_S_S2048x5632 (constant S_ .f32 0x3F800000#32)) (Host.exp (Host.negf g))))) (mulf (mulf g (mulf (Host.dotGeneral dot_S2048x2048_S5632x2048_S2048x5632_1_1_0_0_n_n none (mulf (broadcastInDim S2048x2048 ![] bcast_S_S2048x2048 (constant S_ .f32 0x3F000000#32)) (extf .f32 d bitsLt_bf16_f32)) (extf .f32 (shapeCast _ wd shapeCasts_S4x1408x2048_S5632x2048) bitsLt_bf16_f32)) u)) (mulf (Host.divf (broadcastInDim S2048x5632 ![] bcast_S_S2048x5632 (constant S_ .f32 0x3F800000#32)) (addf (broadcastInDim S2048x5632 ![] bcast_S_S2048x5632 (constant S_ .f32 0x3F800000#32)) (Host.exp (Host.negf g)))) (subf (broadcastInDim S2048x5632 ![] bcast_S_S2048x5632 (constant S_ .f32 0x3F800000#32)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf g)))))))) bitsLt_bf16_f32 = dGate g u wd d := by
  rw [result_dact]
  funext i
  idx_vars i
  pointwise [dGate, sigm]

/-- The reference's gradient of the other product is `dUp`. -/
theorem result_up (g : Hid .f32) (wd : WOut .bf16) (d : Act .bf16) :
    truncf .bf16 (mulf (mulf g (Host.divf (broadcastInDim S2048x5632 ![] bcast_S_S2048x5632 (constant S_ .f32 0x3F800000#32)) (addf (broadcastInDim S2048x5632 ![] bcast_S_S2048x5632 (constant S_ .f32 0x3F800000#32)) (Host.exp (Host.negf g))))) (Host.dotGeneral dot_S2048x2048_S5632x2048_S2048x5632_1_1_0_0_n_n none (mulf (broadcastInDim S2048x2048 ![] bcast_S_S2048x2048 (constant S_ .f32 0x3F000000#32)) (extf .f32 d bitsLt_bf16_f32)) (extf .f32 (shapeCast _ wd shapeCasts_S4x1408x2048_S5632x2048) bitsLt_bf16_f32))) bitsLt_bf16_f32 = dUp g wd d := by
  rw [result_dact]
  funext i
  idx_vars i
  pointwise [dUp, sigm]

end Cert.Reference8Ideal.Value
end
-- ==== Proof.Ffn8.lean ====
module

public import proofs.«01_k».proof.Defs
public import proofs.«01_k».proof.Proof.K8Value
public import proofs.«01_k».proof.Proof.R8Value

@[expose] public section

/-! The gradients of the two first products are the same over the reals. -/

noncomputable section
namespace Cert.Ffn8
open Cert.Ffn Idealize.ShloMosaic Idealize.SL Idealize.SL.Sem

/-- The reference program leaves its arguments as they were and every counter at zero. -/
theorem frame : Cert.quiescent_Reference8Ideal := fun m ρ _ =>
  (θ_run (Cert.Reference8Ideal.defs (F := Ideal)) _ _).mono (fun r h => ⟨fun c => (h c).2.2,
      Idealize.ShloMosaic.sem_eq_zero_of_no_sems (by decide) r.2⟩)
    (Cert.Reference8Ideal.Value.run (F := Ideal) m ρ)

/-- The gradients of the two first products are the same over the reals. -/
theorem algebraic : Cert.algebraic_Kernel8Ideal_Reference8Ideal := by
  intro m ρ m' ρ' _ hagree
  refine ⟨fun c => dGate (Cert.Kernel8Ideal.Points.arg_gate m c) (Cert.Kernel8Ideal.Points.arg_up m c) (Cert.Kernel8Ideal.Points.arg_wd m c) (Cert.Kernel8Ideal.Points.arg_dout m c), fun c => dUp (Cert.Kernel8Ideal.Points.arg_gate m c) (Cert.Kernel8Ideal.Points.arg_wd m c) (Cert.Kernel8Ideal.Points.arg_dout m c),
    Cert.Kernel8Ideal.Points.run m ρ, (θ_run (Cert.Reference8Ideal.defs (F := Ideal)) _ _).mono (fun r h c => ⟨(h c).1.trans ?_, (h c).2.1.trans ?_, (h c).2.2⟩)
      (Cert.Reference8Ideal.Value.run (F := Ideal) m' ρ')⟩
  · rw [(hagree c).1, (hagree c).2.1, (hagree c).2.2.1, (hagree c).2.2.2]
    exact Cert.Reference8Ideal.Value.result_gate _ _ _ _
  · rw [(hagree c).1, (hagree c).2.2.1, (hagree c).2.2.2]
    exact Cert.Reference8Ideal.Value.result_up _ _ _

end Cert.Ffn8
end
-- ==== Proof.Mixer.lean ====
module

public import Idealize.ShloMosaic.Lib.Pointwise
public import Idealize.ShloMosaic.Lib.Pipeline.ValueKit

@[expose] public section

/-! The products of the mixer's backward pass with the projection to q, k and v: 2048 tokens, width 2048, 3072 columns. -/

noncomputable section
namespace Cert.Mixer
open Idealize.ShloMosaic

abbrev Tok (φ : FTy) := FVec Ideal ⟨2, ![2048, 2048]⟩ φ
abbrev Qkv (φ : FTy) := FVec Ideal ⟨2, ![2048, 3072]⟩ φ

/-- The gradient of the weight: the input's transpose times the output's gradient. -/
def gradW (hn : Tok .bf16) (d : Qkv .bf16) : Qkv .f32 := fun i => ∑ t : Fin 2048, hn (ix2 t (i 0)) * d (ix2 t (i 1))

/-- The gradient of the input: the output's gradient times the weight's transpose. -/
def gradIn (d w : Qkv .bf16) : Tok .f32 := fun i => ∑ e : Fin 3072, d (ix2 (i 0) e) * w (ix2 (i 1) e)

/-- Column `f` of half `k`, among all 3072. -/
def col (k : Fin 2) (f : Fin 1536) : Fin 3072 := ⟨k.val * 1536 + f.val, by omega⟩

/-- A sum over all columns is the sum over the halves of the sums over their columns. -/
theorem sum_col (g : Fin 3072 → EReal) : ∑ i, g i = ∑ k, ∑ f, g (col k f) := by
  rw [← Finset.sum_product', Finset.univ_product_univ]
  refine (Fintype.sum_equiv (finProdFinEquiv (m := 2) (n := 1536)) _ _ fun p => ?_).symm
  exact congrArg g (Fin.ext (by simp only [col, finProdFinEquiv_apply_val]; omega))

end Cert.Mixer
end
-- ==== Proof.K9Value.lean ====
module

public import proofs.«01_k».proof.Proof.Gen.Kernel9Ideal.Value
public import Idealize.ShloMosaic.Lib.Pipeline.ValueKit
public import Idealize.ShloMosaic.Lib.Pipeline.ReadBack
public import proofs.«01_k».proof.Proof.Mixer

@[expose] public section

/-! What the call that makes the gradient of the weights to q, k and v leaves. -/

set_option maxRecDepth 16384
noncomputable section
namespace Cert.Kernel9Ideal.Points
open Idealize.ShloMosaic Idealize.SL Idealize.SL.Sem Idealize.ShloMosaic.Pipeline
open Cert.Kernel9Ideal Cert.Kernel9Ideal.Gen
open Cert.Mixer

variable (m : (ℓ : Loc nD τ sig) → Buf (Elt Ideal) ℓ)

/-- Which block of each array point `t` reads and writes. -/
theorem idx : ∀ t : Fin cfg0.N, (win0_0.index t = ![0, t.val / 3] ∧ win0_1.index t = ![0, t.val % 3] ∧ win0_2.index t = ![t.val / 3, t.val % 3]) :=
  (by decide +kernel : ∀ t : Fin grid0.N, _)

/-- The arguments, by name. -/
abbrev arg_hn (c : Dev nD) : Tok .bf16 := m ((c.tc : Thread nD τ).loc main_arg0)
abbrev arg_d (c : Dev nD) : Qkv .bf16 := m ((c.tc : Thread nD τ).loc main_arg1)

/-- The tile of rows and the tile of columns of point `t`. -/
abbrev row (t : Fin cfg0.N) (a : Fin 1024) : Fin 2048 := ⟨1024 * (t.val / 3) + a.val, by have : t.val < 6 := t.isLt; omega⟩
abbrev tile (t : Fin cfg0.N) (a : Fin 1024) : Fin 3072 := ⟨1024 * (t.val % 3) + a.val, by omega⟩

theorem blk0 (c : Dev nD) (t : Fin cfg0.N) (r : Fin 2048) (a : Fin 1024) : iblk m c 0 t (ix2 r a) = arg_hn m c (ix2 r (row t a)) := by
  obtain ⟨e0, -, -⟩ := idx t
  blk_ext [iblk, V, e0, row]

theorem blk1 (c : Dev nD) (t : Fin cfg0.N) (r : Fin 2048) (a : Fin 1024) : iblk m c 1 t (ix2 r a) = arg_d m c (ix2 r (tile t a)) := by
  obtain ⟨-, e1, -⟩ := idx t
  blk_ext [iblk, V, e1, tile]

/-- What the body leaves, from the blocks. -/
theorem out2 (X0 X1 : Vec Ideal S2048x1024 .bf16) (a b : Fin 1024) :
    out0_2 X0 X1 (ix2 a b) = ∑ r : Fin 2048, X0 (ix2 r a) * X1 (ix2 r b) := by
  rw [out0_2]
  frame_out
  unfold_payloads
  pointwise [zero_add]

/-- The array after the run. -/
theorem arr2 (c : Dev nD) : (dats m 0 c).arrAt 2 cfg0.N = gradW (arg_hn m c) (arg_d m c) := by
  refine (dats m 0 c).arrAt_eq_of_covers 2 _ (by decide +kernel) fun t hf y => ?_
  obtain ⟨-, -, e2⟩ := idx t
  blk_simp
  rw [after0_2]
  idx_vars y
  have e : ((cfg0.win 2).blk t).view.emb (ix2 y0 y1) = ix2 (row t y0) (tile t y1) := by
    blk_ext [e2, row, tile]
  rw [e]
  exact (out2 _ _ y0 y1).trans (Finset.sum_congr rfl fun r _ => congrArg₂ (· * ·) (blk0 m c t r y0) (blk1 m c t r y1))

/-- The run: the arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = gradW (arg_hn m c) (arg_d m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (arr2 m c), (h c).2⟩) (Value.run_blocks m ρ)

end Cert.Kernel9Ideal.Points
end
-- ==== Proof.Mix9.lean ====
module

public import proofs.«01_k».proof.Defs
public import proofs.«01_k».proof.Proof.K9Value
public import proofs.«01_k».proof.Proof.Gen.Reference9Ideal.Run
public import Idealize.ShloMosaic.Lib.Pipeline.ValueKit

@[expose] public section

/-! The gradient of the weights to q, k and v is the same over the reals. -/

set_option maxRecDepth 16384
noncomputable section
namespace Cert.Mix9
open Cert.Mixer Idealize.ShloMosaic Idealize.SL Idealize.SL.Sem

section
open Cert.Reference9Ideal Cert.Reference9Ideal.Facts₀ Cert.Reference9Ideal.Facts

/-- The reference's gradient is `gradW`. -/
theorem value (hn : Tok .bf16) (d : Qkv .bf16) :
    transpose S2048x3072 [1, 0] (Host.dotGeneral (F := Ideal) dot_S2048x3072_S2048x2048_S3072x2048_0_0_1_1_n_n none (extf .f32 d bitsLt_bf16_f32) (extf .f32 hn bitsLt_bf16_f32)) transposes_S3072x2048_S2048x3072_1_0 = gradW hn d := by
  funext i
  idx_vars i
  pointwise [gradW]
  exact Finset.sum_congr rfl fun t _ => mul_comm _ _

end

/-- The reference program leaves its arguments as they were and every counter at zero. -/
theorem frame : Cert.quiescent_Reference9Ideal := fun m ρ _ =>
  (θ_run (Cert.Reference9Ideal.defs (F := Ideal)) _ _).mono (fun r h => ⟨fun c => (h c).2,
      Idealize.ShloMosaic.sem_eq_zero_of_no_sems (by decide) r.2⟩)
    (Cert.Reference9Ideal.Value.run (F := Ideal) m ρ)

/-- The gradient of the weights to q, k and v is the same over the reals. -/
theorem algebraic : Cert.algebraic_Kernel9Ideal_Reference9Ideal := by
  intro m ρ m' ρ' _ hagree
  refine ⟨fun c => gradW (Cert.Kernel9Ideal.Points.arg_hn m c) (Cert.Kernel9Ideal.Points.arg_d m c),
    Cert.Kernel9Ideal.Points.run m ρ, (θ_run (Cert.Reference9Ideal.defs (F := Ideal)) _ _).mono (fun r h c => ⟨(h c).1.trans ?_, (h c).2⟩)
      (Cert.Reference9Ideal.Value.run (F := Ideal) m' ρ')⟩
  · rw [(hagree c).1, (hagree c).2]
    exact value _ _

end Cert.Mix9
end
-- ==== Proof.K10Value.lean ====
module

public import proofs.«01_k».proof.Proof.Gen.Kernel10Ideal.Value
public import Idealize.ShloMosaic.Lib.Pipeline.ValueKit
public import Idealize.ShloMosaic.Lib.Pipeline.ReadBack
public import proofs.«01_k».proof.Proof.Mixer

@[expose] public section

/-! What the call that makes the gradient of the input through q, k and v leaves. -/

set_option maxRecDepth 16384
noncomputable section
namespace Cert.Kernel10Ideal.Points
open Idealize.ShloMosaic Idealize.SL Idealize.SL.Sem Idealize.ShloMosaic.Pipeline
open Cert.Kernel10Ideal Cert.Kernel10Ideal.Gen
open Cert.Mixer

variable (m : (ℓ : Loc nD τ sig) → Buf (Elt Ideal) ℓ)

/-- Which block of each array point `t` reads and writes. -/
theorem idx : ∀ t : Fin cfg0.N, (win0_0.index t = ![t.val / 4, t.val % 2] ∧ win0_1.index t = ![t.val / 2 % 2, t.val % 2] ∧ win0_2.index t = ![t.val / 4, t.val / 2 % 2]) :=
  (by decide +kernel : ∀ t : Fin grid0.N, _)

/-- The arguments, by name. -/
abbrev arg_d (c : Dev nD) : Qkv .bf16 := m ((c.tc : Thread nD τ).loc main_arg0)
abbrev arg_w (c : Dev nD) : Qkv .bf16 := m ((c.tc : Thread nD τ).loc main_arg1)

/-- The tile of rows, the tile of columns and the half of point `t`. -/
abbrev row (t : Fin cfg0.N) (a : Fin 1024) : Fin 2048 := ⟨1024 * (t.val / 4) + a.val, by have : t.val < 8 := t.isLt; omega⟩
abbrev tile (t : Fin cfg0.N) (a : Fin 1024) : Fin 2048 := ⟨1024 * (t.val / 2 % 2) + a.val, by omega⟩
abbrev part (t : Fin cfg0.N) : Fin 2 := ⟨t.val % 2, by omega⟩

theorem blk0 (c : Dev nD) (t : Fin cfg0.N) (r : Fin 1024) (f : Fin 1536) : iblk m c 0 t (ix2 r f) = arg_d m c (ix2 (row t r) (col (part t) f)) := by
  obtain ⟨e0, -, -⟩ := idx t
  blk_ext [iblk, V, e0, col, part, row]

theorem blk1 (c : Dev nD) (t : Fin cfg0.N) (a : Fin 1024) (f : Fin 1536) : iblk m c 1 t (ix2 a f) = arg_w m c (ix2 (tile t a) (col (part t) f)) := by
  obtain ⟨-, e1, -⟩ := idx t
  blk_ext [iblk, V, e1, col, part, tile]

/-- What a point adds to the entry `(r, a)` of its tile, from its blocks. -/
def term (X0 X1 : Vec Ideal S1024x1536 .bf16) (r a : Fin 1024) : EReal := ∑ f : Fin 1536, X0 (ix2 r f) * X1 (ix2 a f)

/-- The sums so far, as point `n` leaves them. -/
abbrev acc (c : Dev nD) (n : ℕ) (h : n < cfg0.N) : FVec Ideal S1024x1024 .f32 := (outsAt0 m c n h).2

set_option maxHeartbeats 4000000 in
/-- The first point of a tile starts from nothing. -/
theorem acc_first (c : Dev nD) (t : Fin cfg0.N) (h0 : t.val % 2 = 0) (r a : Fin 1024) : acc m c t.val t.isLt (ix2 r a) = term (iblk m c 0 t) (iblk m c 1 t) r a := by
  unfold acc
  rw [outsAt0_A m c t h0 (by omega)]
  frame_open
  simp (disch := decide) only [↓ View.readCov_skip, ↓ View.readCov_cons_toLoadRect, ↓ View.readCov_fill]
  frame_out
  unfold term
  generalize iblk m c 0 t = X0
  generalize iblk m c 1 t = X1
  unfold_payloads
  pointwise [zero_add]

set_option maxHeartbeats 4000000 in
/-- The second point adds to what the first left. -/
theorem acc_next (c : Dev nD) (t : Fin cfg0.N) (h0 : ¬t.val % 2 = 0) (r a : Fin 1024) :
    acc m c t.val t.isLt (ix2 r a) = acc m c (t.val - 1) (Nat.lt_of_le_of_lt (Nat.sub_le _ _) t.isLt) (ix2 r a) + term (iblk m c 0 t) (iblk m c 1 t) r a := by
  unfold acc
  rw [outsAt0_B m c t h0 (by omega)]
  frame_open
  simp (disch := decide) only [↓ View.readCov_skip, ↓ View.readCov_cons_toLoadRect, ↓ View.readCov_fill]
  frame_out
  simp only [read_unread_whole]
  unfold term
  generalize iblk m c 0 t = X0
  generalize iblk m c 1 t = X1
  unfold_payloads
  pointwise [zero_add, add_assoc]

set_option maxHeartbeats 4000000 in
/-- The second point of a tile copies the sums out. -/
theorem out_last (c : Dev nD) (t : Fin cfg0.N) (h1 : t.val % 2 = 1) : (outsAt0 m c t.val t.isLt).1 = acc m c t.val t.isLt := by
  unfold acc
  rw [outsAt0_B m c t (by omega) h1]
  frame_open
  simp (disch := decide) only [↓ View.readCov_skip, ↓ View.readCov_cons_toLoadRect, ↓ View.readCov_fill]
  frame_out

/-- The array after the run. -/
theorem arr2 (c : Dev nD) : (dats m 0 c).arrAt 2 cfg0.N = gradIn (arg_d m c) (arg_w m c) := by
  refine (dats m 0 c).arrAt_eq_of_covers 2 _ (by decide +kernel) fun t hf y => ?_
  obtain ⟨-, -, e2⟩ := idx t
  have hr : t.val % 2 = 2 - 1 := (flush0_2 t).mp hf
  blk_simp
  rw [after0_2, out_last m c t hr]
  idx_vars y
  have e : ((cfg0.win 2).blk t).view.emb (ix2 y0 y1) = ix2 (row t y0) (tile t y1) := by
    blk_ext [e2, row, tile]
  rw [e]
  have key := eq_sum_fin_of_reset_step_apply_of_flush (N := cfg0.N) (M := EReal) (ι := Fin 1024 × Fin 1024) (fun n h p => acc m c n h (ix2 p.1 p.2)) 2 (fun _ => 0)
    (fun t p => term (iblk m c 0 t) (iblk m c 1 t) p.1 p.2) (fun t h p => (acc_first m c t h p.1 p.2).trans (zero_add _).symm) (fun t h p => acc_next m c t h p.1 p.2) t hr (y0, y1)
  refine key.trans ((zero_add _).trans ((Finset.sum_congr rfl fun s _ => ?_).trans (sum_col _).symm))
  have ht : t.val < 8 := t.isLt
  have hs : s.val < 2 := s.isLt
  have hu : 2 * (t.val / 2) + s.val < cfg0.N := run_point_lt_of_flush t hr s
  have er : row ⟨2 * (t.val / 2) + s.val, hu⟩ y0 = row t y0 := Fin.ext (by simp only [row]; omega)
  have et : tile ⟨2 * (t.val / 2) + s.val, hu⟩ y1 = tile t y1 := Fin.ext (by simp only [tile]; omega)
  have es : part ⟨2 * (t.val / 2) + s.val, hu⟩ = s := Fin.ext (by simp only [part]; omega)
  refine Finset.sum_congr rfl fun f _ => congrArg₂ (· * ·) ((blk0 m c _ y0 f).trans ?_) ((blk1 m c _ y1 f).trans ?_)
  · rw [er, es]; rfl
  · rw [et, es]; rfl

/-- The run: the arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = gradIn (arg_d m c) (arg_w m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (arr2 m c), (h c).2⟩) (Value.run_blocks m ρ)

end Cert.Kernel10Ideal.Points
end
-- ==== Proof.Mix10.lean ====
module

public import proofs.«01_k».proof.Defs
public import proofs.«01_k».proof.Proof.K10Value
public import proofs.«01_k».proof.Proof.Gen.Reference10Ideal.Run
public import Idealize.ShloMosaic.Lib.Pipeline.ValueKit

@[expose] public section

/-! The gradient of the input through q, k and v is the same over the reals. -/

set_option maxRecDepth 16384
noncomputable section
namespace Cert.Mix10
open Cert.Mixer Idealize.ShloMosaic Idealize.SL Idealize.SL.Sem

section
open Cert.Reference10Ideal Cert.Reference10Ideal.Facts₀ Cert.Reference10Ideal.Facts

/-- The reference's gradient is `gradIn`. -/
theorem value (d w : Qkv .bf16) :
    Host.dotGeneral (F := Ideal) dot_S2048x3072_S2048x3072_S2048x2048_1_1_0_0_n_n none (extf .f32 d bitsLt_bf16_f32) (extf .f32 w bitsLt_bf16_f32) = gradIn d w := by
  funext i
  idx_vars i
  pointwise [gradIn]

end

/-- The reference program leaves its arguments as they were and every counter at zero. -/
theorem frame : Cert.quiescent_Reference10Ideal := fun m ρ _ =>
  (θ_run (Cert.Reference10Ideal.defs (F := Ideal)) _ _).mono (fun r h => ⟨fun c => (h c).2,
      Idealize.ShloMosaic.sem_eq_zero_of_no_sems (by decide) r.2⟩)
    (Cert.Reference10Ideal.Value.run (F := Ideal) m ρ)

/-- The gradient of the input through q, k and v is the same over the reals. -/
theorem algebraic : Cert.algebraic_Kernel10Ideal_Reference10Ideal := by
  intro m ρ m' ρ' _ hagree
  refine ⟨fun c => gradIn (Cert.Kernel10Ideal.Points.arg_d m c) (Cert.Kernel10Ideal.Points.arg_w m c),
    Cert.Kernel10Ideal.Points.run m ρ, (θ_run (Cert.Reference10Ideal.defs (F := Ideal)) _ _).mono (fun r h c => ⟨(h c).1.trans ?_, (h c).2⟩)
      (Cert.Reference10Ideal.Value.run (F := Ideal) m' ρ')⟩
  · rw [(hagree c).1, (hagree c).2]
    exact value _ _

end Cert.Mix10
end
-- ==== Proof.Norm.lean ====
module

public import Idealize.ShloMosaic.Lib.Pointwise
public import Idealize.ShloMosaic.Lib.Pipeline.ValueKit

@[expose] public section

/-! The gradients of the norm, row by row: 2048 tokens, width 2048. -/

noncomputable section
namespace Cert.Norm
open Idealize.ShloMosaic

abbrev Tok (φ : FTy) := FVec Ideal ⟨2, ![2048, 2048]⟩ φ
abbrev Gain := FVec Ideal ⟨2, ![1, 2048]⟩ .f32
/-- A token's row. -/
abbrev Row := Fin 2048 → EReal

/-- The number that a literal is. -/
abbrev lit (b : BitVec 32) : EReal := Ideal.ofBits .f32 b

/-- The mean of a row's squares, and a little. -/
def mean (x : Row) : EReal := Ideal.div (∑ d, x d * x d) (lit 0x45000000#32) + lit 0x358637BD#32
/-- The norm's factor. -/
def fac (x : Row) : EReal := Ideal.rsqrt (mean x)
/-- What the row's squares receive through the factor. -/
def back (x g dy : Row) : EReal :=
  Ideal.div ((∑ d, x d * (dy d * g d)) * (lit 0xBF000000#32 * Ideal.div (fac x) (mean x))) (lit 0x45000000#32)
/-- The row's gradient, the residual's added. -/
def rowGrad (x g dy r : Row) : Row := fun d => dy d * g d * fac x + x d * back x g dy + back x g dy * x d + r d
/-- What a token adds to the gain's gradient. -/
def gainTerm (x dy : Row) : Row := fun d => x d * fac x * dy d

/-- Row `t` of an array. -/
abbrev rowOf {φ : FTy} (X : Tok φ) (t : Fin 2048) : Row := fun d => X (ix2 t d)

/-- The input's gradient. -/
def gradIn (h dy dres : Tok .f32) (g : Gain) : Tok .f32 := fun i => rowGrad (rowOf h (i 0)) (fun d => g (ix2 0 d)) (rowOf dy (i 0)) (rowOf dres (i 0)) (i 1)
/-- The gain's gradient. -/
def gradGain (h dy : Tok .f32) : Gain := fun i => ∑ t : Fin 2048, gainTerm (rowOf h t) (rowOf dy t) (i 1)

/-- Row `f` of tile `k`, among all 2048. -/
def row (k : Fin 4) (f : Fin 512) : Fin 2048 := ⟨k.val * 512 + f.val, by omega⟩

/-- A sum over all rows is the sum over the tiles of the sums over their rows. -/
theorem sum_row (g : Fin 2048 → EReal) : ∑ i, g i = ∑ k, ∑ f, g (row k f) := by
  rw [← Finset.sum_product', Finset.univ_product_univ]
  refine (Fintype.sum_equiv (finProdFinEquiv (m := 4) (n := 512)) _ _ fun p => ?_).symm
  exact congrArg g (Fin.ext (by simp only [row, finProdFinEquiv_apply_val]; omega))

end Cert.Norm
end
-- ==== Proof.K11Value.lean ====
module

public import proofs.«01_k».proof.Proof.Gen.Kernel11Ideal.Value
public import Idealize.ShloMosaic.Lib.Pipeline.ValueKit
public import Idealize.ShloMosaic.Lib.Pipeline.ReadBack
public import proofs.«01_k».proof.Proof.Norm

@[expose] public section

/-! What the norm's backward call leaves. -/

set_option maxRecDepth 16384
noncomputable section
namespace Cert.Kernel11Ideal.Points
open Idealize.ShloMosaic Idealize.SL Idealize.SL.Sem Idealize.ShloMosaic.Pipeline
open Cert.Kernel11Ideal Cert.Kernel11Ideal.Gen
open Cert.Norm

variable (m : (ℓ : Loc nD τ sig) → Buf (Elt Ideal) ℓ)

/-- Which block of each array point `t` reads and writes. -/
theorem idx : ∀ t : Fin cfg0.N, (win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0]) :=
  (by decide +kernel : ∀ t : Fin grid0.N, _)

/-- The arguments, by name. -/
abbrev arg_h (c : Dev nD) : Tok .f32 := m ((c.tc : Thread nD τ).loc main_arg0)
abbrev arg_g (c : Dev nD) : Gain := m ((c.tc : Thread nD τ).loc main_arg1)
abbrev arg_dy (c : Dev nD) : Tok .f32 := m ((c.tc : Thread nD τ).loc main_arg2)
abbrev arg_dres (c : Dev nD) : Tok .f32 := m ((c.tc : Thread nD τ).loc main_arg3)

/-- The tile of rows of point `t`. -/
abbrev tile (t : Fin cfg0.N) : Fin 4 := ⟨t.val, t.isLt⟩

theorem blk0 (c : Dev nD) (t : Fin cfg0.N) (r : Fin 512) (d : Fin 2048) : iblk m c 0 t (ix2 r d) = arg_h m c (ix2 (row (tile t) r) d) := by
  obtain ⟨e, -⟩ := idx t
  blk_ext [iblk, V, e, row, tile]

theorem blk1 (c : Dev nD) (t : Fin cfg0.N) (r : Fin 512) (d : Fin 2048) : iblk m c 1 t (ix2 r d) = arg_dy m c (ix2 (row (tile t) r) d) := by
  obtain ⟨-, e, -⟩ := idx t
  blk_ext [iblk, V, e, row, tile]

theorem blk2 (c : Dev nD) (t : Fin cfg0.N) (r : Fin 512) (d : Fin 2048) : iblk m c 2 t (ix2 r d) = arg_dres m c (ix2 (row (tile t) r) d) := by
  obtain ⟨-, -, e, -⟩ := idx t
  blk_ext [iblk, V, e, row, tile]

theorem blk3 (c : Dev nD) (t : Fin cfg0.N) (d : Fin 2048) : iblk m c 3 t (ix2 0 d) = arg_g m c (ix2 0 d) := by
  obtain ⟨-, -, -, e, -⟩ := idx t
  blk_ext [iblk, V, e]

/-- Row `r` of a block. -/
abbrev bRow (X : Vec Ideal S512x2048 .f32) (r : Fin 512) : Row := fun d => X (ix2 r d)

/-- What the body's payloads are, from the blocks. -/
theorem pay3 (X0 : Vec Ideal S512x2048 .f32) (r : Fin 512) : k0_pay3 X0 (ix2 r 0) = mean (bRow X0 r) := by
  unfold_payloads
  pointwise [mean, bRow]

theorem pay4 (X0 : Vec Ideal S512x2048 .f32) (r : Fin 512) : k0_pay4 X0 (ix2 r 0) = fac (bRow X0 r) :=
  congrArg Ideal.rsqrt (pay3 X0 r)

theorem pay5 (X0 X1 : Vec Ideal S512x2048 .f32) (d : Fin 2048) : k0_pay5 X0 X1 (ix2 0 d) = ∑ r : Fin 512, gainTerm (bRow X0 r) (bRow X1 r) d := by
  unfold_payloads
  pointwise [gainTerm, fac, mean, bRow]

theorem pay7 (X0 X1 X2 : Vec Ideal S512x2048 .f32) (X3 : Vec Ideal S1x2048 .f32) (r : Fin 512) (d : Fin 2048) :
    k0_pay7 X0 X1 X2 X3 (ix2 r d) = rowGrad (bRow X0 r) (fun d => X3 (ix2 0 d)) (bRow X1 r) (bRow X2 r) d := by
  unfold_payloads
  pointwise [rowGrad, back, fac, mean, bRow, Finset.univ_unique, Finset.sum_singleton]

set_option maxHeartbeats 4000000 in
/-- The first array's block of every point. -/
theorem out4 (c : Dev nD) (t : Fin cfg0.N) :
    (outsAt0 m c t.val t.isLt).1 = k0_pay7 (iblk m c 0 t) (iblk m c 1 t) (iblk m c 2 t) (iblk m c 3 t) := by
  by_cases h0 : t.val % 4 = 0
  · rw [outsAt0_A m c t h0 (by have : t.val < 4 := t.isLt; omega)]
    frame_open
    simp (disch := decide) only [↓ View.readCov_skip, ↓ View.readCov_cons_toLoadRect, ↓ View.readCov_fill]
    frame_out
  · rw [outsAt0_B m c t h0 (by omega)]
    frame_open
    simp (disch := decide) only [↓ View.readCov_skip, ↓ View.readCov_cons_toLoadRect, ↓ View.readCov_fill]
    frame_out

set_option maxHeartbeats 4000000 in
/-- The second array's block of every point: the same, rounded. -/
theorem out5 (c : Dev nD) (t : Fin cfg0.N) :
    (outsAt0 m c t.val t.isLt).2.1 = k0_pay1 (k0_pay8 (iblk m c 0 t) (iblk m c 1 t) (iblk m c 2 t) (iblk m c 3 t)) := by
  by_cases h0 : t.val % 4 = 0
  · rw [outsAt0_A m c t h0 (by have : t.val < 4 := t.isLt; omega)]
    frame_open
    simp (disch := decide) only [↓ View.readCov_skip, ↓ View.readCov_cons_toLoadRect, ↓ View.readCov_fill]
    frame_out
  · rw [outsAt0_B m c t h0 (by omega)]
    frame_open
    simp (disch := decide) only [↓ View.readCov_skip, ↓ View.readCov_cons_toLoadRect, ↓ View.readCov_fill]
    frame_out

/-- The gain's sums so far, as point `n` leaves them. -/
abbrev acc (c : Dev nD) (n : ℕ) (h : n < cfg0.N) : FVec Ideal S1x2048 .f32 := (outsAt0 m c n h).2.2

set_option maxHeartbeats 4000000 in
/-- The first point starts the sums. -/
theorem acc_first (c : Dev nD) (t : Fin cfg0.N) (h0 : t.val % 4 = 0) : acc m c t.val t.isLt = k0_pay5 (iblk m c 0 t) (iblk m c 1 t) := by
  unfold acc
  rw [outsAt0_A m c t h0 (by have : t.val < 4 := t.isLt; omega)]
  frame_open
  simp (disch := decide) only [↓ View.readCov_skip, ↓ View.readCov_cons_toLoadRect, ↓ View.readCov_fill]
  frame_out

set_option maxHeartbeats 4000000 in
/-- The others add to what the point before left. -/
theorem acc_next (c : Dev nD) (t : Fin cfg0.N) (h0 : ¬t.val % 4 = 0) :
    acc m c t.val t.isLt = k0_pay2 (k0_pay5 (iblk m c 0 t) (iblk m c 1 t)) (acc m c (t.val - 1) (Nat.lt_of_le_of_lt (Nat.sub_le _ _) t.isLt)) := by
  unfold acc
  rw [outsAt0_B m c t h0 (by omega)]
  frame_open
  simp (disch := decide) only [↓ View.readCov_skip, ↓ View.readCov_cons_toLoadRect, ↓ View.readCov_fill]
  frame_out

theorem pay2 (X Y : Vec Ideal S1x2048 .f32) (d : Fin 2048) : k0_pay2 X Y (ix2 0 d) = Y (ix2 0 d) + X (ix2 0 d) := by
  unfold_payloads
  pointwise []

/-- A row of a block is a row of its array. -/
theorem row0 (c : Dev nD) (t : Fin cfg0.N) (r : Fin 512) : bRow (iblk m c 0 t) r = rowOf (arg_h m c) (row (tile t) r) := funext fun d => blk0 m c t r d
theorem row1 (c : Dev nD) (t : Fin cfg0.N) (r : Fin 512) : bRow (iblk m c 1 t) r = rowOf (arg_dy m c) (row (tile t) r) := funext fun d => blk1 m c t r d
theorem row2 (c : Dev nD) (t : Fin cfg0.N) (r : Fin 512) : bRow (iblk m c 2 t) r = rowOf (arg_dres m c) (row (tile t) r) := funext fun d => blk2 m c t r d

/-- An entry of the block that a point leaves, in the arrays. -/
theorem pay7_at (c : Dev nD) (t : Fin cfg0.N) (r : Fin 512) (d : Fin 2048) :
    k0_pay7 (iblk m c 0 t) (iblk m c 1 t) (iblk m c 2 t) (iblk m c 3 t) (ix2 r d) = gradIn (arg_h m c) (arg_dy m c) (arg_dres m c) (arg_g m c) (ix2 (row (tile t) r) d) := by
  refine (pay7 _ _ _ _ r d).trans ?_
  rw [row0 m c t r, row1 m c t r, row2 m c t r, show (fun d => iblk m c 3 t (ix2 0 d)) = (fun d => arg_g m c (ix2 0 d)) from funext (blk3 m c t)]
  rfl

/-- The first array after the run. -/
theorem arr4 (c : Dev nD) : (dats m 0 c).arrAt 4 cfg0.N = gradIn (arg_h m c) (arg_dy m c) (arg_dres m c) (arg_g m c) := by
  refine (dats m 0 c).arrAt_eq_of_covers 4 _ (by decide +kernel) fun t hf y => ?_
  obtain ⟨-, -, -, -, e, -⟩ := idx t
  blk_simp
  rw [after0_4, out4 m c t]
  idx_vars y
  have e' : ((cfg0.win 4).blk t).view.emb (ix2 y0 y1) = ix2 (row (tile t) y0) y1 := by
    blk_ext [e, row, tile]
  rw [e']
  exact pay7_at m c t y0 y1

/-- The second array after the run. -/
theorem arr5 (c : Dev nD) : (dats m 0 c).arrAt 5 cfg0.N = (gradIn (arg_h m c) (arg_dy m c) (arg_dres m c) (arg_g m c) : Tok .bf16) := by
  refine (dats m 0 c).arrAt_eq_of_covers 5 _ (by decide +kernel) fun t hf y => ?_
  obtain ⟨-, -, -, -, -, e, -⟩ := idx t
  blk_simp
  rw [after0_5, out5 m c t]
  idx_vars y
  have e' : ((cfg0.win 5).blk t).view.emb (ix2 y0 y1) = ix2 (row (tile t) y0) y1 := by
    blk_ext [e, row, tile]
  rw [e']
  exact pay7_at m c t y0 y1

/-- The gain's gradient after the run. -/
theorem arr6 (c : Dev nD) : (dats m 0 c).arrAt 6 cfg0.N = gradGain (arg_h m c) (arg_dy m c) := by
  refine (dats m 0 c).arrAt_eq_of_covers 6 _ (by decide +kernel) fun t hf y => ?_
  obtain ⟨-, -, -, -, -, -, e⟩ := idx t
  have hr : t.val % 4 = 4 - 1 := (flush0_6 t).mp hf
  blk_simp
  rw [after0_6]
  idx_vars y
  obtain rfl : y0 = 0 := Fin.ext (by omega)
  have e' : ((cfg0.win 6).blk t).view.emb (ix2 0 y1) = ix2 0 y1 := by
    blk_ext [e]
  rw [e']
  have key := eq_sum_fin_of_reset_step_apply_of_flush (N := cfg0.N) (M := EReal) (ι := Fin 2048) (fun n h p => acc m c n h (ix2 0 p)) 4 (fun _ => 0)
    (fun t p => k0_pay5 (iblk m c 0 t) (iblk m c 1 t) (ix2 0 p)) (fun t h p => (congrFun (acc_first m c t h) (ix2 0 p)).trans (zero_add _).symm)
    (fun t h p => (congrFun (acc_next m c t h) (ix2 0 p)).trans (pay2 _ _ p)) t hr y1
  refine key.trans ((zero_add _).trans ((Finset.sum_congr rfl fun s _ => ?_).trans (sum_row _).symm))
  have ht : t.val < 4 := t.isLt
  have hs : s.val < 4 := s.isLt
  have hu : 4 * (t.val / 4) + s.val < cfg0.N := run_point_lt_of_flush t hr s
  have es : tile ⟨4 * (t.val / 4) + s.val, hu⟩ = s := Fin.ext (by simp only [tile]; omega)
  refine (pay5 _ _ y1).trans (Finset.sum_congr rfl fun f _ => ?_)
  rw [row0 m c _ f, row1 m c _ f, es]
  rfl

/-- The run: the arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = gradIn (arg_h m c) (arg_dy m c) (arg_dres m c) (arg_g m c)
      ∧ r.2.mem ((c.tc : Thread nD τ).loc main_v0_1) = (gradIn (arg_h m c) (arg_dy m c) (arg_dres m c) (arg_g m c) : Tok .bf16)
      ∧ r.2.mem ((c.tc : Thread nD τ).loc main_v0_2) = gradGain (arg_h m c) (arg_dy m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2.1.trans (arr6 m c), (h c).2.2.2⟩) (Value.run_blocks m ρ)

end Cert.Kernel11Ideal.Points
end
-- ==== Proof.Norm11.lean ====
module

public import proofs.«01_k».proof.Defs
public import proofs.«01_k».proof.Proof.K11Value
public import proofs.«01_k».proof.Proof.Gen.Reference11Ideal.Run
public import Idealize.ShloMosaic.Lib.Pipeline.ValueKit

@[expose] public section

/-! The norm's gradients are the same over the reals. -/

set_option maxRecDepth 16384
noncomputable section
namespace Cert.Norm11
open Cert.Norm Idealize.ShloMosaic Idealize.SL Idealize.SL.Sem

section
open Cert.Reference11Ideal Cert.Reference11Ideal.Facts₀ Cert.Reference11Ideal.Facts

variable (m : (ℓ : Loc nD τ sig) → Buf (Elt Ideal) ℓ) (c : Dev nD)

/-- The arguments, by name. -/
abbrev arg_h : Tok .f32 := m ((c.tc : Thread nD τ).loc main_arg0)
abbrev arg_g : Gain := m ((c.tc : Thread nD τ).loc main_arg1)
abbrev arg_dy : Tok .f32 := m ((c.tc : Thread nD τ).loc main_arg2)
abbrev arg_dres : Tok .f32 := m ((c.tc : Thread nD τ).loc main_arg3)

set_option maxHeartbeats 4000000 in
/-- The reference's gradient of the input. -/
theorem value_h : Value.res_main_v37 m c = gradIn (arg_h m c) (arg_dy m c) (arg_dres m c) (arg_g m c) := by
  unfold Value.res_main_v37
  change _ = gradIn (m ((c.tc : Thread nD τ).loc main_arg0)) (m ((c.tc : Thread nD τ).loc main_arg2)) (m ((c.tc : Thread nD τ).loc main_arg3)) (m ((c.tc : Thread nD τ).loc main_arg1))
  generalize m ((c.tc : Thread nD τ).loc main_arg0) = h
  generalize m ((c.tc : Thread nD τ).loc main_arg1) = g
  generalize m ((c.tc : Thread nD τ).loc main_arg2) = dy
  generalize m ((c.tc : Thread nD τ).loc main_arg3) = r
  replace h : Tok .f32 := h
  replace g : Gain := g
  replace dy : Tok .f32 := dy
  replace r : Tok .f32 := r
  funext i
  idx_vars i
  pointwise [gradIn, rowGrad, back, fac, mean, rowOf, Finset.univ_unique, Finset.sum_singleton, add_comm]

/-- The same, rounded. -/
theorem value_hb : Value.res_main_v38 m c = (gradIn (arg_h m c) (arg_dy m c) (arg_dres m c) (arg_g m c) : Tok .bf16) :=
  (show Value.res_main_v38 m c = (Value.res_main_v37 m c : Tok .f32) from rfl).trans (value_h m c)

/-- The reference's gradient of the gain. -/
theorem value_g (h dy : Tok .f32) :
    broadcastInDim S1x2048 ![1] bcast_S2048_S1x2048_1 (Host.reduceAdd (shapeCast _ (Host.reduceAdd (mulf (mulf h (broadcastInDim S2048x2048 ![0, 1] bcast_S2048x1_S2048x2048_0_1 (Host.rsqrt (addf (Host.divf (broadcastInDim S2048x1 ![0] bcast_S2048_S2048x1_0 (Host.reduceAdd (mulf h h) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) dy) (constant S_ .f32 0x00000000#32) reducesTo_S2048x2048_S2048_d0 h_S_) shapeCasts_S2048_S1x2048) (constant S_ .f32 0x00000000#32) reducesTo_S1x2048_S2048_d0 h_S_) = gradGain h dy := by
  funext i
  idx_vars i
  obtain rfl : i0 = 0 := Fin.ext (by omega)
  pointwise [gradGain, gainTerm, fac, mean, rowOf, Finset.univ_unique, Finset.sum_singleton]

end

/-- The reference program leaves its arguments as they were and every counter at zero. -/
theorem frame : Cert.quiescent_Reference11Ideal := fun m ρ _ =>
  (θ_run (Cert.Reference11Ideal.defs (F := Ideal)) _ _).mono (fun r h => ⟨fun c => (h c).2.2.2,
      Idealize.ShloMosaic.sem_eq_zero_of_no_sems (by decide) r.2⟩)
    (Cert.Reference11Ideal.Value.run (F := Ideal) m ρ)

/-- The norm's gradients are the same over the reals. -/
theorem algebraic : Cert.algebraic_Kernel11Ideal_Reference11Ideal := by
  intro m ρ m' ρ' _ hagree
  refine ⟨fun c => gradIn (Cert.Kernel11Ideal.Points.arg_h m c) (Cert.Kernel11Ideal.Points.arg_dy m c) (Cert.Kernel11Ideal.Points.arg_dres m c) (Cert.Kernel11Ideal.Points.arg_g m c),
    fun c => (gradIn (Cert.Kernel11Ideal.Points.arg_h m c) (Cert.Kernel11Ideal.Points.arg_dy m c) (Cert.Kernel11Ideal.Points.arg_dres m c) (Cert.Kernel11Ideal.Points.arg_g m c) : Tok .bf16),
    fun c => gradGain (Cert.Kernel11Ideal.Points.arg_h m c) (Cert.Kernel11Ideal.Points.arg_dy m c),
    Cert.Kernel11Ideal.Points.run m ρ, (θ_run (Cert.Reference11Ideal.defs (F := Ideal)) _ _).mono (fun r h c => ⟨(h c).1.trans ?_, (h c).2.1.trans ?_, (h c).2.2.1.trans ?_, (h c).2.2.2⟩)
      (Cert.Reference11Ideal.Value.run (F := Ideal) m' ρ')⟩
  · refine (value_h m' c).trans ?_
    simp only [arg_h, arg_dy, arg_dres, arg_g, (hagree c).1, (hagree c).2.1, (hagree c).2.2.1, (hagree c).2.2.2]
  · refine (value_hb m' c).trans ?_
    simp only [arg_h, arg_dy, arg_dres, arg_g, (hagree c).1, (hagree c).2.1, (hagree c).2.2.1, (hagree c).2.2.2]
  · rw [(hagree c).1, (hagree c).2.2.1]
    exact value_g _ _

end Cert.Norm11
end
-- ==== Proof.Adam.lean ====
module

public import Idealize.ShloMosaic.Lib.Pointwise
public import Idealize.ShloMosaic.Lib.Pipeline.ValueKit

@[expose] public section

/-! The optimiser's step, entry by entry. -/

noncomputable section
namespace Cert.Adam
open Idealize.ShloMosaic

/-- An array of layers, rows and columns. -/
abbrev Arr (l r c : ℕ) := FVec Ideal ⟨3, ![l, r, c]⟩ .f32

/-- The number that a literal is. -/
abbrev lit (b : BitVec 32) : EReal := Ideal.ofBits .f32 b

/-- The new first moment: 0.9 of the old and 0.1 of the gradient. -/
def newM (g m : EReal) : EReal := lit 0x3F666666#32 * m + lit 0x3DCCCCCD#32 * g
/-- The new second moment: 0.999 of the old and 0.001 of the gradient's square. -/
def newV (g v : EReal) : EReal := lit 0x3F7FBE77#32 * v + lit 0x3A83126F#32 * (g * g)
/-- The weight's change, from the corrected moments and the weight. -/
def delta (w g m v : EReal) : EReal :=
  lit 0xBA83126F#32 * (Ideal.div (Ideal.div (newM g m) (lit 0x3F26BD02#32))
    (Ideal.sqrt (Ideal.div (newV g v) (lit 0x3C231ACC#32)) + lit 0x322BCC77#32) + lit 0x3C23D70A#32 * w)

variable {l r c : ℕ}

/-- The three new arrays. -/
def deltas (w g m v : Arr l r c) : Arr l r c := fun i => delta (w i) (g i) (m i) (v i)
def newMs (g m : Arr l r c) : Arr l r c := fun i => newM (g i) (m i)
def newVs (g v : Arr l r c) : Arr l r c := fun i => newV (g i) (v i)

end Cert.Adam
end
-- ==== Proof.K12Value.lean ====
module

public import proofs.«01_k».proof.Proof.Gen.Kernel12Ideal.Value
public import Idealize.ShloMosaic.Lib.Pipeline.ValueKit
public import proofs.«01_k».proof.Proof.Adam

@[expose] public section

/-! What the optimiser's call leaves for the feed-forward layers' first weights. -/

set_option maxRecDepth 16384
noncomputable section
namespace Cert.Kernel12Ideal.Points
open Idealize.ShloMosaic Idealize.SL Idealize.SL.Sem Idealize.ShloMosaic.Pipeline
open Cert.Kernel12Ideal Cert.Kernel12Ideal.Gen
open Cert.Adam

variable (m : (ℓ : Loc nD τ sig) → Buf (Elt Ideal) ℓ)

/-- Which block of each array point `t` reads and writes. -/
theorem idx : ∀ t : Fin cfg0.N, (win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]) :=
  (by decide +kernel : ∀ t : Fin grid0.N, _)

/-- The arguments, by name. -/
abbrev arg_w (c : Dev nD) : Arr 2 2048 1408 := m ((c.tc : Thread nD τ).loc main_arg0)
abbrev arg_g (c : Dev nD) : Arr 2 2048 1408 := m ((c.tc : Thread nD τ).loc main_arg1)
abbrev arg_m (c : Dev nD) : Arr 2 2048 1408 := m ((c.tc : Thread nD τ).loc main_arg2)
abbrev arg_v (c : Dev nD) : Arr 2 2048 1408 := m ((c.tc : Thread nD τ).loc main_arg3)

/-- The entry of the arrays that the entry `(a, b)` of a block of point `t` is. -/
abbrev at_ (t : Fin cfg0.N) (a : Fin 256) (b : Fin 1408) : (⟨3, ![2, 2048, 1408]⟩ : Shape).Idx :=
  ix3 (⟨t.val / 8, by have : t.val < 16 := t.isLt; omega⟩ : Fin 2) (⟨256 * (t.val % 8) + a.val, by omega⟩ : Fin 2048) b

theorem blk0 (c : Dev nD) (t : Fin cfg0.N) (a : Fin 256) (b : Fin 1408) : iblk m c 0 t (ix3 0 a b) = arg_w m c (at_ t a b) := by
  obtain ⟨e, -⟩ := idx t
  blk_ext [iblk, V, e, at_]

theorem blk1 (c : Dev nD) (t : Fin cfg0.N) (a : Fin 256) (b : Fin 1408) : iblk m c 1 t (ix3 0 a b) = arg_g m c (at_ t a b) := by
  obtain ⟨-, e, -⟩ := idx t
  blk_ext [iblk, V, e, at_]

theorem blk2 (c : Dev nD) (t : Fin cfg0.N) (a : Fin 256) (b : Fin 1408) : iblk m c 2 t (ix3 0 a b) = arg_m m c (at_ t a b) := by
  obtain ⟨-, -, e, -⟩ := idx t
  blk_ext [iblk, V, e, at_]

theorem blk3 (c : Dev nD) (t : Fin cfg0.N) (a : Fin 256) (b : Fin 1408) : iblk m c 3 t (ix3 0 a b) = arg_v m c (at_ t a b) := by
  obtain ⟨-, -, -, e, -⟩ := idx t
  blk_ext [iblk, V, e, at_]

theorem out4 (X0 X1 X2 X3 : Vec Ideal S1x256x1408 .f32) (a : Fin 256) (b : Fin 1408) :
    out0_4 X0 X1 X2 X3 (ix3 0 a b) = delta (X0 (ix3 0 a b)) (X1 (ix3 0 a b)) (X2 (ix3 0 a b)) (X3 (ix3 0 a b)) := by
  rw [out0_4]
  frame_out
  unfold_payloads
  pointwise [delta, newM, newV]

theorem out5 (X0 X1 X2 X3 : Vec Ideal S1x256x1408 .f32) (a : Fin 256) (b : Fin 1408) :
    out0_5 X0 X1 X2 X3 (ix3 0 a b) = newM (X1 (ix3 0 a b)) (X2 (ix3 0 a b)) := by
  rw [out0_5]
  frame_out
  unfold_payloads
  pointwise [newM]

theorem out6 (X0 X1 X2 X3 : Vec Ideal S1x256x1408 .f32) (a : Fin 256) (b : Fin 1408) :
    out0_6 X0 X1 X2 X3 (ix3 0 a b) = newV (X1 (ix3 0 a b)) (X3 (ix3 0 a b)) := by
  rw [out0_6]
  frame_out
  unfold_payloads
  pointwise [newV]

theorem out7 (X0 X1 X2 X3 : Vec Ideal S1x256x1408 .f32) (a : Fin 256) (b : Fin 1408) :
    out0_7 X0 X1 X2 X3 (ix3 0 a b) = X1 (ix3 0 a b) := by
  rw [out0_7]
  frame_out
  unfold_payloads
  pointwise []

theorem arr4 (c : Dev nD) : (dats m 0 c).arrAt 4 cfg0.N = deltas (arg_w m c) (arg_g m c) (arg_m m c) (arg_v m c) := by
  refine (dats m 0 c).arrAt_eq_of_covers 4 _ (by decide +kernel) fun t hf y => ?_
  obtain ⟨-, -, -, -, e, -⟩ := idx t
  blk_simp
  rw [after0_4]
  idx_vars y
  obtain rfl : y0 = 0 := Fin.ext (by omega)
  have e' : ((cfg0.win 4).blk t).view.emb (ix3 0 y1 y2) = at_ t y1 y2 := by
    blk_ext [e, at_]
  rw [e']
  exact (out4 _ _ _ _ y1 y2).trans (by rw [blk0 m c t y1 y2, blk1 m c t y1 y2, blk2 m c t y1 y2, blk3 m c t y1 y2]; rfl)

theorem arr5 (c : Dev nD) : (dats m 0 c).arrAt 5 cfg0.N = newMs (arg_g m c) (arg_m m c) := by
  refine (dats m 0 c).arrAt_eq_of_covers 5 _ (by decide +kernel) fun t hf y => ?_
  obtain ⟨-, -, -, -, -, e, -⟩ := idx t
  blk_simp
  rw [after0_5]
  idx_vars y
  obtain rfl : y0 = 0 := Fin.ext (by omega)
  have e' : ((cfg0.win 5).blk t).view.emb (ix3 0 y1 y2) = at_ t y1 y2 := by
    blk_ext [e, at_]
  rw [e']
  exact (out5 _ _ _ _ y1 y2).trans (by rw [blk1 m c t y1 y2, blk2 m c t y1 y2]; rfl)

theorem arr6 (c : Dev nD) : (dats m 0 c).arrAt 6 cfg0.N = newVs (arg_g m c) (arg_v m c) := by
  refine (dats m 0 c).arrAt_eq_of_covers 6 _ (by decide +kernel) fun t hf y => ?_
  obtain ⟨-, -, -, -, -, -, e, -⟩ := idx t
  blk_simp
  rw [after0_6]
  idx_vars y
  obtain rfl : y0 = 0 := Fin.ext (by omega)
  have e' : ((cfg0.win 6).blk t).view.emb (ix3 0 y1 y2) = at_ t y1 y2 := by
    blk_ext [e, at_]
  rw [e']
  exact (out6 _ _ _ _ y1 y2).trans (by rw [blk1 m c t y1 y2, blk3 m c t y1 y2]; rfl)

theorem arr7 (c : Dev nD) : (dats m 0 c).arrAt 7 cfg0.N = arg_g m c := by
  refine (dats m 0 c).arrAt_eq_of_covers 7 _ (by decide +kernel) fun t hf y => ?_
  obtain ⟨-, -, -, -, -, -, -, e⟩ := idx t
  blk_simp
  rw [after0_7]
  idx_vars y
  obtain rfl : y0 = 0 := Fin.ext (by omega)
  have e' : ((cfg0.win 7).blk t).view.emb (ix3 0 y1 y2) = at_ t y1 y2 := by
    blk_ext [e, at_]
  rw [e']
  exact (out7 _ _ _ _ y1 y2).trans (by rw [blk1 m c t y1 y2])

/-- The run: the four arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (arg_w m c) (arg_g m c) (arg_m m c) (arg_v m c)
      ∧ r.2.mem ((c.tc : Thread nD τ).loc main_v0_1) = newMs (arg_g m c) (arg_m m c)
      ∧ r.2.mem ((c.tc : Thread nD τ).loc main_v0_2) = newVs (arg_g m c) (arg_v m c)
      ∧ r.2.mem ((c.tc : Thread nD τ).loc main_v0_3) = arg_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩) (Value.run_blocks m ρ)

end Cert.Kernel12Ideal.Points
end
-- ==== Proof.Adam12.lean ====
module

public import proofs.«01_k».proof.Defs
public import proofs.«01_k».proof.Proof.K12Value
public import proofs.«01_k».proof.Proof.Gen.Reference12Ideal.Run
public import Idealize.ShloMosaic.Lib.Pipeline.ValueKit

@[expose] public section

/-! The optimiser's step of the feed-forward layers' first weights is the same over the reals. -/

set_option maxRecDepth 16384
noncomputable section
namespace Cert.Adam12
open Cert.Adam Idealize.ShloMosaic Idealize.SL Idealize.SL.Sem

section
open Cert.Reference12Ideal Cert.Reference12Ideal.Facts₀ Cert.Reference12Ideal.Facts

/-- The reference's change of the weights. -/
theorem value_delta (w g m v : Arr 2 2048 1408) :
    mulf (broadcastInDim S2x2048x1408 ![] bcast_S_S2x2048x1408 (constant S_ .f32 0xBA83126F#32)) (addf (Host.divf (Host.divf (addf (mulf (broadcastInDim S2x2048x1408 ![] bcast_S_S2x2048x1408 (constant S_ .f32 0x3F666666#32)) m) (mulf (broadcastInDim S2x2048x1408 ![] bcast_S_S2x2048x1408 (constant S_ .f32 0x3DCCCCCD#32)) g)) (broadcastInDim S2x2048x1408 ![] bcast_S_S2x2048x1408 (constant S_ .f32 0x3F26BD02#32))) (addf (Host.sqrt (Host.divf (addf (mulf (broadcastInDim S2x2048x1408 ![] bcast_S_S2x2048x1408 (constant S_ .f32 0x3F7FBE77#32)) v) (mulf (broadcastInDim S2x2048x1408 ![] bcast_S_S2x2048x1408 (constant S_ .f32 0x3A83126F#32)) (mulf g g))) (broadcastInDim S2x2048x1408 ![] bcast_S_S2x2048x1408 (constant S_ .f32 0x3C231ACC#32)))) (broadcastInDim S2x2048x1408 ![] bcast_S_S2x2048x1408 (constant S_ .f32 0x322BCC77#32)))) (mulf (broadcastInDim S2x2048x1408 ![] bcast_S_S2x2048x1408 (constant S_ .f32 0x3C23D70A#32)) w)) = deltas w g m v := by
  funext i
  idx_vars i
  pointwise [deltas, delta, newM, newV]

/-- The reference's new first moments. -/
theorem value_m (g m : Arr 2 2048 1408) :
    addf (mulf (broadcastInDim S2x2048x1408 ![] bcast_S_S2x2048x1408 (constant S_ .f32 0x3F666666#32)) m) (mulf (broadcastInDim S2x2048x1408 ![] bcast_S_S2x2048x1408 (constant S_ .f32 0x3DCCCCCD#32)) g) = newMs g m := by
  funext i
  idx_vars i
  pointwise [newMs, newM]

/-- The reference's new second moments. -/
theorem value_v (g v : Arr 2 2048 1408) :
    addf (mulf (broadcastInDim S2x2048x1408 ![] bcast_S_S2x2048x1408 (constant S_ .f32 0x3F7FBE77#32)) v) (mulf (broadcastInDim S2x2048x1408 ![] bcast_S_S2x2048x1408 (constant S_ .f32 0x3A83126F#32)) (mulf g g)) = newVs g v := by
  funext i
  idx_vars i
  pointwise [newVs, newV]

end

/-- The reference program leaves its arguments as they were and every counter at zero. -/
theorem frame : Cert.quiescent_Reference12Ideal := fun m ρ _ =>
  (θ_run (Cert.Reference12Ideal.defs (F := Ideal)) _ _).mono (fun r h => ⟨fun c => (h c).2.2.2.2,
      Idealize.ShloMosaic.sem_eq_zero_of_no_sems (by decide) r.2⟩)
    (Cert.Reference12Ideal.Value.run (F := Ideal) m ρ)

/-- The optimiser's step of the feed-forward layers' first weights is the same over the reals. -/
theorem algebraic : Cert.algebraic_Kernel12Ideal_Reference12Ideal := by
  intro m ρ m' ρ' _ hagree
  refine ⟨fun c => deltas (Cert.Kernel12Ideal.Points.arg_w m c) (Cert.Kernel12Ideal.Points.arg_g m c) (Cert.Kernel12Ideal.Points.arg_m m c) (Cert.Kernel12Ideal.Points.arg_v m c), fun c => newMs (Cert.Kernel12Ideal.Points.arg_g m c) (Cert.Kernel12Ideal.Points.arg_m m c), fun c => newVs (Cert.Kernel12Ideal.Points.arg_g m c) (Cert.Kernel12Ideal.Points.arg_v m c), fun c => Cert.Kernel12Ideal.Points.arg_g m c,
    Cert.Kernel12Ideal.Points.run m ρ, (θ_run (Cert.Reference12Ideal.defs (F := Ideal)) _ _).mono (fun r h c => ⟨(h c).1.trans ?_, (h c).2.1.trans ?_, (h c).2.2.1.trans ?_, (h c).2.2.2.1.trans ?_, (h c).2.2.2.2⟩)
      (Cert.Reference12Ideal.Value.run (F := Ideal) m' ρ')⟩
  · rw [(hagree c).1, (hagree c).2.1, (hagree c).2.2.1, (hagree c).2.2.2]
    exact value_delta _ _ _ _
  · rw [(hagree c).2.1, (hagree c).2.2.1]
    exact value_m _ _
  · rw [(hagree c).2.1, (hagree c).2.2.2]
    exact value_v _ _
  · exact (hagree c).2.1

end Cert.Adam12
end
-- ==== Proof.K13Value.lean ====
module

public import proofs.«01_k».proof.Proof.Gen.Kernel13Ideal.Value
public import Idealize.ShloMosaic.Lib.Pipeline.ValueKit
public import proofs.«01_k».proof.Proof.Adam

@[expose] public section

/-! What the optimiser's call leaves for the feed-forward layers' last weights. -/

set_option maxRecDepth 16384
noncomputable section
namespace Cert.Kernel13Ideal.Points
open Idealize.ShloMosaic Idealize.SL Idealize.SL.Sem Idealize.ShloMosaic.Pipeline
open Cert.Kernel13Ideal Cert.Kernel13Ideal.Gen
open Cert.Adam

variable (m : (ℓ : Loc nD τ sig) → Buf (Elt Ideal) ℓ)

/-- Which block of each array point `t` reads and writes. -/
theorem idx : ∀ t : Fin cfg0.N, (win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]) :=
  (by decide +kernel : ∀ t : Fin grid0.N, _)

/-- The arguments, by name. -/
abbrev arg_w (c : Dev nD) : Arr 2 1408 2048 := m ((c.tc : Thread nD τ).loc main_arg0)
abbrev arg_g (c : Dev nD) : Arr 2 1408 2048 := m ((c.tc : Thread nD τ).loc main_arg1)
abbrev arg_m (c : Dev nD) : Arr 2 1408 2048 := m ((c.tc : Thread nD τ).loc main_arg2)
abbrev arg_v (c : Dev nD) : Arr 2 1408 2048 := m ((c.tc : Thread nD τ).loc main_arg3)

/-- The entry of the arrays that the entry `(a, b)` of a block of point `t` is. -/
abbrev at_ (t : Fin cfg0.N) (a : Fin 176) (b : Fin 2048) : (⟨3, ![2, 1408, 2048]⟩ : Shape).Idx :=
  ix3 (⟨t.val / 8, by have : t.val < 16 := t.isLt; omega⟩ : Fin 2) (⟨176 * (t.val % 8) + a.val, by omega⟩ : Fin 1408) b

theorem blk0 (c : Dev nD) (t : Fin cfg0.N) (a : Fin 176) (b : Fin 2048) : iblk m c 0 t (ix3 0 a b) = arg_w m c (at_ t a b) := by
  obtain ⟨e, -⟩ := idx t
  blk_ext [iblk, V, e, at_]

theorem blk1 (c : Dev nD) (t : Fin cfg0.N) (a : Fin 176) (b : Fin 2048) : iblk m c 1 t (ix3 0 a b) = arg_g m c (at_ t a b) := by
  obtain ⟨-, e, -⟩ := idx t
  blk_ext [iblk, V, e, at_]

theorem blk2 (c : Dev nD) (t : Fin cfg0.N) (a : Fin 176) (b : Fin 2048) : iblk m c 2 t (ix3 0 a b) = arg_m m c (at_ t a b) := by
  obtain ⟨-, -, e, -⟩ := idx t
  blk_ext [iblk, V, e, at_]

theorem blk3 (c : Dev nD) (t : Fin cfg0.N) (a : Fin 176) (b : Fin 2048) : iblk m c 3 t (ix3 0 a b) = arg_v m c (at_ t a b) := by
  obtain ⟨-, -, -, e, -⟩ := idx t
  blk_ext [iblk, V, e, at_]

theorem out4 (X0 X1 X2 X3 : Vec Ideal S1x176x2048 .f32) (a : Fin 176) (b : Fin 2048) :
    out0_4 X0 X1 X2 X3 (ix3 0 a b) = delta (X0 (ix3 0 a b)) (X1 (ix3 0 a b)) (X2 (ix3 0 a b)) (X3 (ix3 0 a b)) := by
  rw [out0_4]
  frame_out
  unfold_payloads
  pointwise [delta, newM, newV]

theorem out5 (X0 X1 X2 X3 : Vec Ideal S1x176x2048 .f32) (a : Fin 176) (b : Fin 2048) :
    out0_5 X0 X1 X2 X3 (ix3 0 a b) = newM (X1 (ix3 0 a b)) (X2 (ix3 0 a b)) := by
  rw [out0_5]
  frame_out
  unfold_payloads
  pointwise [newM]

theorem out6 (X0 X1 X2 X3 : Vec Ideal S1x176x2048 .f32) (a : Fin 176) (b : Fin 2048) :
    out0_6 X0 X1 X2 X3 (ix3 0 a b) = newV (X1 (ix3 0 a b)) (X3 (ix3 0 a b)) := by
  rw [out0_6]
  frame_out
  unfold_payloads
  pointwise [newV]

theorem out7 (X0 X1 X2 X3 : Vec Ideal S1x176x2048 .f32) (a : Fin 176) (b : Fin 2048) :
    out0_7 X0 X1 X2 X3 (ix3 0 a b) = X1 (ix3 0 a b) := by
  rw [out0_7]
  frame_out
  unfold_payloads
  pointwise []

theorem arr4 (c : Dev nD) : (dats m 0 c).arrAt 4 cfg0.N = deltas (arg_w m c) (arg_g m c) (arg_m m c) (arg_v m c) := by
  refine (dats m 0 c).arrAt_eq_of_covers 4 _ (by decide +kernel) fun t hf y => ?_
  obtain ⟨-, -, -, -, e, -⟩ := idx t
  blk_simp
  rw [after0_4]
  idx_vars y
  obtain rfl : y0 = 0 := Fin.ext (by omega)
  have e' : ((cfg0.win 4).blk t).view.emb (ix3 0 y1 y2) = at_ t y1 y2 := by
    blk_ext [e, at_]
  rw [e']
  exact (out4 _ _ _ _ y1 y2).trans (by rw [blk0 m c t y1 y2, blk1 m c t y1 y2, blk2 m c t y1 y2, blk3 m c t y1 y2]; rfl)

theorem arr5 (c : Dev nD) : (dats m 0 c).arrAt 5 cfg0.N = newMs (arg_g m c) (arg_m m c) := by
  refine (dats m 0 c).arrAt_eq_of_covers 5 _ (by decide +kernel) fun t hf y => ?_
  obtain ⟨-, -, -, -, -, e, -⟩ := idx t
  blk_simp
  rw [after0_5]
  idx_vars y
  obtain rfl : y0 = 0 := Fin.ext (by omega)
  have e' : ((cfg0.win 5).blk t).view.emb (ix3 0 y1 y2) = at_ t y1 y2 := by
    blk_ext [e, at_]
  rw [e']
  exact (out5 _ _ _ _ y1 y2).trans (by rw [blk1 m c t y1 y2, blk2 m c t y1 y2]; rfl)

theorem arr6 (c : Dev nD) : (dats m 0 c).arrAt 6 cfg0.N = newVs (arg_g m c) (arg_v m c) := by
  refine (dats m 0 c).arrAt_eq_of_covers 6 _ (by decide +kernel) fun t hf y => ?_
  obtain ⟨-, -, -, -, -, -, e, -⟩ := idx t
  blk_simp
  rw [after0_6]
  idx_vars y
  obtain rfl : y0 = 0 := Fin.ext (by omega)
  have e' : ((cfg0.win 6).blk t).view.emb (ix3 0 y1 y2) = at_ t y1 y2 := by
    blk_ext [e, at_]
  rw [e']
  exact (out6 _ _ _ _ y1 y2).trans (by rw [blk1 m c t y1 y2, blk3 m c t y1 y2]; rfl)

theorem arr7 (c : Dev nD) : (dats m 0 c).arrAt 7 cfg0.N = arg_g m c := by
  refine (dats m 0 c).arrAt_eq_of_covers 7 _ (by decide +kernel) fun t hf y => ?_
  obtain ⟨-, -, -, -, -, -, -, e⟩ := idx t
  blk_simp
  rw [after0_7]
  idx_vars y
  obtain rfl : y0 = 0 := Fin.ext (by omega)
  have e' : ((cfg0.win 7).blk t).view.emb (ix3 0 y1 y2) = at_ t y1 y2 := by
    blk_ext [e, at_]
  rw [e']
  exact (out7 _ _ _ _ y1 y2).trans (by rw [blk1 m c t y1 y2])

/-- The run: the four arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (arg_w m c) (arg_g m c) (arg_m m c) (arg_v m c)
      ∧ r.2.mem ((c.tc : Thread nD τ).loc main_v0_1) = newMs (arg_g m c) (arg_m m c)
      ∧ r.2.mem ((c.tc : Thread nD τ).loc main_v0_2) = newVs (arg_g m c) (arg_v m c)
      ∧ r.2.mem ((c.tc : Thread nD τ).loc main_v0_3) = arg_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩) (Value.run_blocks m ρ)

end Cert.Kernel13Ideal.Points
end
-- ==== Proof.Adam13.lean ====
module

public import proofs.«01_k».proof.Defs
public import proofs.«01_k».proof.Proof.K13Value
public import proofs.«01_k».proof.Proof.Gen.Reference13Ideal.Run
public import Idealize.ShloMosaic.Lib.Pipeline.ValueKit

@[expose] public section

/-! The optimiser's step of the feed-forward layers' last weights is the same over the reals. -/

set_option maxRecDepth 16384
noncomputable section
namespace Cert.Adam13
open Cert.Adam Idealize.ShloMosaic Idealize.SL Idealize.SL.Sem

section
open Cert.Reference13Ideal Cert.Reference13Ideal.Facts₀ Cert.Reference13Ideal.Facts

/-- The reference's change of the weights. -/
theorem value_delta (w g m v : Arr 2 1408 2048) :
    mulf (broadcastInDim S2x1408x2048 ![] bcast_S_S2x1408x2048 (constant S_ .f32 0xBA83126F#32)) (addf (Host.divf (Host.divf (addf (mulf (broadcastInDim S2x1408x2048 ![] bcast_S_S2x1408x2048 (constant S_ .f32 0x3F666666#32)) m) (mulf (broadcastInDim S2x1408x2048 ![] bcast_S_S2x1408x2048 (constant S_ .f32 0x3DCCCCCD#32)) g)) (broadcastInDim S2x1408x2048 ![] bcast_S_S2x1408x2048 (constant S_ .f32 0x3F26BD02#32))) (addf (Host.sqrt (Host.divf (addf (mulf (broadcastInDim S2x1408x2048 ![] bcast_S_S2x1408x2048 (constant S_ .f32 0x3F7FBE77#32)) v) (mulf (broadcastInDim S2x1408x2048 ![] bcast_S_S2x1408x2048 (constant S_ .f32 0x3A83126F#32)) (mulf g g))) (broadcastInDim S2x1408x2048 ![] bcast_S_S2x1408x2048 (constant S_ .f32 0x3C231ACC#32)))) (broadcastInDim S2x1408x2048 ![] bcast_S_S2x1408x2048 (constant S_ .f32 0x322BCC77#32)))) (mulf (broadcastInDim S2x1408x2048 ![] bcast_S_S2x1408x2048 (constant S_ .f32 0x3C23D70A#32)) w)) = deltas w g m v := by
  funext i
  idx_vars i
  pointwise [deltas, delta, newM, newV]

/-- The reference's new first moments. -/
theorem value_m (g m : Arr 2 1408 2048) :
    addf (mulf (broadcastInDim S2x1408x2048 ![] bcast_S_S2x1408x2048 (constant S_ .f32 0x3F666666#32)) m) (mulf (broadcastInDim S2x1408x2048 ![] bcast_S_S2x1408x2048 (constant S_ .f32 0x3DCCCCCD#32)) g) = newMs g m := by
  funext i
  idx_vars i
  pointwise [newMs, newM]

/-- The reference's new second moments. -/
theorem value_v (g v : Arr 2 1408 2048) :
    addf (mulf (broadcastInDim S2x1408x2048 ![] bcast_S_S2x1408x2048 (constant S_ .f32 0x3F7FBE77#32)) v) (mulf (broadcastInDim S2x1408x2048 ![] bcast_S_S2x1408x2048 (constant S_ .f32 0x3A83126F#32)) (mulf g g)) = newVs g v := by
  funext i
  idx_vars i
  pointwise [newVs, newV]

end

/-- The reference program leaves its arguments as they were and every counter at zero. -/
theorem frame : Cert.quiescent_Reference13Ideal := fun m ρ _ =>
  (θ_run (Cert.Reference13Ideal.defs (F := Ideal)) _ _).mono (fun r h => ⟨fun c => (h c).2.2.2.2,
      Idealize.ShloMosaic.sem_eq_zero_of_no_sems (by decide) r.2⟩)
    (Cert.Reference13Ideal.Value.run (F := Ideal) m ρ)

/-- The optimiser's step of the feed-forward layers' last weights is the same over the reals. -/
theorem algebraic : Cert.algebraic_Kernel13Ideal_Reference13Ideal := by
  intro m ρ m' ρ' _ hagree
  refine ⟨fun c => deltas (Cert.Kernel13Ideal.Points.arg_w m c) (Cert.Kernel13Ideal.Points.arg_g m c) (Cert.Kernel13Ideal.Points.arg_m m c) (Cert.Kernel13Ideal.Points.arg_v m c), fun c => newMs (Cert.Kernel13Ideal.Points.arg_g m c) (Cert.Kernel13Ideal.Points.arg_m m c), fun c => newVs (Cert.Kernel13Ideal.Points.arg_g m c) (Cert.Kernel13Ideal.Points.arg_v m c), fun c => Cert.Kernel13Ideal.Points.arg_g m c,
    Cert.Kernel13Ideal.Points.run m ρ, (θ_run (Cert.Reference13Ideal.defs (F := Ideal)) _ _).mono (fun r h c => ⟨(h c).1.trans ?_, (h c).2.1.trans ?_, (h c).2.2.1.trans ?_, (h c).2.2.2.1.trans ?_, (h c).2.2.2.2⟩)
      (Cert.Reference13Ideal.Value.run (F := Ideal) m' ρ')⟩
  · rw [(hagree c).1, (hagree c).2.1, (hagree c).2.2.1, (hagree c).2.2.2]
    exact value_delta _ _ _ _
  · rw [(hagree c).2.1, (hagree c).2.2.1]
    exact value_m _ _
  · rw [(hagree c).2.1, (hagree c).2.2.2]
    exact value_v _ _
  · exact (hagree c).2.1

end Cert.Adam13
end
-- ==== Proof.K14Value.lean ====
module

public import proofs.«01_k».proof.Proof.Gen.Kernel14Ideal.Value
public import Idealize.ShloMosaic.Lib.Pipeline.ValueKit
public import proofs.«01_k».proof.Proof.Adam

@[expose] public section

/-! What the optimiser's call leaves for the mixer's input projection. -/

set_option maxRecDepth 16384
noncomputable section
namespace Cert.Kernel14Ideal.Points
open Idealize.ShloMosaic Idealize.SL Idealize.SL.Sem Idealize.ShloMosaic.Pipeline
open Cert.Kernel14Ideal Cert.Kernel14Ideal.Gen
open Cert.Adam

variable (m : (ℓ : Loc nD τ sig) → Buf (Elt Ideal) ℓ)

/-- Which block of each array point `t` reads and writes. -/
theorem idx : ∀ t : Fin cfg0.N, (win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]) :=
  (by decide +kernel : ∀ t : Fin grid0.N, _)

/-- The arguments, by name. -/
abbrev arg_w (c : Dev nD) : Arr 2 2048 1284 := m ((c.tc : Thread nD τ).loc main_arg0)
abbrev arg_g (c : Dev nD) : Arr 2 2048 1284 := m ((c.tc : Thread nD τ).loc main_arg1)
abbrev arg_m (c : Dev nD) : Arr 2 2048 1284 := m ((c.tc : Thread nD τ).loc main_arg2)
abbrev arg_v (c : Dev nD) : Arr 2 2048 1284 := m ((c.tc : Thread nD τ).loc main_arg3)

/-- The entry of the arrays that the entry `(a, b)` of a block of point `t` is. -/
abbrev at_ (t : Fin cfg0.N) (a : Fin 256) (b : Fin 1284) : (⟨3, ![2, 2048, 1284]⟩ : Shape).Idx :=
  ix3 (⟨t.val / 8, by have : t.val < 16 := t.isLt; omega⟩ : Fin 2) (⟨256 * (t.val % 8) + a.val, by omega⟩ : Fin 2048) b

theorem blk0 (c : Dev nD) (t : Fin cfg0.N) (a : Fin 256) (b : Fin 1284) : iblk m c 0 t (ix3 0 a b) = arg_w m c (at_ t a b) := by
  obtain ⟨e, -⟩ := idx t
  blk_ext [iblk, V, e, at_]

theorem blk1 (c : Dev nD) (t : Fin cfg0.N) (a : Fin 256) (b : Fin 1284) : iblk m c 1 t (ix3 0 a b) = arg_g m c (at_ t a b) := by
  obtain ⟨-, e, -⟩ := idx t
  blk_ext [iblk, V, e, at_]

theorem blk2 (c : Dev nD) (t : Fin cfg0.N) (a : Fin 256) (b : Fin 1284) : iblk m c 2 t (ix3 0 a b) = arg_m m c (at_ t a b) := by
  obtain ⟨-, -, e, -⟩ := idx t
  blk_ext [iblk, V, e, at_]

theorem blk3 (c : Dev nD) (t : Fin cfg0.N) (a : Fin 256) (b : Fin 1284) : iblk m c 3 t (ix3 0 a b) = arg_v m c (at_ t a b) := by
  obtain ⟨-, -, -, e, -⟩ := idx t
  blk_ext [iblk, V, e, at_]

theorem out4 (X0 X1 X2 X3 : Vec Ideal S1x256x1284 .f32) (a : Fin 256) (b : Fin 1284) :
    out0_4 X0 X1 X2 X3 (ix3 0 a b) = delta (X0 (ix3 0 a b)) (X1 (ix3 0 a b)) (X2 (ix3 0 a b)) (X3 (ix3 0 a b)) := by
  rw [out0_4]
  frame_out
  unfold_payloads
  pointwise [delta, newM, newV]

theorem out5 (X0 X1 X2 X3 : Vec Ideal S1x256x1284 .f32) (a : Fin 256) (b : Fin 1284) :
    out0_5 X0 X1 X2 X3 (ix3 0 a b) = newM (X1 (ix3 0 a b)) (X2 (ix3 0 a b)) := by
  rw [out0_5]
  frame_out
  unfold_payloads
  pointwise [newM]

theorem out6 (X0 X1 X2 X3 : Vec Ideal S1x256x1284 .f32) (a : Fin 256) (b : Fin 1284) :
    out0_6 X0 X1 X2 X3 (ix3 0 a b) = newV (X1 (ix3 0 a b)) (X3 (ix3 0 a b)) := by
  rw [out0_6]
  frame_out
  unfold_payloads
  pointwise [newV]

theorem out7 (X0 X1 X2 X3 : Vec Ideal S1x256x1284 .f32) (a : Fin 256) (b : Fin 1284) :
    out0_7 X0 X1 X2 X3 (ix3 0 a b) = X1 (ix3 0 a b) := by
  rw [out0_7]
  frame_out
  unfold_payloads
  pointwise []

theorem arr4 (c : Dev nD) : (dats m 0 c).arrAt 4 cfg0.N = deltas (arg_w m c) (arg_g m c) (arg_m m c) (arg_v m c) := by
  refine (dats m 0 c).arrAt_eq_of_covers 4 _ (by decide +kernel) fun t hf y => ?_
  obtain ⟨-, -, -, -, e, -⟩ := idx t
  blk_simp
  rw [after0_4]
  idx_vars y
  obtain rfl : y0 = 0 := Fin.ext (by omega)
  have e' : ((cfg0.win 4).blk t).view.emb (ix3 0 y1 y2) = at_ t y1 y2 := by
    blk_ext [e, at_]
  rw [e']
  exact (out4 _ _ _ _ y1 y2).trans (by rw [blk0 m c t y1 y2, blk1 m c t y1 y2, blk2 m c t y1 y2, blk3 m c t y1 y2]; rfl)

theorem arr5 (c : Dev nD) : (dats m 0 c).arrAt 5 cfg0.N = newMs (arg_g m c) (arg_m m c) := by
  refine (dats m 0 c).arrAt_eq_of_covers 5 _ (by decide +kernel) fun t hf y => ?_
  obtain ⟨-, -, -, -, -, e, -⟩ := idx t
  blk_simp
  rw [after0_5]
  idx_vars y
  obtain rfl : y0 = 0 := Fin.ext (by omega)
  have e' : ((cfg0.win 5).blk t).view.emb (ix3 0 y1 y2) = at_ t y1 y2 := by
    blk_ext [e, at_]
  rw [e']
  exact (out5 _ _ _ _ y1 y2).trans (by rw [blk1 m c t y1 y2, blk2 m c t y1 y2]; rfl)

theorem arr6 (c : Dev nD) : (dats m 0 c).arrAt 6 cfg0.N = newVs (arg_g m c) (arg_v m c) := by
  refine (dats m 0 c).arrAt_eq_of_covers 6 _ (by decide +kernel) fun t hf y => ?_
  obtain ⟨-, -, -, -, -, -, e, -⟩ := idx t
  blk_simp
  rw [after0_6]
  idx_vars y
  obtain rfl : y0 = 0 := Fin.ext (by omega)
  have e' : ((cfg0.win 6).blk t).view.emb (ix3 0 y1 y2) = at_ t y1 y2 := by
    blk_ext [e, at_]
  rw [e']
  exact (out6 _ _ _ _ y1 y2).trans (by rw [blk1 m c t y1 y2, blk3 m c t y1 y2]; rfl)

theorem arr7 (c : Dev nD) : (dats m 0 c).arrAt 7 cfg0.N = arg_g m c := by
  refine (dats m 0 c).arrAt_eq_of_covers 7 _ (by decide +kernel) fun t hf y => ?_
  obtain ⟨-, -, -, -, -, -, -, e⟩ := idx t
  blk_simp
  rw [after0_7]
  idx_vars y
  obtain rfl : y0 = 0 := Fin.ext (by omega)
  have e' : ((cfg0.win 7).blk t).view.emb (ix3 0 y1 y2) = at_ t y1 y2 := by
    blk_ext [e, at_]
  rw [e']
  exact (out7 _ _ _ _ y1 y2).trans (by rw [blk1 m c t y1 y2])

/-- The run: the four arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (arg_w m c) (arg_g m c) (arg_m m c) (arg_v m c)
      ∧ r.2.mem ((c.tc : Thread nD τ).loc main_v0_1) = newMs (arg_g m c) (arg_m m c)
      ∧ r.2.mem ((c.tc : Thread nD τ).loc main_v0_2) = newVs (arg_g m c) (arg_v m c)
      ∧ r.2.mem ((c.tc : Thread nD τ).loc main_v0_3) = arg_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩) (Value.run_blocks m ρ)

end Cert.Kernel14Ideal.Points
end
-- ==== Proof.Adam14.lean ====
module

public import proofs.«01_k».proof.Defs
public import proofs.«01_k».proof.Proof.K14Value
public import proofs.«01_k».proof.Proof.Gen.Reference14Ideal.Run
public import Idealize.ShloMosaic.Lib.Pipeline.ValueKit

@[expose] public section

/-! The optimiser's step of the mixer's input projection is the same over the reals. -/

set_option maxRecDepth 16384
noncomputable section
namespace Cert.Adam14
open Cert.Adam Idealize.ShloMosaic Idealize.SL Idealize.SL.Sem

section
open Cert.Reference14Ideal Cert.Reference14Ideal.Facts₀ Cert.Reference14Ideal.Facts

/-- The reference's change of the weights. -/
theorem value_delta (w g m v : Arr 2 2048 1284) :
    mulf (broadcastInDim S2x2048x1284 ![] bcast_S_S2x2048x1284 (constant S_ .f32 0xBA83126F#32)) (addf (Host.divf (Host.divf (addf (mulf (broadcastInDim S2x2048x1284 ![] bcast_S_S2x2048x1284 (constant S_ .f32 0x3F666666#32)) m) (mulf (broadcastInDim S2x2048x1284 ![] bcast_S_S2x2048x1284 (constant S_ .f32 0x3DCCCCCD#32)) g)) (broadcastInDim S2x2048x1284 ![] bcast_S_S2x2048x1284 (constant S_ .f32 0x3F26BD02#32))) (addf (Host.sqrt (Host.divf (addf (mulf (broadcastInDim S2x2048x1284 ![] bcast_S_S2x2048x1284 (constant S_ .f32 0x3F7FBE77#32)) v) (mulf (broadcastInDim S2x2048x1284 ![] bcast_S_S2x2048x1284 (constant S_ .f32 0x3A83126F#32)) (mulf g g))) (broadcastInDim S2x2048x1284 ![] bcast_S_S2x2048x1284 (constant S_ .f32 0x3C231ACC#32)))) (broadcastInDim S2x2048x1284 ![] bcast_S_S2x2048x1284 (constant S_ .f32 0x322BCC77#32)))) (mulf (broadcastInDim S2x2048x1284 ![] bcast_S_S2x2048x1284 (constant S_ .f32 0x3C23D70A#32)) w)) = deltas w g m v := by
  funext i
  idx_vars i
  pointwise [deltas, delta, newM, newV]

/-- The reference's new first moments. -/
theorem value_m (g m : Arr 2 2048 1284) :
    addf (mulf (broadcastInDim S2x2048x1284 ![] bcast_S_S2x2048x1284 (constant S_ .f32 0x3F666666#32)) m) (mulf (broadcastInDim S2x2048x1284 ![] bcast_S_S2x2048x1284 (constant S_ .f32 0x3DCCCCCD#32)) g) = newMs g m := by
  funext i
  idx_vars i
  pointwise [newMs, newM]

/-- The reference's new second moments. -/
theorem value_v (g v : Arr 2 2048 1284) :
    addf (mulf (broadcastInDim S2x2048x1284 ![] bcast_S_S2x2048x1284 (constant S_ .f32 0x3F7FBE77#32)) v) (mulf (broadcastInDim S2x2048x1284 ![] bcast_S_S2x2048x1284 (constant S_ .f32 0x3A83126F#32)) (mulf g g)) = newVs g v := by
  funext i
  idx_vars i
  pointwise [newVs, newV]

end

/-- The reference program leaves its arguments as they were and every counter at zero. -/
theorem frame : Cert.quiescent_Reference14Ideal := fun m ρ _ =>
  (θ_run (Cert.Reference14Ideal.defs (F := Ideal)) _ _).mono (fun r h => ⟨fun c => (h c).2.2.2.2,
      Idealize.ShloMosaic.sem_eq_zero_of_no_sems (by decide) r.2⟩)
    (Cert.Reference14Ideal.Value.run (F := Ideal) m ρ)

/-- The optimiser's step of the mixer's input projection is the same over the reals. -/
theorem algebraic : Cert.algebraic_Kernel14Ideal_Reference14Ideal := by
  intro m ρ m' ρ' _ hagree
  refine ⟨fun c => deltas (Cert.Kernel14Ideal.Points.arg_w m c) (Cert.Kernel14Ideal.Points.arg_g m c) (Cert.Kernel14Ideal.Points.arg_m m c) (Cert.Kernel14Ideal.Points.arg_v m c), fun c => newMs (Cert.Kernel14Ideal.Points.arg_g m c) (Cert.Kernel14Ideal.Points.arg_m m c), fun c => newVs (Cert.Kernel14Ideal.Points.arg_g m c) (Cert.Kernel14Ideal.Points.arg_v m c), fun c => Cert.Kernel14Ideal.Points.arg_g m c,
    Cert.Kernel14Ideal.Points.run m ρ, (θ_run (Cert.Reference14Ideal.defs (F := Ideal)) _ _).mono (fun r h c => ⟨(h c).1.trans ?_, (h c).2.1.trans ?_, (h c).2.2.1.trans ?_, (h c).2.2.2.1.trans ?_, (h c).2.2.2.2⟩)
      (Cert.Reference14Ideal.Value.run (F := Ideal) m' ρ')⟩
  · rw [(hagree c).1, (hagree c).2.1, (hagree c).2.2.1, (hagree c).2.2.2]
    exact value_delta _ _ _ _
  · rw [(hagree c).2.1, (hagree c).2.2.1]
    exact value_m _ _
  · rw [(hagree c).2.1, (hagree c).2.2.2]
    exact value_v _ _
  · exact (hagree c).2.1

end Cert.Adam14
end
-- ==== Proof.K15Value.lean ====
module

public import proofs.«01_k».proof.Proof.Gen.Kernel15Ideal.Value
public import Idealize.ShloMosaic.Lib.Pipeline.ValueKit
public import proofs.«01_k».proof.Proof.Adam

@[expose] public section

/-! What the optimiser's call leaves for the convolution's weights. -/

set_option maxRecDepth 16384
noncomputable section
namespace Cert.Kernel15Ideal.Points
open Idealize.ShloMosaic Idealize.SL Idealize.SL.Sem Idealize.ShloMosaic.Pipeline
open Cert.Kernel15Ideal Cert.Kernel15Ideal.Gen
open Cert.Adam

variable (m : (ℓ : Loc nD τ sig) → Buf (Elt Ideal) ℓ)

/-- Which block of each array point `t` reads and writes. -/
theorem idx : ∀ t : Fin cfg0.N, (win0_0.index t = ![t.val / 1, t.val % 1, 0]
    ∧ win0_1.index t = ![t.val / 1, t.val % 1, 0]
    ∧ win0_2.index t = ![t.val / 1, t.val % 1, 0]
    ∧ win0_3.index t = ![t.val / 1, t.val % 1, 0]
    ∧ win0_4.index t = ![t.val / 1, t.val % 1, 0]
    ∧ win0_5.index t = ![t.val / 1, t.val % 1, 0]
    ∧ win0_6.index t = ![t.val / 1, t.val % 1, 0]
    ∧ win0_7.index t = ![t.val / 1, t.val % 1, 0]) :=
  (by decide +kernel : ∀ t : Fin grid0.N, _)

/-- The arguments, by name. -/
abbrev arg_w (c : Dev nD) : Arr 2 32 96 := m ((c.tc : Thread nD τ).loc main_arg0)
abbrev arg_g (c : Dev nD) : Arr 2 32 96 := m ((c.tc : Thread nD τ).loc main_arg1)
abbrev arg_m (c : Dev nD) : Arr 2 32 96 := m ((c.tc : Thread nD τ).loc main_arg2)
abbrev arg_v (c : Dev nD) : Arr 2 32 96 := m ((c.tc : Thread nD τ).loc main_arg3)

/-- The entry of the arrays that the entry `(a, b)` of a block of point `t` is. -/
abbrev at_ (t : Fin cfg0.N) (a : Fin 32) (b : Fin 96) : (⟨3, ![2, 32, 96]⟩ : Shape).Idx :=
  ix3 (⟨t.val / 1, by have : t.val < 2 := t.isLt; omega⟩ : Fin 2) (⟨32 * (t.val % 1) + a.val, by omega⟩ : Fin 32) b

theorem blk0 (c : Dev nD) (t : Fin cfg0.N) (a : Fin 32) (b : Fin 96) : iblk m c 0 t (ix3 0 a b) = arg_w m c (at_ t a b) := by
  obtain ⟨e, -⟩ := idx t
  blk_ext [iblk, V, e, at_]

theorem blk1 (c : Dev nD) (t : Fin cfg0.N) (a : Fin 32) (b : Fin 96) : iblk m c 1 t (ix3 0 a b) = arg_g m c (at_ t a b) := by
  obtain ⟨-, e, -⟩ := idx t
  blk_ext [iblk, V, e, at_]

theorem blk2 (c : Dev nD) (t : Fin cfg0.N) (a : Fin 32) (b : Fin 96) : iblk m c 2 t (ix3 0 a b) = arg_m m c (at_ t a b) := by
  obtain ⟨-, -, e, -⟩ := idx t
  blk_ext [iblk, V, e, at_]

theorem blk3 (c : Dev nD) (t : Fin cfg0.N) (a : Fin 32) (b : Fin 96) : iblk m c 3 t (ix3 0 a b) = arg_v m c (at_ t a b) := by
  obtain ⟨-, -, -, e, -⟩ := idx t
  blk_ext [iblk, V, e, at_]

theorem out4 (X0 X1 X2 X3 : Vec Ideal S1x32x96 .f32) (a : Fin 32) (b : Fin 96) :
    out0_4 X0 X1 X2 X3 (ix3 0 a b) = delta (X0 (ix3 0 a b)) (X1 (ix3 0 a b)) (X2 (ix3 0 a b)) (X3 (ix3 0 a b)) := by
  rw [out0_4]
  frame_out
  unfold_payloads
  pointwise [delta, newM, newV]

theorem out5 (X0 X1 X2 X3 : Vec Ideal S1x32x96 .f32) (a : Fin 32) (b : Fin 96) :
    out0_5 X0 X1 X2 X3 (ix3 0 a b) = newM (X1 (ix3 0 a b)) (X2 (ix3 0 a b)) := by
  rw [out0_5]
  frame_out
  unfold_payloads
  pointwise [newM]

theorem out6 (X0 X1 X2 X3 : Vec Ideal S1x32x96 .f32) (a : Fin 32) (b : Fin 96) :
    out0_6 X0 X1 X2 X3 (ix3 0 a b) = newV (X1 (ix3 0 a b)) (X3 (ix3 0 a b)) := by
  rw [out0_6]
  frame_out
  unfold_payloads
  pointwise [newV]

theorem out7 (X0 X1 X2 X3 : Vec Ideal S1x32x96 .f32) (a : Fin 32) (b : Fin 96) :
    out0_7 X0 X1 X2 X3 (ix3 0 a b) = X1 (ix3 0 a b) := by
  rw [out0_7]
  frame_out
  unfold_payloads
  pointwise []

theorem arr4 (c : Dev nD) : (dats m 0 c).arrAt 4 cfg0.N = deltas (arg_w m c) (arg_g m c) (arg_m m c) (arg_v m c) := by
  refine (dats m 0 c).arrAt_eq_of_covers 4 _ (by decide +kernel) fun t hf y => ?_
  obtain ⟨-, -, -, -, e, -⟩ := idx t
  blk_simp
  rw [after0_4]
  idx_vars y
  obtain rfl : y0 = 0 := Fin.ext (by omega)
  have e' : ((cfg0.win 4).blk t).view.emb (ix3 0 y1 y2) = at_ t y1 y2 := by
    blk_ext [e, at_]
  rw [e']
  exact (out4 _ _ _ _ y1 y2).trans (by rw [blk0 m c t y1 y2, blk1 m c t y1 y2, blk2 m c t y1 y2, blk3 m c t y1 y2]; rfl)

theorem arr5 (c : Dev nD) : (dats m 0 c).arrAt 5 cfg0.N = newMs (arg_g m c) (arg_m m c) := by
  refine (dats m 0 c).arrAt_eq_of_covers 5 _ (by decide +kernel) fun t hf y => ?_
  obtain ⟨-, -, -, -, -, e, -⟩ := idx t
  blk_simp
  rw [after0_5]
  idx_vars y
  obtain rfl : y0 = 0 := Fin.ext (by omega)
  have e' : ((cfg0.win 5).blk t).view.emb (ix3 0 y1 y2) = at_ t y1 y2 := by
    blk_ext [e, at_]
  rw [e']
  exact (out5 _ _ _ _ y1 y2).trans (by rw [blk1 m c t y1 y2, blk2 m c t y1 y2]; rfl)

theorem arr6 (c : Dev nD) : (dats m 0 c).arrAt 6 cfg0.N = newVs (arg_g m c) (arg_v m c) := by
  refine (dats m 0 c).arrAt_eq_of_covers 6 _ (by decide +kernel) fun t hf y => ?_
  obtain ⟨-, -, -, -, -, -, e, -⟩ := idx t
  blk_simp
  rw [after0_6]
  idx_vars y
  obtain rfl : y0 = 0 := Fin.ext (by omega)
  have e' : ((cfg0.win 6).blk t).view.emb (ix3 0 y1 y2) = at_ t y1 y2 := by
    blk_ext [e, at_]
  rw [e']
  exact (out6 _ _ _ _ y1 y2).trans (by rw [blk1 m c t y1 y2, blk3 m c t y1 y2]; rfl)

theorem arr7 (c : Dev nD) : (dats m 0 c).arrAt 7 cfg0.N = arg_g m c := by
  refine (dats m 0 c).arrAt_eq_of_covers 7 _ (by decide +kernel) fun t hf y => ?_
  obtain ⟨-, -, -, -, -, -, -, e⟩ := idx t
  blk_simp
  rw [after0_7]
  idx_vars y
  obtain rfl : y0 = 0 := Fin.ext (by omega)
  have e' : ((cfg0.win 7).blk t).view.emb (ix3 0 y1 y2) = at_ t y1 y2 := by
    blk_ext [e, at_]
  rw [e']
  exact (out7 _ _ _ _ y1 y2).trans (by rw [blk1 m c t y1 y2])

/-- The run: the four arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (arg_w m c) (arg_g m c) (arg_m m c) (arg_v m c)
      ∧ r.2.mem ((c.tc : Thread nD τ).loc main_v0_1) = newMs (arg_g m c) (arg_m m c)
      ∧ r.2.mem ((c.tc : Thread nD τ).loc main_v0_2) = newVs (arg_g m c) (arg_v m c)
      ∧ r.2.mem ((c.tc : Thread nD τ).loc main_v0_3) = arg_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩) (Value.run_blocks m ρ)

end Cert.Kernel15Ideal.Points
end
-- ==== Proof.Adam15.lean ====
module

public import proofs.«01_k».proof.Defs
public import proofs.«01_k».proof.Proof.K15Value
public import proofs.«01_k».proof.Proof.Gen.Reference15Ideal.Run
public import Idealize.ShloMosaic.Lib.Pipeline.ValueKit

@[expose] public section

/-! The optimiser's step of the convolution's weights is the same over the reals. -/

set_option maxRecDepth 16384
noncomputable section
namespace Cert.Adam15
open Cert.Adam Idealize.ShloMosaic Idealize.SL Idealize.SL.Sem

section
open Cert.Reference15Ideal Cert.Reference15Ideal.Facts₀ Cert.Reference15Ideal.Facts

/-- The reference's change of the weights. -/
theorem value_delta (w g m v : Arr 2 32 96) :
    mulf (broadcastInDim S2x32x96 ![] bcast_S_S2x32x96 (constant S_ .f32 0xBA83126F#32)) (addf (Host.divf (Host.divf (addf (mulf (broadcastInDim S2x32x96 ![] bcast_S_S2x32x96 (constant S_ .f32 0x3F666666#32)) m) (mulf (broadcastInDim S2x32x96 ![] bcast_S_S2x32x96 (constant S_ .f32 0x3DCCCCCD#32)) g)) (broadcastInDim S2x32x96 ![] bcast_S_S2x32x96 (constant S_ .f32 0x3F26BD02#32))) (addf (Host.sqrt (Host.divf (addf (mulf (broadcastInDim S2x32x96 ![] bcast_S_S2x32x96 (constant S_ .f32 0x3F7FBE77#32)) v) (mulf (broadcastInDim S2x32x96 ![] bcast_S_S2x32x96 (constant S_ .f32 0x3A83126F#32)) (mulf g g))) (broadcastInDim S2x32x96 ![] bcast_S_S2x32x96 (constant S_ .f32 0x3C231ACC#32)))) (broadcastInDim S2x32x96 ![] bcast_S_S2x32x96 (constant S_ .f32 0x322BCC77#32)))) (mulf (broadcastInDim S2x32x96 ![] bcast_S_S2x32x96 (constant S_ .f32 0x3C23D70A#32)) w)) = deltas w g m v := by
  funext i
  idx_vars i
  pointwise [deltas, delta, newM, newV]

/-- The reference's new first moments. -/
theorem value_m (g m : Arr 2 32 96) :
    addf (mulf (broadcastInDim S2x32x96 ![] bcast_S_S2x32x96 (constant S_ .f32 0x3F666666#32)) m) (mulf (broadcastInDim S2x32x96 ![] bcast_S_S2x32x96 (constant S_ .f32 0x3DCCCCCD#32)) g) = newMs g m := by
  funext i
  idx_vars i
  pointwise [newMs, newM]

/-- The reference's new second moments. -/
theorem value_v (g v : Arr 2 32 96) :
    addf (mulf (broadcastInDim S2x32x96 ![] bcast_S_S2x32x96 (constant S_ .f32 0x3F7FBE77#32)) v) (mulf (broadcastInDim S2x32x96 ![] bcast_S_S2x32x96 (constant S_ .f32 0x3A83126F#32)) (mulf g g)) = newVs g v := by
  funext i
  idx_vars i
  pointwise [newVs, newV]

end

/-- The reference program leaves its arguments as they were and every counter at zero. -/
theorem frame : Cert.quiescent_Reference15Ideal := fun m ρ _ =>
  (θ_run (Cert.Reference15Ideal.defs (F := Ideal)) _ _).mono (fun r h => ⟨fun c => (h c).2.2.2.2,
      Idealize.ShloMosaic.sem_eq_zero_of_no_sems (by decide) r.2⟩)
    (Cert.Reference15Ideal.Value.run (F := Ideal) m ρ)

/-- The optimiser's step of the convolution's weights is the same over the reals. -/
theorem algebraic : Cert.algebraic_Kernel15Ideal_Reference15Ideal := by
  intro m ρ m' ρ' _ hagree
  refine ⟨fun c => deltas (Cert.Kernel15Ideal.Points.arg_w m c) (Cert.Kernel15Ideal.Points.arg_g m c) (Cert.Kernel15Ideal.Points.arg_m m c) (Cert.Kernel15Ideal.Points.arg_v m c), fun c => newMs (Cert.Kernel15Ideal.Points.arg_g m c) (Cert.Kernel15Ideal.Points.arg_m m c), fun c => newVs (Cert.Kernel15Ideal.Points.arg_g m c) (Cert.Kernel15Ideal.Points.arg_v m c), fun c => Cert.Kernel15Ideal.Points.arg_g m c,
    Cert.Kernel15Ideal.Points.run m ρ, (θ_run (Cert.Reference15Ideal.defs (F := Ideal)) _ _).mono (fun r h c => ⟨(h c).1.trans ?_, (h c).2.1.trans ?_, (h c).2.2.1.trans ?_, (h c).2.2.2.1.trans ?_, (h c).2.2.2.2⟩)
      (Cert.Reference15Ideal.Value.run (F := Ideal) m' ρ')⟩
  · rw [(hagree c).1, (hagree c).2.1, (hagree c).2.2.1, (hagree c).2.2.2]
    exact value_delta _ _ _ _
  · rw [(hagree c).2.1, (hagree c).2.2.1]
    exact value_m _ _
  · rw [(hagree c).2.1, (hagree c).2.2.2]
    exact value_v _ _
  · exact (hagree c).2.1

end Cert.Adam15
end
-- ==== Proof.K16Value.lean ====
module

public import proofs.«01_k».proof.Proof.Gen.Kernel16Ideal.Value
public import Idealize.ShloMosaic.Lib.Pipeline.ValueKit
public import proofs.«01_k».proof.Proof.Adam

@[expose] public section

/-! What the optimiser's call leaves for the pooling mixer's weights. -/

set_option maxRecDepth 16384
noncomputable section
namespace Cert.Kernel16Ideal.Points
open Idealize.ShloMosaic Idealize.SL Idealize.SL.Sem Idealize.ShloMosaic.Pipeline
open Cert.Kernel16Ideal Cert.Kernel16Ideal.Gen
open Cert.Adam

variable (m : (ℓ : Loc nD τ sig) → Buf (Elt Ideal) ℓ)

/-- Which block of each array point `t` reads and writes. -/
theorem idx : ∀ t : Fin cfg0.N, (win0_0.index t = ![t.val / 1, t.val % 1, 0]
    ∧ win0_1.index t = ![t.val / 1, t.val % 1, 0]
    ∧ win0_2.index t = ![t.val / 1, t.val % 1, 0]
    ∧ win0_3.index t = ![t.val / 1, t.val % 1, 0]
    ∧ win0_4.index t = ![t.val / 1, t.val % 1, 0]
    ∧ win0_5.index t = ![t.val / 1, t.val % 1, 0]
    ∧ win0_6.index t = ![t.val / 1, t.val % 1, 0]
    ∧ win0_7.index t = ![t.val / 1, t.val % 1, 0]) :=
  (by decide +kernel : ∀ t : Fin grid0.N, _)

/-- The arguments, by name. -/
abbrev arg_w (c : Dev nD) : Arr 2 256 256 := m ((c.tc : Thread nD τ).loc main_arg0)
abbrev arg_g (c : Dev nD) : Arr 2 256 256 := m ((c.tc : Thread nD τ).loc main_arg1)
abbrev arg_m (c : Dev nD) : Arr 2 256 256 := m ((c.tc : Thread nD τ).loc main_arg2)
abbrev arg_v (c : Dev nD) : Arr 2 256 256 := m ((c.tc : Thread nD τ).loc main_arg3)

/-- The entry of the arrays that the entry `(a, b)` of a block of point `t` is. -/
abbrev at_ (t : Fin cfg0.N) (a : Fin 256) (b : Fin 256) : (⟨3, ![2, 256, 256]⟩ : Shape).Idx :=
  ix3 (⟨t.val / 1, by have : t.val < 2 := t.isLt; omega⟩ : Fin 2) (⟨256 * (t.val % 1) + a.val, by omega⟩ : Fin 256) b

theorem blk0 (c : Dev nD) (t : Fin cfg0.N) (a : Fin 256) (b : Fin 256) : iblk m c 0 t (ix3 0 a b) = arg_w m c (at_ t a b) := by
  obtain ⟨e, -⟩ := idx t
  blk_ext [iblk, V, e, at_]

theorem blk1 (c : Dev nD) (t : Fin cfg0.N) (a : Fin 256) (b : Fin 256) : iblk m c 1 t (ix3 0 a b) = arg_g m c (at_ t a b) := by
  obtain ⟨-, e, -⟩ := idx t
  blk_ext [iblk, V, e, at_]

theorem blk2 (c : Dev nD) (t : Fin cfg0.N) (a : Fin 256) (b : Fin 256) : iblk m c 2 t (ix3 0 a b) = arg_m m c (at_ t a b) := by
  obtain ⟨-, -, e, -⟩ := idx t
  blk_ext [iblk, V, e, at_]

theorem blk3 (c : Dev nD) (t : Fin cfg0.N) (a : Fin 256) (b : Fin 256) : iblk m c 3 t (ix3 0 a b) = arg_v m c (at_ t a b) := by
  obtain ⟨-, -, -, e, -⟩ := idx t
  blk_ext [iblk, V, e, at_]

theorem out4 (X0 X1 X2 X3 : Vec Ideal S1x256x256 .f32) (a : Fin 256) (b : Fin 256) :
    out0_4 X0 X1 X2 X3 (ix3 0 a b) = delta (X0 (ix3 0 a b)) (X1 (ix3 0 a b)) (X2 (ix3 0 a b)) (X3 (ix3 0 a b)) := by
  rw [out0_4]
  frame_out
  unfold_payloads
  pointwise [delta, newM, newV]

theorem out5 (X0 X1 X2 X3 : Vec Ideal S1x256x256 .f32) (a : Fin 256) (b : Fin 256) :
    out0_5 X0 X1 X2 X3 (ix3 0 a b) = newM (X1 (ix3 0 a b)) (X2 (ix3 0 a b)) := by
  rw [out0_5]
  frame_out
  unfold_payloads
  pointwise [newM]

theorem out6 (X0 X1 X2 X3 : Vec Ideal S1x256x256 .f32) (a : Fin 256) (b : Fin 256) :
    out0_6 X0 X1 X2 X3 (ix3 0 a b) = newV (X1 (ix3 0 a b)) (X3 (ix3 0 a b)) := by
  rw [out0_6]
  frame_out
  unfold_payloads
  pointwise [newV]

theorem out7 (X0 X1 X2 X3 : Vec Ideal S1x256x256 .f32) (a : Fin 256) (b : Fin 256) :
    out0_7 X0 X1 X2 X3 (ix3 0 a b) = X1 (ix3 0 a b) := by
  rw [out0_7]
  frame_out
  unfold_payloads
  pointwise []

theorem arr4 (c : Dev nD) : (dats m 0 c).arrAt 4 cfg0.N = deltas (arg_w m c) (arg_g m c) (arg_m m c) (arg_v m c) := by
  refine (dats m 0 c).arrAt_eq_of_covers 4 _ (by decide +kernel) fun t hf y => ?_
  obtain ⟨-, -, -, -, e, -⟩ := idx t
  blk_simp
  rw [after0_4]
  idx_vars y
  obtain rfl : y0 = 0 := Fin.ext (by omega)
  have e' : ((cfg0.win 4).blk t).view.emb (ix3 0 y1 y2) = at_ t y1 y2 := by
    blk_ext [e, at_]
  rw [e']
  exact (out4 _ _ _ _ y1 y2).trans (by rw [blk0 m c t y1 y2, blk1 m c t y1 y2, blk2 m c t y1 y2, blk3 m c t y1 y2]; rfl)

theorem arr5 (c : Dev nD) : (dats m 0 c).arrAt 5 cfg0.N = newMs (arg_g m c) (arg_m m c) := by
  refine (dats m 0 c).arrAt_eq_of_covers 5 _ (by decide +kernel) fun t hf y => ?_
  obtain ⟨-, -, -, -, -, e, -⟩ := idx t
  blk_simp
  rw [after0_5]
  idx_vars y
  obtain rfl : y0 = 0 := Fin.ext (by omega)
  have e' : ((cfg0.win 5).blk t).view.emb (ix3 0 y1 y2) = at_ t y1 y2 := by
    blk_ext [e, at_]
  rw [e']
  exact (out5 _ _ _ _ y1 y2).trans (by rw [blk1 m c t y1 y2, blk2 m c t y1 y2]; rfl)

theorem arr6 (c : Dev nD) : (dats m 0 c).arrAt 6 cfg0.N = newVs (arg_g m c) (arg_v m c) := by
  refine (dats m 0 c).arrAt_eq_of_covers 6 _ (by decide +kernel) fun t hf y => ?_
  obtain ⟨-, -, -, -, -, -, e, -⟩ := idx t
  blk_simp
  rw [after0_6]
  idx_vars y
  obtain rfl : y0 = 0 := Fin.ext (by omega)
  have e' : ((cfg0.win 6).blk t).view.emb (ix3 0 y1 y2) = at_ t y1 y2 := by
    blk_ext [e, at_]
  rw [e']
  exact (out6 _ _ _ _ y1 y2).trans (by rw [blk1 m c t y1 y2, blk3 m c t y1 y2]; rfl)

theorem arr7 (c : Dev nD) : (dats m 0 c).arrAt 7 cfg0.N = arg_g m c := by
  refine (dats m 0 c).arrAt_eq_of_covers 7 _ (by decide +kernel) fun t hf y => ?_
  obtain ⟨-, -, -, -, -, -, -, e⟩ := idx t
  blk_simp
  rw [after0_7]
  idx_vars y
  obtain rfl : y0 = 0 := Fin.ext (by omega)
  have e' : ((cfg0.win 7).blk t).view.emb (ix3 0 y1 y2) = at_ t y1 y2 := by
    blk_ext [e, at_]
  rw [e']
  exact (out7 _ _ _ _ y1 y2).trans (by rw [blk1 m c t y1 y2])

/-- The run: the four arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (arg_w m c) (arg_g m c) (arg_m m c) (arg_v m c)
      ∧ r.2.mem ((c.tc : Thread nD τ).loc main_v0_1) = newMs (arg_g m c) (arg_m m c)
      ∧ r.2.mem ((c.tc : Thread nD τ).loc main_v0_2) = newVs (arg_g m c) (arg_v m c)
      ∧ r.2.mem ((c.tc : Thread nD τ).loc main_v0_3) = arg_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩) (Value.run_blocks m ρ)

end Cert.Kernel16Ideal.Points
end
-- ==== Proof.Adam16.lean ====
module

public import proofs.«01_k».proof.Defs
public import proofs.«01_k».proof.Proof.K16Value
public import proofs.«01_k».proof.Proof.Gen.Reference16Ideal.Run
public import Idealize.ShloMosaic.Lib.Pipeline.ValueKit

@[expose] public section

/-! The optimiser's step of the pooling mixer's weights is the same over the reals. -/

set_option maxRecDepth 16384
noncomputable section
namespace Cert.Adam16
open Cert.Adam Idealize.ShloMosaic Idealize.SL Idealize.SL.Sem

section
open Cert.Reference16Ideal Cert.Reference16Ideal.Facts₀ Cert.Reference16Ideal.Facts

/-- The reference's change of the weights. -/
theorem value_delta (w g m v : Arr 2 256 256) :
    mulf (broadcastInDim S2x256x256 ![] bcast_S_S2x256x256 (constant S_ .f32 0xBA83126F#32)) (addf (Host.divf (Host.divf (addf (mulf (broadcastInDim S2x256x256 ![] bcast_S_S2x256x256 (constant S_ .f32 0x3F666666#32)) m) (mulf (broadcastInDim S2x256x256 ![] bcast_S_S2x256x256 (constant S_ .f32 0x3DCCCCCD#32)) g)) (broadcastInDim S2x256x256 ![] bcast_S_S2x256x256 (constant S_ .f32 0x3F26BD02#32))) (addf (Host.sqrt (Host.divf (addf (mulf (broadcastInDim S2x256x256 ![] bcast_S_S2x256x256 (constant S_ .f32 0x3F7FBE77#32)) v) (mulf (broadcastInDim S2x256x256 ![] bcast_S_S2x256x256 (constant S_ .f32 0x3A83126F#32)) (mulf g g))) (broadcastInDim S2x256x256 ![] bcast_S_S2x256x256 (constant S_ .f32 0x3C231ACC#32)))) (broadcastInDim S2x256x256 ![] bcast_S_S2x256x256 (constant S_ .f32 0x322BCC77#32)))) (mulf (broadcastInDim S2x256x256 ![] bcast_S_S2x256x256 (constant S_ .f32 0x3C23D70A#32)) w)) = deltas w g m v := by
  funext i
  idx_vars i
  pointwise [deltas, delta, newM, newV]

/-- The reference's new first moments. -/
theorem value_m (g m : Arr 2 256 256) :
    addf (mulf (broadcastInDim S2x256x256 ![] bcast_S_S2x256x256 (constant S_ .f32 0x3F666666#32)) m) (mulf (broadcastInDim S2x256x256 ![] bcast_S_S2x256x256 (constant S_ .f32 0x3DCCCCCD#32)) g) = newMs g m := by
  funext i
  idx_vars i
  pointwise [newMs, newM]

/-- The reference's new second moments. -/
theorem value_v (g v : Arr 2 256 256) :
    addf (mulf (broadcastInDim S2x256x256 ![] bcast_S_S2x256x256 (constant S_ .f32 0x3F7FBE77#32)) v) (mulf (broadcastInDim S2x256x256 ![] bcast_S_S2x256x256 (constant S_ .f32 0x3A83126F#32)) (mulf g g)) = newVs g v := by
  funext i
  idx_vars i
  pointwise [newVs, newV]

end

/-- The reference program leaves its arguments as they were and every counter at zero. -/
theorem frame : Cert.quiescent_Reference16Ideal := fun m ρ _ =>
  (θ_run (Cert.Reference16Ideal.defs (F := Ideal)) _ _).mono (fun r h => ⟨fun c => (h c).2.2.2.2,
      Idealize.ShloMosaic.sem_eq_zero_of_no_sems (by decide) r.2⟩)
    (Cert.Reference16Ideal.Value.run (F := Ideal) m ρ)

/-- The optimiser's step of the pooling mixer's weights is the same over the reals. -/
theorem algebraic : Cert.algebraic_Kernel16Ideal_Reference16Ideal := by
  intro m ρ m' ρ' _ hagree
  refine ⟨fun c => deltas (Cert.Kernel16Ideal.Points.arg_w m c) (Cert.Kernel16Ideal.Points.arg_g m c) (Cert.Kernel16Ideal.Points.arg_m m c) (Cert.Kernel16Ideal.Points.arg_v m c), fun c => newMs (Cert.Kernel16Ideal.Points.arg_g m c) (Cert.Kernel16Ideal.Points.arg_m m c), fun c => newVs (Cert.Kernel16Ideal.Points.arg_g m c) (Cert.Kernel16Ideal.Points.arg_v m c), fun c => Cert.Kernel16Ideal.Points.arg_g m c,
    Cert.Kernel16Ideal.Points.run m ρ, (θ_run (Cert.Reference16Ideal.defs (F := Ideal)) _ _).mono (fun r h c => ⟨(h c).1.trans ?_, (h c).2.1.trans ?_, (h c).2.2.1.trans ?_, (h c).2.2.2.1.trans ?_, (h c).2.2.2.2⟩)
      (Cert.Reference16Ideal.Value.run (F := Ideal) m' ρ')⟩
  · rw [(hagree c).1, (hagree c).2.1, (hagree c).2.2.1, (hagree c).2.2.2]
    exact value_delta _ _ _ _
  · rw [(hagree c).2.1, (hagree c).2.2.1]
    exact value_m _ _
  · rw [(hagree c).2.1, (hagree c).2.2.2]
    exact value_v _ _
  · exact (hagree c).2.1

end Cert.Adam16
end
-- ==== Proof.K17Value.lean ====
module

public import proofs.«01_k».proof.Proof.Gen.Kernel17Ideal.Value
public import Idealize.ShloMosaic.Lib.Pipeline.ValueKit
public import proofs.«01_k».proof.Proof.Adam

@[expose] public section

/-! What the optimiser's call leaves for the mixer's output projection and the cross-attention's query and output projections. -/

set_option maxRecDepth 16384
noncomputable section
namespace Cert.Kernel17Ideal.Points
open Idealize.ShloMosaic Idealize.SL Idealize.SL.Sem Idealize.ShloMosaic.Pipeline
open Cert.Kernel17Ideal Cert.Kernel17Ideal.Gen
open Cert.Adam

variable (m : (ℓ : Loc nD τ sig) → Buf (Elt Ideal) ℓ)

/-- Which block of each array point `t` reads and writes. -/
theorem idx : ∀ t : Fin cfg0.N, (win0_0.index t = ![t.val / 2, t.val % 2, 0]
    ∧ win0_1.index t = ![t.val / 2, t.val % 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]) :=
  (by decide +kernel : ∀ t : Fin grid0.N, _)

/-- The arguments, by name. -/
abbrev arg_w (c : Dev nD) : Arr 2 512 2048 := m ((c.tc : Thread nD τ).loc main_arg0)
abbrev arg_g (c : Dev nD) : Arr 2 512 2048 := m ((c.tc : Thread nD τ).loc main_arg1)
abbrev arg_m (c : Dev nD) : Arr 2 512 2048 := m ((c.tc : Thread nD τ).loc main_arg2)
abbrev arg_v (c : Dev nD) : Arr 2 512 2048 := m ((c.tc : Thread nD τ).loc main_arg3)

/-- The entry of the arrays that the entry `(a, b)` of a block of point `t` is. -/
abbrev at_ (t : Fin cfg0.N) (a : Fin 256) (b : Fin 2048) : (⟨3, ![2, 512, 2048]⟩ : Shape).Idx :=
  ix3 (⟨t.val / 2, by have : t.val < 4 := t.isLt; omega⟩ : Fin 2) (⟨256 * (t.val % 2) + a.val, by omega⟩ : Fin 512) b

theorem blk0 (c : Dev nD) (t : Fin cfg0.N) (a : Fin 256) (b : Fin 2048) : iblk m c 0 t (ix3 0 a b) = arg_w m c (at_ t a b) := by
  obtain ⟨e, -⟩ := idx t
  blk_ext [iblk, V, e, at_]

theorem blk1 (c : Dev nD) (t : Fin cfg0.N) (a : Fin 256) (b : Fin 2048) : iblk m c 1 t (ix3 0 a b) = arg_g m c (at_ t a b) := by
  obtain ⟨-, e, -⟩ := idx t
  blk_ext [iblk, V, e, at_]

theorem blk2 (c : Dev nD) (t : Fin cfg0.N) (a : Fin 256) (b : Fin 2048) : iblk m c 2 t (ix3 0 a b) = arg_m m c (at_ t a b) := by
  obtain ⟨-, -, e, -⟩ := idx t
  blk_ext [iblk, V, e, at_]

theorem blk3 (c : Dev nD) (t : Fin cfg0.N) (a : Fin 256) (b : Fin 2048) : iblk m c 3 t (ix3 0 a b) = arg_v m c (at_ t a b) := by
  obtain ⟨-, -, -, e, -⟩ := idx t
  blk_ext [iblk, V, e, at_]

theorem out4 (X0 X1 X2 X3 : Vec Ideal S1x256x2048 .f32) (a : Fin 256) (b : Fin 2048) :
    out0_4 X0 X1 X2 X3 (ix3 0 a b) = delta (X0 (ix3 0 a b)) (X1 (ix3 0 a b)) (X2 (ix3 0 a b)) (X3 (ix3 0 a b)) := by
  rw [out0_4]
  frame_out
  unfold_payloads
  pointwise [delta, newM, newV]

theorem out5 (X0 X1 X2 X3 : Vec Ideal S1x256x2048 .f32) (a : Fin 256) (b : Fin 2048) :
    out0_5 X0 X1 X2 X3 (ix3 0 a b) = newM (X1 (ix3 0 a b)) (X2 (ix3 0 a b)) := by
  rw [out0_5]
  frame_out
  unfold_payloads
  pointwise [newM]

theorem out6 (X0 X1 X2 X3 : Vec Ideal S1x256x2048 .f32) (a : Fin 256) (b : Fin 2048) :
    out0_6 X0 X1 X2 X3 (ix3 0 a b) = newV (X1 (ix3 0 a b)) (X3 (ix3 0 a b)) := by
  rw [out0_6]
  frame_out
  unfold_payloads
  pointwise [newV]

theorem out7 (X0 X1 X2 X3 : Vec Ideal S1x256x2048 .f32) (a : Fin 256) (b : Fin 2048) :
    out0_7 X0 X1 X2 X3 (ix3 0 a b) = X1 (ix3 0 a b) := by
  rw [out0_7]
  frame_out
  unfold_payloads
  pointwise []

theorem arr4 (c : Dev nD) : (dats m 0 c).arrAt 4 cfg0.N = deltas (arg_w m c) (arg_g m c) (arg_m m c) (arg_v m c) := by
  refine (dats m 0 c).arrAt_eq_of_covers 4 _ (by decide +kernel) fun t hf y => ?_
  obtain ⟨-, -, -, -, e, -⟩ := idx t
  blk_simp
  rw [after0_4]
  idx_vars y
  obtain rfl : y0 = 0 := Fin.ext (by omega)
  have e' : ((cfg0.win 4).blk t).view.emb (ix3 0 y1 y2) = at_ t y1 y2 := by
    blk_ext [e, at_]
  rw [e']
  exact (out4 _ _ _ _ y1 y2).trans (by rw [blk0 m c t y1 y2, blk1 m c t y1 y2, blk2 m c t y1 y2, blk3 m c t y1 y2]; rfl)

theorem arr5 (c : Dev nD) : (dats m 0 c).arrAt 5 cfg0.N = newMs (arg_g m c) (arg_m m c) := by
  refine (dats m 0 c).arrAt_eq_of_covers 5 _ (by decide +kernel) fun t hf y => ?_
  obtain ⟨-, -, -, -, -, e, -⟩ := idx t
  blk_simp
  rw [after0_5]
  idx_vars y
  obtain rfl : y0 = 0 := Fin.ext (by omega)
  have e' : ((cfg0.win 5).blk t).view.emb (ix3 0 y1 y2) = at_ t y1 y2 := by
    blk_ext [e, at_]
  rw [e']
  exact (out5 _ _ _ _ y1 y2).trans (by rw [blk1 m c t y1 y2, blk2 m c t y1 y2]; rfl)

theorem arr6 (c : Dev nD) : (dats m 0 c).arrAt 6 cfg0.N = newVs (arg_g m c) (arg_v m c) := by
  refine (dats m 0 c).arrAt_eq_of_covers 6 _ (by decide +kernel) fun t hf y => ?_
  obtain ⟨-, -, -, -, -, -, e, -⟩ := idx t
  blk_simp
  rw [after0_6]
  idx_vars y
  obtain rfl : y0 = 0 := Fin.ext (by omega)
  have e' : ((cfg0.win 6).blk t).view.emb (ix3 0 y1 y2) = at_ t y1 y2 := by
    blk_ext [e, at_]
  rw [e']
  exact (out6 _ _ _ _ y1 y2).trans (by rw [blk1 m c t y1 y2, blk3 m c t y1 y2]; rfl)

theorem arr7 (c : Dev nD) : (dats m 0 c).arrAt 7 cfg0.N = arg_g m c := by
  refine (dats m 0 c).arrAt_eq_of_covers 7 _ (by decide +kernel) fun t hf y => ?_
  obtain ⟨-, -, -, -, -, -, -, e⟩ := idx t
  blk_simp
  rw [after0_7]
  idx_vars y
  obtain rfl : y0 = 0 := Fin.ext (by omega)
  have e' : ((cfg0.win 7).blk t).view.emb (ix3 0 y1 y2) = at_ t y1 y2 := by
    blk_ext [e, at_]
  rw [e']
  exact (out7 _ _ _ _ y1 y2).trans (by rw [blk1 m c t y1 y2])

/-- The run: the four arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (arg_w m c) (arg_g m c) (arg_m m c) (arg_v m c)
      ∧ r.2.mem ((c.tc : Thread nD τ).loc main_v0_1) = newMs (arg_g m c) (arg_m m c)
      ∧ r.2.mem ((c.tc : Thread nD τ).loc main_v0_2) = newVs (arg_g m c) (arg_v m c)
      ∧ r.2.mem ((c.tc : Thread nD τ).loc main_v0_3) = arg_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩) (Value.run_blocks m ρ)

end Cert.Kernel17Ideal.Points
end
-- ==== Proof.Adam17.lean ====
module

public import proofs.«01_k».proof.Defs
public import proofs.«01_k».proof.Proof.K17Value
public import proofs.«01_k».proof.Proof.Gen.Reference17Ideal.Run
public import Idealize.ShloMosaic.Lib.Pipeline.ValueKit

@[expose] public section

/-! The optimiser's step of the mixer's output projection and the cross-attention's query and output projections is the same over the reals. -/

set_option maxRecDepth 16384
noncomputable section
namespace Cert.Adam17
open Cert.Adam Idealize.ShloMosaic Idealize.SL Idealize.SL.Sem

section
open Cert.Reference17Ideal Cert.Reference17Ideal.Facts₀ Cert.Reference17Ideal.Facts

/-- The reference's change of the weights. -/
theorem value_delta (w g m v : Arr 2 512 2048) :
    mulf (broadcastInDim S2x512x2048 ![] bcast_S_S2x512x2048 (constant S_ .f32 0xBA83126F#32)) (addf (Host.divf (Host.divf (addf (mulf (broadcastInDim S2x512x2048 ![] bcast_S_S2x512x2048 (constant S_ .f32 0x3F666666#32)) m) (mulf (broadcastInDim S2x512x2048 ![] bcast_S_S2x512x2048 (constant S_ .f32 0x3DCCCCCD#32)) g)) (broadcastInDim S2x512x2048 ![] bcast_S_S2x512x2048 (constant S_ .f32 0x3F26BD02#32))) (addf (Host.sqrt (Host.divf (addf (mulf (broadcastInDim S2x512x2048 ![] bcast_S_S2x512x2048 (constant S_ .f32 0x3F7FBE77#32)) v) (mulf (broadcastInDim S2x512x2048 ![] bcast_S_S2x512x2048 (constant S_ .f32 0x3A83126F#32)) (mulf g g))) (broadcastInDim S2x512x2048 ![] bcast_S_S2x512x2048 (constant S_ .f32 0x3C231ACC#32)))) (broadcastInDim S2x512x2048 ![] bcast_S_S2x512x2048 (constant S_ .f32 0x322BCC77#32)))) (mulf (broadcastInDim S2x512x2048 ![] bcast_S_S2x512x2048 (constant S_ .f32 0x3C23D70A#32)) w)) = deltas w g m v := by
  funext i
  idx_vars i
  pointwise [deltas, delta, newM, newV]

/-- The reference's new first moments. -/
theorem value_m (g m : Arr 2 512 2048) :
    addf (mulf (broadcastInDim S2x512x2048 ![] bcast_S_S2x512x2048 (constant S_ .f32 0x3F666666#32)) m) (mulf (broadcastInDim S2x512x2048 ![] bcast_S_S2x512x2048 (constant S_ .f32 0x3DCCCCCD#32)) g) = newMs g m := by
  funext i
  idx_vars i
  pointwise [newMs, newM]

/-- The reference's new second moments. -/
theorem value_v (g v : Arr 2 512 2048) :
    addf (mulf (broadcastInDim S2x512x2048 ![] bcast_S_S2x512x2048 (constant S_ .f32 0x3F7FBE77#32)) v) (mulf (broadcastInDim S2x512x2048 ![] bcast_S_S2x512x2048 (constant S_ .f32 0x3A83126F#32)) (mulf g g)) = newVs g v := by
  funext i
  idx_vars i
  pointwise [newVs, newV]

end

/-- The reference program leaves its arguments as they were and every counter at zero. -/
theorem frame : Cert.quiescent_Reference17Ideal := fun m ρ _ =>
  (θ_run (Cert.Reference17Ideal.defs (F := Ideal)) _ _).mono (fun r h => ⟨fun c => (h c).2.2.2.2,
      Idealize.ShloMosaic.sem_eq_zero_of_no_sems (by decide) r.2⟩)
    (Cert.Reference17Ideal.Value.run (F := Ideal) m ρ)

/-- The optimiser's step of the mixer's output projection and the cross-attention's query and output projections is the same over the reals. -/
theorem algebraic : Cert.algebraic_Kernel17Ideal_Reference17Ideal := by
  intro m ρ m' ρ' _ hagree
  refine ⟨fun c => deltas (Cert.Kernel17Ideal.Points.arg_w m c) (Cert.Kernel17Ideal.Points.arg_g m c) (Cert.Kernel17Ideal.Points.arg_m m c) (Cert.Kernel17Ideal.Points.arg_v m c), fun c => newMs (Cert.Kernel17Ideal.Points.arg_g m c) (Cert.Kernel17Ideal.Points.arg_m m c), fun c => newVs (Cert.Kernel17Ideal.Points.arg_g m c) (Cert.Kernel17Ideal.Points.arg_v m c), fun c => Cert.Kernel17Ideal.Points.arg_g m c,
    Cert.Kernel17Ideal.Points.run m ρ, (θ_run (Cert.Reference17Ideal.defs (F := Ideal)) _ _).mono (fun r h c => ⟨(h c).1.trans ?_, (h c).2.1.trans ?_, (h c).2.2.1.trans ?_, (h c).2.2.2.1.trans ?_, (h c).2.2.2.2⟩)
      (Cert.Reference17Ideal.Value.run (F := Ideal) m' ρ')⟩
  · rw [(hagree c).1, (hagree c).2.1, (hagree c).2.2.1, (hagree c).2.2.2]
    exact value_delta _ _ _ _
  · rw [(hagree c).2.1, (hagree c).2.2.1]
    exact value_m _ _
  · rw [(hagree c).2.1, (hagree c).2.2.2]
    exact value_v _ _
  · exact (hagree c).2.1

end Cert.Adam17
end
-- ==== Proof.K18Value.lean ====
module

public import proofs.«01_k».proof.Proof.Gen.Kernel18Ideal.Value
public import Idealize.ShloMosaic.Lib.Pipeline.ValueKit
public import proofs.«01_k».proof.Proof.Adam

@[expose] public section

/-! What the optimiser's call leaves for the cross-attention's key and value projection. -/

set_option maxRecDepth 16384
noncomputable section
namespace Cert.Kernel18Ideal.Points
open Idealize.ShloMosaic Idealize.SL Idealize.SL.Sem Idealize.ShloMosaic.Pipeline
open Cert.Kernel18Ideal Cert.Kernel18Ideal.Gen
open Cert.Adam

variable (m : (ℓ : Loc nD τ sig) → Buf (Elt Ideal) ℓ)

/-- Which block of each array point `t` reads and writes. -/
theorem idx : ∀ t : Fin cfg0.N, (win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]) :=
  (by decide +kernel : ∀ t : Fin grid0.N, _)

/-- The arguments, by name. -/
abbrev arg_w (c : Dev nD) : Arr 2 2048 1024 := m ((c.tc : Thread nD τ).loc main_arg0)
abbrev arg_g (c : Dev nD) : Arr 2 2048 1024 := m ((c.tc : Thread nD τ).loc main_arg1)
abbrev arg_m (c : Dev nD) : Arr 2 2048 1024 := m ((c.tc : Thread nD τ).loc main_arg2)
abbrev arg_v (c : Dev nD) : Arr 2 2048 1024 := m ((c.tc : Thread nD τ).loc main_arg3)

/-- The entry of the arrays that the entry `(a, b)` of a block of point `t` is. -/
abbrev at_ (t : Fin cfg0.N) (a : Fin 256) (b : Fin 1024) : (⟨3, ![2, 2048, 1024]⟩ : Shape).Idx :=
  ix3 (⟨t.val / 8, by have : t.val < 16 := t.isLt; omega⟩ : Fin 2) (⟨256 * (t.val % 8) + a.val, by omega⟩ : Fin 2048) b

theorem blk0 (c : Dev nD) (t : Fin cfg0.N) (a : Fin 256) (b : Fin 1024) : iblk m c 0 t (ix3 0 a b) = arg_w m c (at_ t a b) := by
  obtain ⟨e, -⟩ := idx t
  blk_ext [iblk, V, e, at_]

theorem blk1 (c : Dev nD) (t : Fin cfg0.N) (a : Fin 256) (b : Fin 1024) : iblk m c 1 t (ix3 0 a b) = arg_g m c (at_ t a b) := by
  obtain ⟨-, e, -⟩ := idx t
  blk_ext [iblk, V, e, at_]

theorem blk2 (c : Dev nD) (t : Fin cfg0.N) (a : Fin 256) (b : Fin 1024) : iblk m c 2 t (ix3 0 a b) = arg_m m c (at_ t a b) := by
  obtain ⟨-, -, e, -⟩ := idx t
  blk_ext [iblk, V, e, at_]

theorem blk3 (c : Dev nD) (t : Fin cfg0.N) (a : Fin 256) (b : Fin 1024) : iblk m c 3 t (ix3 0 a b) = arg_v m c (at_ t a b) := by
  obtain ⟨-, -, -, e, -⟩ := idx t
  blk_ext [iblk, V, e, at_]

theorem out4 (X0 X1 X2 X3 : Vec Ideal S1x256x1024 .f32) (a : Fin 256) (b : Fin 1024) :
    out0_4 X0 X1 X2 X3 (ix3 0 a b) = delta (X0 (ix3 0 a b)) (X1 (ix3 0 a b)) (X2 (ix3 0 a b)) (X3 (ix3 0 a b)) := by
  rw [out0_4]
  frame_out
  unfold_payloads
  pointwise [delta, newM, newV]

theorem out5 (X0 X1 X2 X3 : Vec Ideal S1x256x1024 .f32) (a : Fin 256) (b : Fin 1024) :
    out0_5 X0 X1 X2 X3 (ix3 0 a b) = newM (X1 (ix3 0 a b)) (X2 (ix3 0 a b)) := by
  rw [out0_5]
  frame_out
  unfold_payloads
  pointwise [newM]

theorem out6 (X0 X1 X2 X3 : Vec Ideal S1x256x1024 .f32) (a : Fin 256) (b : Fin 1024) :
    out0_6 X0 X1 X2 X3 (ix3 0 a b) = newV (X1 (ix3 0 a b)) (X3 (ix3 0 a b)) := by
  rw [out0_6]
  frame_out
  unfold_payloads
  pointwise [newV]

theorem out7 (X0 X1 X2 X3 : Vec Ideal S1x256x1024 .f32) (a : Fin 256) (b : Fin 1024) :
    out0_7 X0 X1 X2 X3 (ix3 0 a b) = X1 (ix3 0 a b) := by
  rw [out0_7]
  frame_out
  unfold_payloads
  pointwise []

theorem arr4 (c : Dev nD) : (dats m 0 c).arrAt 4 cfg0.N = deltas (arg_w m c) (arg_g m c) (arg_m m c) (arg_v m c) := by
  refine (dats m 0 c).arrAt_eq_of_covers 4 _ (by decide +kernel) fun t hf y => ?_
  obtain ⟨-, -, -, -, e, -⟩ := idx t
  blk_simp
  rw [after0_4]
  idx_vars y
  obtain rfl : y0 = 0 := Fin.ext (by omega)
  have e' : ((cfg0.win 4).blk t).view.emb (ix3 0 y1 y2) = at_ t y1 y2 := by
    blk_ext [e, at_]
  rw [e']
  exact (out4 _ _ _ _ y1 y2).trans (by rw [blk0 m c t y1 y2, blk1 m c t y1 y2, blk2 m c t y1 y2, blk3 m c t y1 y2]; rfl)

theorem arr5 (c : Dev nD) : (dats m 0 c).arrAt 5 cfg0.N = newMs (arg_g m c) (arg_m m c) := by
  refine (dats m 0 c).arrAt_eq_of_covers 5 _ (by decide +kernel) fun t hf y => ?_
  obtain ⟨-, -, -, -, -, e, -⟩ := idx t
  blk_simp
  rw [after0_5]
  idx_vars y
  obtain rfl : y0 = 0 := Fin.ext (by omega)
  have e' : ((cfg0.win 5).blk t).view.emb (ix3 0 y1 y2) = at_ t y1 y2 := by
    blk_ext [e, at_]
  rw [e']
  exact (out5 _ _ _ _ y1 y2).trans (by rw [blk1 m c t y1 y2, blk2 m c t y1 y2]; rfl)

theorem arr6 (c : Dev nD) : (dats m 0 c).arrAt 6 cfg0.N = newVs (arg_g m c) (arg_v m c) := by
  refine (dats m 0 c).arrAt_eq_of_covers 6 _ (by decide +kernel) fun t hf y => ?_
  obtain ⟨-, -, -, -, -, -, e, -⟩ := idx t
  blk_simp
  rw [after0_6]
  idx_vars y
  obtain rfl : y0 = 0 := Fin.ext (by omega)
  have e' : ((cfg0.win 6).blk t).view.emb (ix3 0 y1 y2) = at_ t y1 y2 := by
    blk_ext [e, at_]
  rw [e']
  exact (out6 _ _ _ _ y1 y2).trans (by rw [blk1 m c t y1 y2, blk3 m c t y1 y2]; rfl)

theorem arr7 (c : Dev nD) : (dats m 0 c).arrAt 7 cfg0.N = arg_g m c := by
  refine (dats m 0 c).arrAt_eq_of_covers 7 _ (by decide +kernel) fun t hf y => ?_
  obtain ⟨-, -, -, -, -, -, -, e⟩ := idx t
  blk_simp
  rw [after0_7]
  idx_vars y
  obtain rfl : y0 = 0 := Fin.ext (by omega)
  have e' : ((cfg0.win 7).blk t).view.emb (ix3 0 y1 y2) = at_ t y1 y2 := by
    blk_ext [e, at_]
  rw [e']
  exact (out7 _ _ _ _ y1 y2).trans (by rw [blk1 m c t y1 y2])

/-- The run: the four arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (arg_w m c) (arg_g m c) (arg_m m c) (arg_v m c)
      ∧ r.2.mem ((c.tc : Thread nD τ).loc main_v0_1) = newMs (arg_g m c) (arg_m m c)
      ∧ r.2.mem ((c.tc : Thread nD τ).loc main_v0_2) = newVs (arg_g m c) (arg_v m c)
      ∧ r.2.mem ((c.tc : Thread nD τ).loc main_v0_3) = arg_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩) (Value.run_blocks m ρ)

end Cert.Kernel18Ideal.Points
end
-- ==== Proof.Adam18.lean ====
module

public import proofs.«01_k».proof.Defs
public import proofs.«01_k».proof.Proof.K18Value
public import proofs.«01_k».proof.Proof.Gen.Reference18Ideal.Run
public import Idealize.ShloMosaic.Lib.Pipeline.ValueKit

@[expose] public section

/-! The optimiser's step of the cross-attention's key and value projection is the same over the reals. -/

set_option maxRecDepth 16384
noncomputable section
namespace Cert.Adam18
open Cert.Adam Idealize.ShloMosaic Idealize.SL Idealize.SL.Sem

section
open Cert.Reference18Ideal Cert.Reference18Ideal.Facts₀ Cert.Reference18Ideal.Facts

/-- The reference's change of the weights. -/
theorem value_delta (w g m v : Arr 2 2048 1024) :
    mulf (broadcastInDim S2x2048x1024 ![] bcast_S_S2x2048x1024 (constant S_ .f32 0xBA83126F#32)) (addf (Host.divf (Host.divf (addf (mulf (broadcastInDim S2x2048x1024 ![] bcast_S_S2x2048x1024 (constant S_ .f32 0x3F666666#32)) m) (mulf (broadcastInDim S2x2048x1024 ![] bcast_S_S2x2048x1024 (constant S_ .f32 0x3DCCCCCD#32)) g)) (broadcastInDim S2x2048x1024 ![] bcast_S_S2x2048x1024 (constant S_ .f32 0x3F26BD02#32))) (addf (Host.sqrt (Host.divf (addf (mulf (broadcastInDim S2x2048x1024 ![] bcast_S_S2x2048x1024 (constant S_ .f32 0x3F7FBE77#32)) v) (mulf (broadcastInDim S2x2048x1024 ![] bcast_S_S2x2048x1024 (constant S_ .f32 0x3A83126F#32)) (mulf g g))) (broadcastInDim S2x2048x1024 ![] bcast_S_S2x2048x1024 (constant S_ .f32 0x3C231ACC#32)))) (broadcastInDim S2x2048x1024 ![] bcast_S_S2x2048x1024 (constant S_ .f32 0x322BCC77#32)))) (mulf (broadcastInDim S2x2048x1024 ![] bcast_S_S2x2048x1024 (constant S_ .f32 0x3C23D70A#32)) w)) = deltas w g m v := by
  funext i
  idx_vars i
  pointwise [deltas, delta, newM, newV]

/-- The reference's new first moments. -/
theorem value_m (g m : Arr 2 2048 1024) :
    addf (mulf (broadcastInDim S2x2048x1024 ![] bcast_S_S2x2048x1024 (constant S_ .f32 0x3F666666#32)) m) (mulf (broadcastInDim S2x2048x1024 ![] bcast_S_S2x2048x1024 (constant S_ .f32 0x3DCCCCCD#32)) g) = newMs g m := by
  funext i
  idx_vars i
  pointwise [newMs, newM]

/-- The reference's new second moments. -/
theorem value_v (g v : Arr 2 2048 1024) :
    addf (mulf (broadcastInDim S2x2048x1024 ![] bcast_S_S2x2048x1024 (constant S_ .f32 0x3F7FBE77#32)) v) (mulf (broadcastInDim S2x2048x1024 ![] bcast_S_S2x2048x1024 (constant S_ .f32 0x3A83126F#32)) (mulf g g)) = newVs g v := by
  funext i
  idx_vars i
  pointwise [newVs, newV]

end

/-- The reference program leaves its arguments as they were and every counter at zero. -/
theorem frame : Cert.quiescent_Reference18Ideal := fun m ρ _ =>
  (θ_run (Cert.Reference18Ideal.defs (F := Ideal)) _ _).mono (fun r h => ⟨fun c => (h c).2.2.2.2,
      Idealize.ShloMosaic.sem_eq_zero_of_no_sems (by decide) r.2⟩)
    (Cert.Reference18Ideal.Value.run (F := Ideal) m ρ)

/-- The optimiser's step of the cross-attention's key and value projection is the same over the reals. -/
theorem algebraic : Cert.algebraic_Kernel18Ideal_Reference18Ideal := by
  intro m ρ m' ρ' _ hagree
  refine ⟨fun c => deltas (Cert.Kernel18Ideal.Points.arg_w m c) (Cert.Kernel18Ideal.Points.arg_g m c) (Cert.Kernel18Ideal.Points.arg_m m c) (Cert.Kernel18Ideal.Points.arg_v m c), fun c => newMs (Cert.Kernel18Ideal.Points.arg_g m c) (Cert.Kernel18Ideal.Points.arg_m m c), fun c => newVs (Cert.Kernel18Ideal.Points.arg_g m c) (Cert.Kernel18Ideal.Points.arg_v m c), fun c => Cert.Kernel18Ideal.Points.arg_g m c,
    Cert.Kernel18Ideal.Points.run m ρ, (θ_run (Cert.Reference18Ideal.defs (F := Ideal)) _ _).mono (fun r h c => ⟨(h c).1.trans ?_, (h c).2.1.trans ?_, (h c).2.2.1.trans ?_, (h c).2.2.2.1.trans ?_, (h c).2.2.2.2⟩)
      (Cert.Reference18Ideal.Value.run (F := Ideal) m' ρ')⟩
  · rw [(hagree c).1, (hagree c).2.1, (hagree c).2.2.1, (hagree c).2.2.2]
    exact value_delta _ _ _ _
  · rw [(hagree c).2.1, (hagree c).2.2.1]
    exact value_m _ _
  · rw [(hagree c).2.1, (hagree c).2.2.2]
    exact value_v _ _
  · exact (hagree c).2.1

end Cert.Adam18
end
-- ==== Proof.K19Value.lean ====
module

public import proofs.«01_k».proof.Proof.Gen.Kernel19Ideal.Value
public import Idealize.ShloMosaic.Lib.Pipeline.ValueKit
public import proofs.«01_k».proof.Proof.Adam

@[expose] public section

/-! What the optimiser's call leaves for the small weights, packed. -/

set_option maxRecDepth 16384
noncomputable section
namespace Cert.Kernel19Ideal.Points
open Idealize.ShloMosaic Idealize.SL Idealize.SL.Sem Idealize.ShloMosaic.Pipeline
open Cert.Kernel19Ideal Cert.Kernel19Ideal.Gen
open Cert.Adam

variable (m : (ℓ : Loc nD τ sig) → Buf (Elt Ideal) ℓ)

/-- Which block of each array point `t` reads and writes. -/
theorem idx : ∀ t : Fin cfg0.N, (win0_0.index t = ![t.val / 1, t.val % 1, 0]
    ∧ win0_1.index t = ![t.val / 1, t.val % 1, 0]
    ∧ win0_2.index t = ![t.val / 1, t.val % 1, 0]
    ∧ win0_3.index t = ![t.val / 1, t.val % 1, 0]
    ∧ win0_4.index t = ![t.val / 1, t.val % 1, 0]
    ∧ win0_5.index t = ![t.val / 1, t.val % 1, 0]
    ∧ win0_6.index t = ![t.val / 1, t.val % 1, 0]
    ∧ win0_7.index t = ![t.val / 1, t.val % 1, 0]) :=
  (by decide +kernel : ∀ t : Fin grid0.N, _)

/-- The arguments, by name. -/
abbrev arg_w (c : Dev nD) : Arr 1 200 128 := m ((c.tc : Thread nD τ).loc main_arg0)
abbrev arg_g (c : Dev nD) : Arr 1 200 128 := m ((c.tc : Thread nD τ).loc main_arg1)
abbrev arg_m (c : Dev nD) : Arr 1 200 128 := m ((c.tc : Thread nD τ).loc main_arg2)
abbrev arg_v (c : Dev nD) : Arr 1 200 128 := m ((c.tc : Thread nD τ).loc main_arg3)

/-- The entry of the arrays that the entry `(a, b)` of a block of point `t` is. -/
abbrev at_ (t : Fin cfg0.N) (a : Fin 200) (b : Fin 128) : (⟨3, ![1, 200, 128]⟩ : Shape).Idx :=
  ix3 (⟨t.val / 1, by have : t.val < 1 := t.isLt; omega⟩ : Fin 1) (⟨200 * (t.val % 1) + a.val, by omega⟩ : Fin 200) b

theorem blk0 (c : Dev nD) (t : Fin cfg0.N) (a : Fin 200) (b : Fin 128) : iblk m c 0 t (ix3 0 a b) = arg_w m c (at_ t a b) := by
  obtain ⟨e, -⟩ := idx t
  blk_ext [iblk, V, e, at_]

theorem blk1 (c : Dev nD) (t : Fin cfg0.N) (a : Fin 200) (b : Fin 128) : iblk m c 1 t (ix3 0 a b) = arg_g m c (at_ t a b) := by
  obtain ⟨-, e, -⟩ := idx t
  blk_ext [iblk, V, e, at_]

theorem blk2 (c : Dev nD) (t : Fin cfg0.N) (a : Fin 200) (b : Fin 128) : iblk m c 2 t (ix3 0 a b) = arg_m m c (at_ t a b) := by
  obtain ⟨-, -, e, -⟩ := idx t
  blk_ext [iblk, V, e, at_]

theorem blk3 (c : Dev nD) (t : Fin cfg0.N) (a : Fin 200) (b : Fin 128) : iblk m c 3 t (ix3 0 a b) = arg_v m c (at_ t a b) := by
  obtain ⟨-, -, -, e, -⟩ := idx t
  blk_ext [iblk, V, e, at_]

theorem out4 (X0 X1 X2 X3 : Vec Ideal S1x200x128 .f32) (a : Fin 200) (b : Fin 128) :
    out0_4 X0 X1 X2 X3 (ix3 0 a b) = delta (X0 (ix3 0 a b)) (X1 (ix3 0 a b)) (X2 (ix3 0 a b)) (X3 (ix3 0 a b)) := by
  rw [out0_4]
  frame_out
  unfold_payloads
  pointwise [delta, newM, newV]

theorem out5 (X0 X1 X2 X3 : Vec Ideal S1x200x128 .f32) (a : Fin 200) (b : Fin 128) :
    out0_5 X0 X1 X2 X3 (ix3 0 a b) = newM (X1 (ix3 0 a b)) (X2 (ix3 0 a b)) := by
  rw [out0_5]
  frame_out
  unfold_payloads
  pointwise [newM]

theorem out6 (X0 X1 X2 X3 : Vec Ideal S1x200x128 .f32) (a : Fin 200) (b : Fin 128) :
    out0_6 X0 X1 X2 X3 (ix3 0 a b) = newV (X1 (ix3 0 a b)) (X3 (ix3 0 a b)) := by
  rw [out0_6]
  frame_out
  unfold_payloads
  pointwise [newV]

theorem out7 (X0 X1 X2 X3 : Vec Ideal S1x200x128 .f32) (a : Fin 200) (b : Fin 128) :
    out0_7 X0 X1 X2 X3 (ix3 0 a b) = X1 (ix3 0 a b) := by
  rw [out0_7]
  frame_out
  unfold_payloads
  pointwise []

theorem arr4 (c : Dev nD) : (dats m 0 c).arrAt 4 cfg0.N = deltas (arg_w m c) (arg_g m c) (arg_m m c) (arg_v m c) := by
  refine (dats m 0 c).arrAt_eq_of_covers 4 _ (by decide +kernel) fun t hf y => ?_
  obtain ⟨-, -, -, -, e, -⟩ := idx t
  blk_simp
  rw [after0_4]
  idx_vars y
  obtain rfl : y0 = 0 := Fin.ext (by omega)
  have e' : ((cfg0.win 4).blk t).view.emb (ix3 0 y1 y2) = at_ t y1 y2 := by
    blk_ext [e, at_]
  rw [e']
  exact (out4 _ _ _ _ y1 y2).trans (by rw [blk0 m c t y1 y2, blk1 m c t y1 y2, blk2 m c t y1 y2, blk3 m c t y1 y2]; rfl)

theorem arr5 (c : Dev nD) : (dats m 0 c).arrAt 5 cfg0.N = newMs (arg_g m c) (arg_m m c) := by
  refine (dats m 0 c).arrAt_eq_of_covers 5 _ (by decide +kernel) fun t hf y => ?_
  obtain ⟨-, -, -, -, -, e, -⟩ := idx t
  blk_simp
  rw [after0_5]
  idx_vars y
  obtain rfl : y0 = 0 := Fin.ext (by omega)
  have e' : ((cfg0.win 5).blk t).view.emb (ix3 0 y1 y2) = at_ t y1 y2 := by
    blk_ext [e, at_]
  rw [e']
  exact (out5 _ _ _ _ y1 y2).trans (by rw [blk1 m c t y1 y2, blk2 m c t y1 y2]; rfl)

theorem arr6 (c : Dev nD) : (dats m 0 c).arrAt 6 cfg0.N = newVs (arg_g m c) (arg_v m c) := by
  refine (dats m 0 c).arrAt_eq_of_covers 6 _ (by decide +kernel) fun t hf y => ?_
  obtain ⟨-, -, -, -, -, -, e, -⟩ := idx t
  blk_simp
  rw [after0_6]
  idx_vars y
  obtain rfl : y0 = 0 := Fin.ext (by omega)
  have e' : ((cfg0.win 6).blk t).view.emb (ix3 0 y1 y2) = at_ t y1 y2 := by
    blk_ext [e, at_]
  rw [e']
  exact (out6 _ _ _ _ y1 y2).trans (by rw [blk1 m c t y1 y2, blk3 m c t y1 y2]; rfl)

theorem arr7 (c : Dev nD) : (dats m 0 c).arrAt 7 cfg0.N = arg_g m c := by
  refine (dats m 0 c).arrAt_eq_of_covers 7 _ (by decide +kernel) fun t hf y => ?_
  obtain ⟨-, -, -, -, -, -, -, e⟩ := idx t
  blk_simp
  rw [after0_7]
  idx_vars y
  obtain rfl : y0 = 0 := Fin.ext (by omega)
  have e' : ((cfg0.win 7).blk t).view.emb (ix3 0 y1 y2) = at_ t y1 y2 := by
    blk_ext [e, at_]
  rw [e']
  exact (out7 _ _ _ _ y1 y2).trans (by rw [blk1 m c t y1 y2])

/-- The run: the four arrays it leaves, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = deltas (arg_w m c) (arg_g m c) (arg_m m c) (arg_v m c)
      ∧ r.2.mem ((c.tc : Thread nD τ).loc main_v0_1) = newMs (arg_g m c) (arg_m m c)
      ∧ r.2.mem ((c.tc : Thread nD τ).loc main_v0_2) = newVs (arg_g m c) (arg_v m c)
      ∧ r.2.mem ((c.tc : Thread nD τ).loc main_v0_3) = arg_g m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩) (Value.run_blocks m ρ)

end Cert.Kernel19Ideal.Points
end
-- ==== Proof.Adam19.lean ====
module

public import proofs.«01_k».proof.Defs
public import proofs.«01_k».proof.Proof.K19Value
public import proofs.«01_k».proof.Proof.Gen.Reference19Ideal.Run
public import Idealize.ShloMosaic.Lib.Pipeline.ValueKit

@[expose] public section

/-! The optimiser's step of the small weights, packed is the same over the reals. -/

set_option maxRecDepth 16384
noncomputable section
namespace Cert.Adam19
open Cert.Adam Idealize.ShloMosaic Idealize.SL Idealize.SL.Sem

section
open Cert.Reference19Ideal Cert.Reference19Ideal.Facts₀ Cert.Reference19Ideal.Facts

/-- The reference's change of the weights. -/
theorem value_delta (w g m v : Arr 1 200 128) :
    mulf (broadcastInDim S1x200x128 ![] bcast_S_S1x200x128 (constant S_ .f32 0xBA83126F#32)) (addf (Host.divf (Host.divf (addf (mulf (broadcastInDim S1x200x128 ![] bcast_S_S1x200x128 (constant S_ .f32 0x3F666666#32)) m) (mulf (broadcastInDim S1x200x128 ![] bcast_S_S1x200x128 (constant S_ .f32 0x3DCCCCCD#32)) g)) (broadcastInDim S1x200x128 ![] bcast_S_S1x200x128 (constant S_ .f32 0x3F26BD02#32))) (addf (Host.sqrt (Host.divf (addf (mulf (broadcastInDim S1x200x128 ![] bcast_S_S1x200x128 (constant S_ .f32 0x3F7FBE77#32)) v) (mulf (broadcastInDim S1x200x128 ![] bcast_S_S1x200x128 (constant S_ .f32 0x3A83126F#32)) (mulf g g))) (broadcastInDim S1x200x128 ![] bcast_S_S1x200x128 (constant S_ .f32 0x3C231ACC#32)))) (broadcastInDim S1x200x128 ![] bcast_S_S1x200x128 (constant S_ .f32 0x322BCC77#32)))) (mulf (broadcastInDim S1x200x128 ![] bcast_S_S1x200x128 (constant S_ .f32 0x3C23D70A#32)) w)) = deltas w g m v := by
  funext i
  idx_vars i
  pointwise [deltas, delta, newM, newV]

/-- The reference's new first moments. -/
theorem value_m (g m : Arr 1 200 128) :
    addf (mulf (broadcastInDim S1x200x128 ![] bcast_S_S1x200x128 (constant S_ .f32 0x3F666666#32)) m) (mulf (broadcastInDim S1x200x128 ![] bcast_S_S1x200x128 (constant S_ .f32 0x3DCCCCCD#32)) g) = newMs g m := by
  funext i
  idx_vars i
  pointwise [newMs, newM]

/-- The reference's new second moments. -/
theorem value_v (g v : Arr 1 200 128) :
    addf (mulf (broadcastInDim S1x200x128 ![] bcast_S_S1x200x128 (constant S_ .f32 0x3F7FBE77#32)) v) (mulf (broadcastInDim S1x200x128 ![] bcast_S_S1x200x128 (constant S_ .f32 0x3A83126F#32)) (mulf g g)) = newVs g v := by
  funext i
  idx_vars i
  pointwise [newVs, newV]

end

/-- The reference program leaves its arguments as they were and every counter at zero. -/
theorem frame : Cert.quiescent_Reference19Ideal := fun m ρ _ =>
  (θ_run (Cert.Reference19Ideal.defs (F := Ideal)) _ _).mono (fun r h => ⟨fun c => (h c).2.2.2.2,
      Idealize.ShloMosaic.sem_eq_zero_of_no_sems (by decide) r.2⟩)
    (Cert.Reference19Ideal.Value.run (F := Ideal) m ρ)

/-- The optimiser's step of the small weights, packed is the same over the reals. -/
theorem algebraic : Cert.algebraic_Kernel19Ideal_Reference19Ideal := by
  intro m ρ m' ρ' _ hagree
  refine ⟨fun c => deltas (Cert.Kernel19Ideal.Points.arg_w m c) (Cert.Kernel19Ideal.Points.arg_g m c) (Cert.Kernel19Ideal.Points.arg_m m c) (Cert.Kernel19Ideal.Points.arg_v m c), fun c => newMs (Cert.Kernel19Ideal.Points.arg_g m c) (Cert.Kernel19Ideal.Points.arg_m m c), fun c => newVs (Cert.Kernel19Ideal.Points.arg_g m c) (Cert.Kernel19Ideal.Points.arg_v m c), fun c => Cert.Kernel19Ideal.Points.arg_g m c,
    Cert.Kernel19Ideal.Points.run m ρ, (θ_run (Cert.Reference19Ideal.defs (F := Ideal)) _ _).mono (fun r h c => ⟨(h c).1.trans ?_, (h c).2.1.trans ?_, (h c).2.2.1.trans ?_, (h c).2.2.2.1.trans ?_, (h c).2.2.2.2⟩)
      (Cert.Reference19Ideal.Value.run (F := Ideal) m' ρ')⟩
  · rw [(hagree c).1, (hagree c).2.1, (hagree c).2.2.1, (hagree c).2.2.2]
    exact value_delta _ _ _ _
  · rw [(hagree c).2.1, (hagree c).2.2.1]
    exact value_m _ _
  · rw [(hagree c).2.1, (hagree c).2.2.2]
    exact value_v _ _
  · exact (hagree c).2.1

end Cert.Adam19
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Step
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Backward
public import proofs.«01_k».proof.Proof.Forward
public import proofs.«01_k».proof.Proof.Ffn3
public import proofs.«01_k».proof.Proof.Ffn4
public import proofs.«01_k».proof.Proof.Ffn5
public import proofs.«01_k».proof.Proof.Ffn6
public import proofs.«01_k».proof.Proof.Ffn7
public import proofs.«01_k».proof.Proof.Ffn8
public import proofs.«01_k».proof.Proof.Mix9
public import proofs.«01_k».proof.Proof.Mix10
public import proofs.«01_k».proof.Proof.Norm11
public import proofs.«01_k».proof.Proof.Adam12
public import proofs.«01_k».proof.Proof.Adam13
public import proofs.«01_k».proof.Proof.Adam14
public import proofs.«01_k».proof.Proof.Adam15
public import proofs.«01_k».proof.Proof.Adam16
public import proofs.«01_k».proof.Proof.Adam17
public import proofs.«01_k».proof.Proof.Adam18
public import proofs.«01_k».proof.Proof.Adam19
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  fun m ρ _ => Cert.Kernel.Gen.frame m ρ, fun m ρ _ => Cert.KernelIdeal.Gen.frame m ρ, Cert.Backward.frame,
  fun m ρ _ => Cert.Kernel2.Gen.frame m ρ, fun m ρ _ => Cert.Kernel2Ideal.Gen.frame m ρ, Cert.Forward.frame,
  fun m ρ _ => Cert.Kernel3.Gen.frame m ρ, fun m ρ _ => Cert.Kernel3Ideal.Gen.frame m ρ, Cert.Ffn3.frame,
  fun m ρ _ => Cert.Kernel4.Gen.frame m ρ, fun m ρ _ => Cert.Kernel4Ideal.Gen.frame m ρ, Cert.Ffn4.frame,
  fun m ρ _ => Cert.Kernel5.Gen.frame m ρ, fun m ρ _ => Cert.Kernel5Ideal.Gen.frame m ρ, Cert.Ffn5.frame,
  fun m ρ _ => Cert.Kernel6.Gen.frame m ρ, fun m ρ _ => Cert.Kernel6Ideal.Gen.frame m ρ, Cert.Ffn6.frame,
  fun m ρ _ => Cert.Kernel7.Gen.frame m ρ, fun m ρ _ => Cert.Kernel7Ideal.Gen.frame m ρ, Cert.Ffn7.frame,
  fun m ρ _ => Cert.Kernel8.Gen.frame m ρ, fun m ρ _ => Cert.Kernel8Ideal.Gen.frame m ρ, Cert.Ffn8.frame,
  fun m ρ _ => Cert.Kernel9.Gen.frame m ρ, fun m ρ _ => Cert.Kernel9Ideal.Gen.frame m ρ, Cert.Mix9.frame,
  fun m ρ _ => Cert.Kernel10.Gen.frame m ρ, fun m ρ _ => Cert.Kernel10Ideal.Gen.frame m ρ, Cert.Mix10.frame,
  fun m ρ _ => Cert.Kernel11.Gen.frame m ρ, fun m ρ _ => Cert.Kernel11Ideal.Gen.frame m ρ, Cert.Norm11.frame,
  fun m ρ _ => Cert.Kernel12.Gen.frame m ρ, fun m ρ _ => Cert.Kernel12Ideal.Gen.frame m ρ, Cert.Adam12.frame,
  fun m ρ _ => Cert.Kernel13.Gen.frame m ρ, fun m ρ _ => Cert.Kernel13Ideal.Gen.frame m ρ, Cert.Adam13.frame,
  fun m ρ _ => Cert.Kernel14.Gen.frame m ρ, fun m ρ _ => Cert.Kernel14Ideal.Gen.frame m ρ, Cert.Adam14.frame,
  fun m ρ _ => Cert.Kernel15.Gen.frame m ρ, fun m ρ _ => Cert.Kernel15Ideal.Gen.frame m ρ, Cert.Adam15.frame,
  fun m ρ _ => Cert.Kernel16.Gen.frame m ρ, fun m ρ _ => Cert.Kernel16Ideal.Gen.frame m ρ, Cert.Adam16.frame,
  fun m ρ _ => Cert.Kernel17.Gen.frame m ρ, fun m ρ _ => Cert.Kernel17Ideal.Gen.frame m ρ, Cert.Adam17.frame,
  fun m ρ _ => Cert.Kernel18.Gen.frame m ρ, fun m ρ _ => Cert.Kernel18Ideal.Gen.frame m ρ, Cert.Adam18.frame,
  fun m ρ _ => Cert.Kernel19.Gen.frame m ρ, fun m ρ _ => Cert.Kernel19Ideal.Gen.frame m ρ, Cert.Adam19.frame,
  trivial, Cert.Backward.algebraic,
  trivial, Cert.Forward.algebraic,
  trivial, Cert.Ffn3.algebraic,
  trivial, Cert.Ffn4.algebraic,
  trivial, Cert.Ffn5.algebraic,
  trivial, Cert.Ffn6.algebraic,
  trivial, Cert.Ffn7.algebraic,
  trivial, Cert.Ffn8.algebraic,
  trivial, Cert.Mix9.algebraic,
  trivial, Cert.Mix10.algebraic,
  trivial, Cert.Norm11.algebraic,
  trivial, Cert.Adam12.algebraic,
  trivial, Cert.Adam13.algebraic,
  trivial, Cert.Adam14.algebraic,
  trivial, Cert.Adam15.algebraic,
  trivial, Cert.Adam16.algebraic,
  trivial, Cert.Adam17.algebraic,
  trivial, Cert.Adam18.algebraic,
  trivial, Cert.Adam19.algebraic⟩

end Cert.Proof

end
